-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_TcKernel (m : (ℓ : Loc Cert.TcKernel.nD Cert.TcKernel.τ Cert.TcKernel.sig) → Buf (Elt Bits) ℓ) : Prop :=
  True

def Pre_TcKernelIdeal (m : (ℓ : Loc Cert.TcKernelIdeal.nD Cert.TcKernelIdeal.τ Cert.TcKernelIdeal.sig) → Buf (Elt Ideal) ℓ) : Prop :=
  True

def Pre_TcKernelIdeal_xyz_finite [hPre_xyz_finite : Cert.Pre_xyz_finite.Facts] (m : (ℓ : Loc Cert.TcKernelIdeal.nD Cert.TcKernelIdeal.τ Cert.TcKernelIdeal.sig) → Buf (Elt Ideal) ℓ) : Prop :=
  ∀ c : Dev Cert.TcKernelIdeal.nD,
    (Cert.Pre_xyz_finite.fn (F := Ideal) (m ((c.tc : Thread Cert.TcKernelIdeal.nD Cert.TcKernelIdeal.τ).loc Cert.TcKernelIdeal.main_arg0)) (m ((c.tc : Thread Cert.TcKernelIdeal.nD Cert.TcKernelIdeal.τ).loc Cert.TcKernelIdeal.main_arg1)) (m ((c.tc : Thread Cert.TcKernelIdeal.nD Cert.TcKernelIdeal.τ).loc Cert.TcKernelIdeal.main_arg2)) (m ((c.tc : Thread Cert.TcKernelIdeal.nD Cert.TcKernelIdeal.τ).loc Cert.TcKernelIdeal.main_arg3)) (m ((c.tc : Thread Cert.TcKernelIdeal.nD Cert.TcKernelIdeal.τ).loc Cert.TcKernelIdeal.main_arg4))) = (fun _ => 1#1)

def Pre_TcReferenceIdeal (m : (ℓ : Loc Cert.TcReferenceIdeal.nD Cert.TcReferenceIdeal.τ Cert.TcReferenceIdeal.sig) → Buf (Elt Ideal) ℓ) : Prop :=
  True

def Pre_TcReferenceIdeal_xyz_finite [hPre_xyz_finite : Cert.Pre_xyz_finite.Facts] (m : (ℓ : Loc Cert.TcReferenceIdeal.nD Cert.TcReferenceIdeal.τ Cert.TcReferenceIdeal.sig) → Buf (Elt Ideal) ℓ) : Prop :=
  ∀ c : Dev Cert.TcReferenceIdeal.nD,
    (Cert.Pre_xyz_finite.fn (F := Ideal) (m ((c.tc : Thread Cert.TcReferenceIdeal.nD Cert.TcReferenceIdeal.τ).loc Cert.TcReferenceIdeal.main_arg0)) (m ((c.tc : Thread Cert.TcReferenceIdeal.nD Cert.TcReferenceIdeal.τ).loc Cert.TcReferenceIdeal.main_arg1)) (m ((c.tc : Thread Cert.TcReferenceIdeal.nD Cert.TcReferenceIdeal.τ).loc Cert.TcReferenceIdeal.main_arg2)) (m ((c.tc : Thread Cert.TcReferenceIdeal.nD Cert.TcReferenceIdeal.τ).loc Cert.TcReferenceIdeal.main_arg3)) (m ((c.tc : Thread Cert.TcReferenceIdeal.nD Cert.TcReferenceIdeal.τ).loc Cert.TcReferenceIdeal.main_arg4))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_TcKernel [hTcKernel : Cert.TcKernel.Facts] : Prop :=
  ∀ (m : (ℓ : Loc Cert.TcKernel.nD Cert.TcKernel.τ Cert.TcKernel.sig) → Buf (Elt Bits) ℓ) (g : Dev Cert.TcKernel.nD → PrngReg), Pre_TcKernel m →
    θ_run (Cert.TcKernel.defs (F := Bits)) (onTc (τ := Cert.TcKernel.τ) (Cert.TcKernel.main (F := Bits))) ⟨m, fun _ => 0, g⟩ (fun r => (∀ c : Dev Cert.TcKernel.nD,
      r.2.mem ((c.tc : Thread Cert.TcKernel.nD Cert.TcKernel.τ).loc Cert.TcKernel.main_arg0) = m ((c.tc : Thread Cert.TcKernel.nD Cert.TcKernel.τ).loc Cert.TcKernel.main_arg0)
      ∧ r.2.mem ((c.tc : Thread Cert.TcKernel.nD Cert.TcKernel.τ).loc Cert.TcKernel.main_arg1) = m ((c.tc : Thread Cert.TcKernel.nD Cert.TcKernel.τ).loc Cert.TcKernel.main_arg1)
      ∧ r.2.mem ((c.tc : Thread Cert.TcKernel.nD Cert.TcKernel.τ).loc Cert.TcKernel.main_arg2) = m ((c.tc : Thread Cert.TcKernel.nD Cert.TcKernel.τ).loc Cert.TcKernel.main_arg2)
      ∧ r.2.mem ((c.tc : Thread Cert.TcKernel.nD Cert.TcKernel.τ).loc Cert.TcKernel.main_arg3) = m ((c.tc : Thread Cert.TcKernel.nD Cert.TcKernel.τ).loc Cert.TcKernel.main_arg3)
      ∧ r.2.mem ((c.tc : Thread Cert.TcKernel.nD Cert.TcKernel.τ).loc Cert.TcKernel.main_arg4) = m ((c.tc : Thread Cert.TcKernel.nD Cert.TcKernel.τ).loc Cert.TcKernel.main_arg4))
      ∧ r.2.sem = fun _ => 0)

def quiescent_TcKernelIdeal [hTcKernelIdeal : Cert.TcKernelIdeal.Facts] : Prop :=
  ∀ (m : (ℓ : Loc Cert.TcKernelIdeal.nD Cert.TcKernelIdeal.τ Cert.TcKernelIdeal.sig) → Buf (Elt Ideal) ℓ) (g : Dev Cert.TcKernelIdeal.nD → PrngReg), Pre_TcKernelIdeal m →
    θ_run (Cert.TcKernelIdeal.defs (F := Ideal)) (onTc (τ := Cert.TcKernelIdeal.τ) (Cert.TcKernelIdeal.main (F := Ideal))) ⟨m, fun _ => 0, g⟩ (fun r => (∀ c : Dev Cert.TcKernelIdeal.nD,
      r.2.mem ((c.tc : Thread Cert.TcKernelIdeal.nD Cert.TcKernelIdeal.τ).loc Cert.TcKernelIdeal.main_arg0) = m ((c.tc : Thread Cert.TcKernelIdeal.nD Cert.TcKernelIdeal.τ).loc Cert.TcKernelIdeal.main_arg0)
      ∧ r.2.mem ((c.tc : Thread Cert.TcKernelIdeal.nD Cert.TcKernelIdeal.τ).loc Cert.TcKernelIdeal.main_arg1) = m ((c.tc : Thread Cert.TcKernelIdeal.nD Cert.TcKernelIdeal.τ).loc Cert.TcKernelIdeal.main_arg1)
      ∧ r.2.mem ((c.tc : Thread Cert.TcKernelIdeal.nD Cert.TcKernelIdeal.τ).loc Cert.TcKernelIdeal.main_arg2) = m ((c.tc : Thread Cert.TcKernelIdeal.nD Cert.TcKernelIdeal.τ).loc Cert.TcKernelIdeal.main_arg2)
      ∧ r.2.mem ((c.tc : Thread Cert.TcKernelIdeal.nD Cert.TcKernelIdeal.τ).loc Cert.TcKernelIdeal.main_arg3) = m ((c.tc : Thread Cert.TcKernelIdeal.nD Cert.TcKernelIdeal.τ).loc Cert.TcKernelIdeal.main_arg3)
      ∧ r.2.mem ((c.tc : Thread Cert.TcKernelIdeal.nD Cert.TcKernelIdeal.τ).loc Cert.TcKernelIdeal.main_arg4) = m ((c.tc : Thread Cert.TcKernelIdeal.nD Cert.TcKernelIdeal.τ).loc Cert.TcKernelIdeal.main_arg4))
      ∧ r.2.sem = fun _ => 0)

def quiescent_TcKernelIdeal_pre_xyz_finite [hTcKernelIdeal : Cert.TcKernelIdeal.Facts] [hPre_xyz_finite : Cert.Pre_xyz_finite.Facts] : Prop :=
  ∀ (m : (ℓ : Loc Cert.TcKernelIdeal.nD Cert.TcKernelIdeal.τ Cert.TcKernelIdeal.sig) → Buf (Elt Ideal) ℓ) (g : Dev Cert.TcKernelIdeal.nD → PrngReg), Pre_TcKernelIdeal_xyz_finite m →
    θ_run (Cert.TcKernelIdeal.defs (F := Ideal)) (onTc (τ := Cert.TcKernelIdeal.τ) (Cert.TcKernelIdeal.main (F := Ideal))) ⟨m, fun _ => 0, g⟩ (fun r => (∀ c : Dev Cert.TcKernelIdeal.nD,
      r.2.mem ((c.tc : Thread Cert.TcKernelIdeal.nD Cert.TcKernelIdeal.τ).loc Cert.TcKernelIdeal.main_arg0) = m ((c.tc : Thread Cert.TcKernelIdeal.nD Cert.TcKernelIdeal.τ).loc Cert.TcKernelIdeal.main_arg0)
      ∧ r.2.mem ((c.tc : Thread Cert.TcKernelIdeal.nD Cert.TcKernelIdeal.τ).loc Cert.TcKernelIdeal.main_arg1) = m ((c.tc : Thread Cert.TcKernelIdeal.nD Cert.TcKernelIdeal.τ).loc Cert.TcKernelIdeal.main_arg1)
      ∧ r.2.mem ((c.tc : Thread Cert.TcKernelIdeal.nD Cert.TcKernelIdeal.τ).loc Cert.TcKernelIdeal.main_arg2) = m ((c.tc : Thread Cert.TcKernelIdeal.nD Cert.TcKernelIdeal.τ).loc Cert.TcKernelIdeal.main_arg2)
      ∧ r.2.mem ((c.tc : Thread Cert.TcKernelIdeal.nD Cert.TcKernelIdeal.τ).loc Cert.TcKernelIdeal.main_arg3) = m ((c.tc : Thread Cert.TcKernelIdeal.nD Cert.TcKernelIdeal.τ).loc Cert.TcKernelIdeal.main_arg3)
      ∧ r.2.mem ((c.tc : Thread Cert.TcKernelIdeal.nD Cert.TcKernelIdeal.τ).loc Cert.TcKernelIdeal.main_arg4) = m ((c.tc : Thread Cert.TcKernelIdeal.nD Cert.TcKernelIdeal.τ).loc Cert.TcKernelIdeal.main_arg4))
      ∧ r.2.sem = fun _ => 0)

def quiescent_TcReferenceIdeal [hTcReferenceIdeal : Cert.TcReferenceIdeal.Facts] : Prop :=
  ∀ (m : (ℓ : Loc Cert.TcReferenceIdeal.nD Cert.TcReferenceIdeal.τ Cert.TcReferenceIdeal.sig) → Buf (Elt Ideal) ℓ) (g : Dev Cert.TcReferenceIdeal.nD → PrngReg), Pre_TcReferenceIdeal m →
    θ_run (Cert.TcReferenceIdeal.defs (F := Ideal)) (onTc (τ := Cert.TcReferenceIdeal.τ) (Cert.TcReferenceIdeal.main (F := Ideal))) ⟨m, fun _ => 0, g⟩ (fun r => (∀ c : Dev Cert.TcReferenceIdeal.nD,
      r.2.mem ((c.tc : Thread Cert.TcReferenceIdeal.nD Cert.TcReferenceIdeal.τ).loc Cert.TcReferenceIdeal.main_arg0) = m ((c.tc : Thread Cert.TcReferenceIdeal.nD Cert.TcReferenceIdeal.τ).loc Cert.TcReferenceIdeal.main_arg0)
      ∧ r.2.mem ((c.tc : Thread Cert.TcReferenceIdeal.nD Cert.TcReferenceIdeal.τ).loc Cert.TcReferenceIdeal.main_arg1) = m ((c.tc : Thread Cert.TcReferenceIdeal.nD Cert.TcReferenceIdeal.τ).loc Cert.TcReferenceIdeal.main_arg1)
      ∧ r.2.mem ((c.tc : Thread Cert.TcReferenceIdeal.nD Cert.TcReferenceIdeal.τ).loc Cert.TcReferenceIdeal.main_arg2) = m ((c.tc : Thread Cert.TcReferenceIdeal.nD Cert.TcReferenceIdeal.τ).loc Cert.TcReferenceIdeal.main_arg2)
      ∧ r.2.mem ((c.tc : Thread Cert.TcReferenceIdeal.nD Cert.TcReferenceIdeal.τ).loc Cert.TcReferenceIdeal.main_arg3) = m ((c.tc : Thread Cert.TcReferenceIdeal.nD Cert.TcReferenceIdeal.τ).loc Cert.TcReferenceIdeal.main_arg3)
      ∧ r.2.mem ((c.tc : Thread Cert.TcReferenceIdeal.nD Cert.TcReferenceIdeal.τ).loc Cert.TcReferenceIdeal.main_arg4) = m ((c.tc : Thread Cert.TcReferenceIdeal.nD Cert.TcReferenceIdeal.τ).loc Cert.TcReferenceIdeal.main_arg4))
      ∧ r.2.sem = fun _ => 0)

def quiescent_TcReferenceIdeal_pre_xyz_finite [hTcReferenceIdeal : Cert.TcReferenceIdeal.Facts] [hPre_xyz_finite : Cert.Pre_xyz_finite.Facts] : Prop :=
  ∀ (m : (ℓ : Loc Cert.TcReferenceIdeal.nD Cert.TcReferenceIdeal.τ Cert.TcReferenceIdeal.sig) → Buf (Elt Ideal) ℓ) (g : Dev Cert.TcReferenceIdeal.nD → PrngReg), Pre_TcReferenceIdeal_xyz_finite m →
    θ_run (Cert.TcReferenceIdeal.defs (F := Ideal)) (onTc (τ := Cert.TcReferenceIdeal.τ) (Cert.TcReferenceIdeal.main (F := Ideal))) ⟨m, fun _ => 0, g⟩ (fun r => (∀ c : Dev Cert.TcReferenceIdeal.nD,
      r.2.mem ((c.tc : Thread Cert.TcReferenceIdeal.nD Cert.TcReferenceIdeal.τ).loc Cert.TcReferenceIdeal.main_arg0) = m ((c.tc : Thread Cert.TcReferenceIdeal.nD Cert.TcReferenceIdeal.τ).loc Cert.TcReferenceIdeal.main_arg0)
      ∧ r.2.mem ((c.tc : Thread Cert.TcReferenceIdeal.nD Cert.TcReferenceIdeal.τ).loc Cert.TcReferenceIdeal.main_arg1) = m ((c.tc : Thread Cert.TcReferenceIdeal.nD Cert.TcReferenceIdeal.τ).loc Cert.TcReferenceIdeal.main_arg1)
      ∧ r.2.mem ((c.tc : Thread Cert.TcReferenceIdeal.nD Cert.TcReferenceIdeal.τ).loc Cert.TcReferenceIdeal.main_arg2) = m ((c.tc : Thread Cert.TcReferenceIdeal.nD Cert.TcReferenceIdeal.τ).loc Cert.TcReferenceIdeal.main_arg2)
      ∧ r.2.mem ((c.tc : Thread Cert.TcReferenceIdeal.nD Cert.TcReferenceIdeal.τ).loc Cert.TcReferenceIdeal.main_arg3) = m ((c.tc : Thread Cert.TcReferenceIdeal.nD Cert.TcReferenceIdeal.τ).loc Cert.TcReferenceIdeal.main_arg3)
      ∧ r.2.mem ((c.tc : Thread Cert.TcReferenceIdeal.nD Cert.TcReferenceIdeal.τ).loc Cert.TcReferenceIdeal.main_arg4) = m ((c.tc : Thread Cert.TcReferenceIdeal.nD Cert.TcReferenceIdeal.τ).loc Cert.TcReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_TcKernel_TcKernelIdeal : Prop :=
  True

def algebraic_TcKernelIdeal_TcReferenceIdeal_pre_xyz_finite [hTcKernelIdeal : Cert.TcKernelIdeal.Facts] [hTcReferenceIdeal : Cert.TcReferenceIdeal.Facts] [hPre_xyz_finite : Cert.Pre_xyz_finite.Facts] : Prop :=
  ∀ (m : (ℓ : Loc Cert.TcKernelIdeal.nD Cert.TcKernelIdeal.τ Cert.TcKernelIdeal.sig) → Buf (Elt Ideal) ℓ) (g : Dev Cert.TcKernelIdeal.nD → PrngReg)
    (m' : (ℓ : Loc Cert.TcReferenceIdeal.nD Cert.TcReferenceIdeal.τ Cert.TcReferenceIdeal.sig) → Buf (Elt Ideal) ℓ) (g' : Dev Cert.TcReferenceIdeal.nD → PrngReg), Pre_TcKernelIdeal_xyz_finite m →
    (∀ c : Dev Cert.TcKernelIdeal.nD,
      m' ((c.tc : Thread Cert.TcReferenceIdeal.nD Cert.TcReferenceIdeal.τ).loc Cert.TcReferenceIdeal.main_arg0) = m ((c.tc : Thread Cert.TcKernelIdeal.nD Cert.TcKernelIdeal.τ).loc Cert.TcKernelIdeal.main_arg0)
      ∧ m' ((c.tc : Thread Cert.TcReferenceIdeal.nD Cert.TcReferenceIdeal.τ).loc Cert.TcReferenceIdeal.main_arg1) = m ((c.tc : Thread Cert.TcKernelIdeal.nD Cert.TcKernelIdeal.τ).loc Cert.TcKernelIdeal.main_arg1)
      ∧ m' ((c.tc : Thread Cert.TcReferenceIdeal.nD Cert.TcReferenceIdeal.τ).loc Cert.TcReferenceIdeal.main_arg2) = m ((c.tc : Thread Cert.TcKernelIdeal.nD Cert.TcKernelIdeal.τ).loc Cert.TcKernelIdeal.main_arg2)
      ∧ m' ((c.tc : Thread Cert.TcReferenceIdeal.nD Cert.TcReferenceIdeal.τ).loc Cert.TcReferenceIdeal.main_arg3) = m ((c.tc : Thread Cert.TcKernelIdeal.nD Cert.TcKernelIdeal.τ).loc Cert.TcKernelIdeal.main_arg3)
      ∧ m' ((c.tc : Thread Cert.TcReferenceIdeal.nD Cert.TcReferenceIdeal.τ).loc Cert.TcReferenceIdeal.main_arg4) = m ((c.tc : Thread Cert.TcKernelIdeal.nD Cert.TcKernelIdeal.τ).loc Cert.TcKernelIdeal.main_arg4)) →
    ∃ (v0 : (c : Dev Cert.TcKernelIdeal.nD) → Buf (Elt Ideal) ((c.tc : Thread Cert.TcKernelIdeal.nD Cert.TcKernelIdeal.τ).loc Cert.TcKernelIdeal.main_v10_0)) (v1 : (c : Dev Cert.TcKernelIdeal.nD) → Buf (Elt Ideal) ((c.tc : Thread Cert.TcKernelIdeal.nD Cert.TcKernelIdeal.τ).loc Cert.TcKernelIdeal.main_v10_1)),
      θ_run (Cert.TcKernelIdeal.defs (F := Ideal)) (onTc (τ := Cert.TcKernelIdeal.τ) (Cert.TcKernelIdeal.main (F := Ideal))) ⟨m, fun _ => 0, g⟩ (fun r => ∀ c : Dev Cert.TcKernelIdeal.nD,
          r.2.mem ((c.tc : Thread Cert.TcKernelIdeal.nD Cert.TcKernelIdeal.τ).loc Cert.TcKernelIdeal.main_v10_0) = v0 c
          ∧ r.2.mem ((c.tc : Thread Cert.TcKernelIdeal.nD Cert.TcKernelIdeal.τ).loc Cert.TcKernelIdeal.main_v10_1) = v1 c
          ∧ r.2.mem ((c.tc : Thread Cert.TcKernelIdeal.nD Cert.TcKernelIdeal.τ).loc Cert.TcKernelIdeal.main_arg0) = m ((c.tc : Thread Cert.TcKernelIdeal.nD Cert.TcKernelIdeal.τ).loc Cert.TcKernelIdeal.main_arg0)
          ∧ r.2.mem ((c.tc : Thread Cert.TcKernelIdeal.nD Cert.TcKernelIdeal.τ).loc Cert.TcKernelIdeal.main_arg1) = m ((c.tc : Thread Cert.TcKernelIdeal.nD Cert.TcKernelIdeal.τ).loc Cert.TcKernelIdeal.main_arg1)
          ∧ r.2.mem ((c.tc : Thread Cert.TcKernelIdeal.nD Cert.TcKernelIdeal.τ).loc Cert.TcKernelIdeal.main_arg2) = m ((c.tc : Thread Cert.TcKernelIdeal.nD Cert.TcKernelIdeal.τ).loc Cert.TcKernelIdeal.main_arg2)
          ∧ r.2.mem ((c.tc : Thread Cert.TcKernelIdeal.nD Cert.TcKernelIdeal.τ).loc Cert.TcKernelIdeal.main_arg3) = m ((c.tc : Thread Cert.TcKernelIdeal.nD Cert.TcKernelIdeal.τ).loc Cert.TcKernelIdeal.main_arg3)
          ∧ r.2.mem ((c.tc : Thread Cert.TcKernelIdeal.nD Cert.TcKernelIdeal.τ).loc Cert.TcKernelIdeal.main_arg4) = m ((c.tc : Thread Cert.TcKernelIdeal.nD Cert.TcKernelIdeal.τ).loc Cert.TcKernelIdeal.main_arg4))
      ∧ θ_run (Cert.TcReferenceIdeal.defs (F := Ideal)) (onTc (τ := Cert.TcReferenceIdeal.τ) (Cert.TcReferenceIdeal.main (F := Ideal))) ⟨m', fun _ => 0, g'⟩ (fun r => ∀ c : Dev Cert.TcReferenceIdeal.nD,
          r.2.mem ((c.tc : Thread Cert.TcReferenceIdeal.nD Cert.TcReferenceIdeal.τ).loc Cert.TcReferenceIdeal.main_indices) = v0 c
          ∧ r.2.mem ((c.tc : Thread Cert.TcReferenceIdeal.nD Cert.TcReferenceIdeal.τ).loc Cert.TcReferenceIdeal.main_v42) = v1 c
          ∧ r.2.mem ((c.tc : Thread Cert.TcReferenceIdeal.nD Cert.TcReferenceIdeal.τ).loc Cert.TcReferenceIdeal.main_arg0) = m' ((c.tc : Thread Cert.TcReferenceIdeal.nD Cert.TcReferenceIdeal.τ).loc Cert.TcReferenceIdeal.main_arg0)
          ∧ r.2.mem ((c.tc : Thread Cert.TcReferenceIdeal.nD Cert.TcReferenceIdeal.τ).loc Cert.TcReferenceIdeal.main_arg1) = m' ((c.tc : Thread Cert.TcReferenceIdeal.nD Cert.TcReferenceIdeal.τ).loc Cert.TcReferenceIdeal.main_arg1)
          ∧ r.2.mem ((c.tc : Thread Cert.TcReferenceIdeal.nD Cert.TcReferenceIdeal.τ).loc Cert.TcReferenceIdeal.main_arg2) = m' ((c.tc : Thread Cert.TcReferenceIdeal.nD Cert.TcReferenceIdeal.τ).loc Cert.TcReferenceIdeal.main_arg2)
          ∧ r.2.mem ((c.tc : Thread Cert.TcReferenceIdeal.nD Cert.TcReferenceIdeal.τ).loc Cert.TcReferenceIdeal.main_arg3) = m' ((c.tc : Thread Cert.TcReferenceIdeal.nD Cert.TcReferenceIdeal.τ).loc Cert.TcReferenceIdeal.main_arg3)
          ∧ r.2.mem ((c.tc : Thread Cert.TcReferenceIdeal.nD Cert.TcReferenceIdeal.τ).loc Cert.TcReferenceIdeal.main_arg4) = m' ((c.tc : Thread Cert.TcReferenceIdeal.nD Cert.TcReferenceIdeal.τ).loc Cert.TcReferenceIdeal.main_arg4))

def Claim : Prop :=
  ∃ (hKernel : Cert.Kernel.Facts) (hKernelIdeal : Cert.KernelIdeal.Facts) (hReferenceIdeal : Cert.ReferenceIdeal.Facts) (hTcKernel : Cert.TcKernel.Facts) (hTcKernelIdeal : Cert.TcKernelIdeal.Facts) (hTcReferenceIdeal : Cert.TcReferenceIdeal.Facts) (hPre_idx_in_range : Cert.Pre_idx_in_range.Facts) (hPre_xyz_finite : Cert.Pre_xyz_finite.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_TcKernel (hTcKernel := hTcKernel)
    ∧ quiescent_TcKernelIdeal (hTcKernelIdeal := hTcKernelIdeal)
    ∧ quiescent_TcKernelIdeal_pre_xyz_finite (hTcKernelIdeal := hTcKernelIdeal) (hPre_xyz_finite := hPre_xyz_finite)
    ∧ quiescent_TcReferenceIdeal (hTcReferenceIdeal := hTcReferenceIdeal)
    ∧ quiescent_TcReferenceIdeal_pre_xyz_finite (hTcReferenceIdeal := hTcReferenceIdeal) (hPre_xyz_finite := hPre_xyz_finite)
    ∧ preserves_Kernel_KernelIdeal
    ∧ algebraic_KernelIdeal_ReferenceIdeal (hKernelIdeal := hKernelIdeal) (hReferenceIdeal := hReferenceIdeal) (hPre_idx_in_range := hPre_idx_in_range)
    ∧ preserves_TcKernel_TcKernelIdeal
    ∧ algebraic_TcKernelIdeal_TcReferenceIdeal_pre_xyz_finite (hTcKernelIdeal := hTcKernelIdeal) (hTcReferenceIdeal := hTcReferenceIdeal) (hPre_xyz_finite := hPre_xyz_finite)
-- ==== Pre_idx_in_range.lean ====
abbrev S4x1024x16 : Shape := ⟨3, ![4, 1024, 16]⟩
abbrev S4x1024x128 : Shape := ⟨3, ![4, 1024, 128]⟩
abbrev S_ : Shape := ⟨0, ![]⟩

class Facts : Prop where
  bcast_S_S4x1024x16 : S_.BroadcastsInDim S4x1024x16 (![] : Fin 0 → Fin S4x1024x16.rank)

variable [Facts]

def fn {F : FTy → Type} [FloatOps F] (main_arg0 : IVec S4x1024x16 32) (main_arg1 : FVec F S4x1024x128 .f32) : IVec S4x1024x16 1 :=
  let main_c : IVec S_ 32 := constantI S_ 32 0#32
  let main_v0 : IVec S4x1024x16 32 := broadcastInDim S4x1024x16 ![] bcast_S_S4x1024x16 main_c
  let main_v1 : IVec S4x1024x16 1 := cmpi .sge main_arg0 main_v0
  let main_c_0 : IVec S_ 32 := constantI S_ 32 1024#32
  let main_v2 : IVec S4x1024x16 32 := broadcastInDim S4x1024x16 ![] bcast_S_S4x1024x16 main_c_0
  let main_v3 : IVec S4x1024x16 1 := cmpi .slt main_arg0 main_v2
  let main_v4 : IVec S4x1024x16 1 := andi main_v1 main_v3
  main_v4
-- ==== Pre_xyz_finite.lean ====
abbrev S4x3x1024 : Shape := ⟨3, ![4, 3, 1024]⟩
abbrev S3x64 : Shape := ⟨2, ![3, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S4x3x1024 : S_.BroadcastsInDim S4x3x1024 (![] : Fin 0 → Fin S4x3x1024.rank)

variable [Facts]

def fn {F : FTy → Type} [FloatOps F] (main_arg0 : FVec F S4x3x1024 .f32) (main_arg1 : FVec F S3x64 .f32) (main_arg2 : FVec F S64 .f32) (main_arg3 : FVec F S64x8 .f32) (main_arg4 : FVec F S8 .f32) : IVec S4x3x1024 1 :=
  let main_v0 : FVec F S4x3x1024 .f32 := Host.absf main_arg0
  let main_cst : FVec F S_ .f32 := constant S_ .f32 0x7F800000#32
  let main_v1 : FVec F S4x3x1024 .f32 := broadcastInDim S4x3x1024 ![] bcast_S_S4x3x1024 main_cst
  let main_v2 : IVec S4x3x1024 1 := cmpf .olt main_v0 main_v1
  main_v2
-- ==== Kernel.lean ====
abbrev S4x1024x16 : Shape := ⟨3, ![4, 1024, 16]⟩
abbrev S4x1024x128 : Shape := ⟨3, ![4, 1024, 128]⟩
abbrev S65536 : Shape := ⟨1, ![65536]⟩
abbrev S524288 : Shape := ⟨1, ![524288]⟩
abbrev S_ : Shape := ⟨0, ![]⟩
abbrev S32768 : Shape := ⟨1, ![32768]⟩
abbrev S33554432 : Shape := ⟨1, ![33554432]⟩
abbrev S512 : Shape := ⟨1, ![512]⟩
abbrev S4096 : Shape := ⟨1, ![4096]⟩
abbrev S16 : Shape := ⟨1, ![16]⟩
abbrev S4x8x1024x1024 : Shape := ⟨4, ![4, 8, 1024, 1024]⟩

abbrev nBuf : Table → Nat
  | .hbm => 8
  | .local .scVector .vmem => 5
  | _ => 0

abbrev bufTy : (tb : Table) → Fin (nBuf tb) → BufTy
  | .hbm, ⟨0, _⟩ => ⟨S4x1024x16, .i32⟩
  | .hbm, ⟨1, _⟩ => ⟨S4x1024x128, .f32⟩
  | .hbm, ⟨2, _⟩ => ⟨S65536, .i32⟩
  | .hbm, ⟨3, _⟩ => ⟨S524288, .f32⟩
  | .hbm, ⟨4, _⟩ => ⟨S_, .f32⟩
  | .hbm, ⟨5, _⟩ => ⟨S32768, .f32⟩
  | .hbm, ⟨6, _⟩ => ⟨S33554432, .f32⟩
  | .hbm, ⟨7, _⟩ => ⟨S4x8x1024x1024, .f32⟩
  | .local .scVector .vmem, ⟨0, _⟩ => ⟨S32768, .f32⟩
  | .local .scVector .vmem, ⟨1, _⟩ => ⟨S32768, .f32⟩
  | .local .scVector .vmem, ⟨2, _⟩ => ⟨S512, .i32⟩
  | .local .scVector .vmem, ⟨3, _⟩ => ⟨S512, .i32⟩
  | .local .scVector .vmem, ⟨4, _⟩ => ⟨S4096, .f32⟩
  | _, _ => ⟨S4x1024x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 2, rfl⟩
abbrev main_v1_scv : Ref sig .scVector := ⟨.hbm, 3, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1024_i32 : BitVec 32 := 1024#32
  let v35 : BitVec 32 := Scalar.muli v18 c1024_i32
  let c0_i32_11 : BitVec 32 := 0#32
  let v36 : BitVec 32 := Scalar.addi v35 c0_i32_11
  let c16_i32 : BitVec 32 := 16#32
  let v37 : BitVec 32 := Scalar.muli v36 c16_i32
  ![v37.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1024_i32_12 : BitVec 32 := 1024#32
  let v38 : BitVec 32 := Scalar.muli v18 c1024_i32_12
  let c0_i32_13 : BitVec 32 := 0#32
  let v39 : BitVec 32 := Scalar.addi v38 c0_i32_13
  let c128_i32 : BitVec 32 := 128#32
  let v40 : BitVec 32 := Scalar.muli v39 c128_i32
  ![v40.toNat]

def k0_chk1 (v45 : IVec S16 32) : Prop :=
  (∀ a x, ((![v45] : Fin 1 → IVec S16 32) a x).toNat < S4096.size a)
theorem k0_idx1_inb : ∀ (v45 : IVec S16 32) (k0_hw1 : k0_chk1 v45), ∀ a x, ((![v45] : Fin 1 → IVec S16 32) a x).toNat < S4096.size a := fun v45 k0_hw1 => k0_hw1

def k0_chk2 (v43 : IVec S16 32) : Prop :=
  (∀ a x, ((![v43] : Fin 1 → IVec S16 32) a x).toNat < S32768.size a)
theorem k0_idx2_inb : ∀ (v43 : IVec S16 32) (k0_hw2 : k0_chk2 v43), ∀ a x, ((![v43] : Fin 1 → IVec S16 32) a x).toNat < S32768.size a := fun v43 k0_hw2 => k0_hw2

def k0_chk3 (v51 : IVec S16 32) : Prop :=
  (∀ a x, ((![v51] : Fin 1 → IVec S16 32) a x).toNat < S4096.size a)
theorem k0_idx3_inb : ∀ (v51 : IVec S16 32) (k0_hw3 : k0_chk3 v51), ∀ a x, ((![v51] : Fin 1 → IVec S16 32) a x).toNat < S4096.size a := fun v51 k0_hw3 => k0_hw3

def k0_chk4 (v49 : IVec S16 32) : Prop :=
  (∀ a x, ((![v49] : Fin 1 → IVec S16 32) a x).toNat < S32768.size a)
theorem k0_idx4_inb : ∀ (v49 : IVec S16 32) (k0_hw4 : k0_chk4 v49), ∀ a x, ((![v49] : Fin 1 → IVec S16 32) a x).toNat < S32768.size a := fun v49 k0_hw4 => k0_hw4

def k0_chk5 (v57 : IVec S16 32) : Prop :=
  (∀ a x, ((![v57] : Fin 1 → IVec S16 32) a x).toNat < S4096.size a)
theorem k0_idx5_inb : ∀ (v57 : IVec S16 32) (k0_hw5 : k0_chk5 v57), ∀ a x, ((![v57] : Fin 1 → IVec S16 32) a x).toNat < S4096.size a := fun v57 k0_hw5 => k0_hw5

def k0_chk6 (v55 : IVec S16 32) : Prop :=
  (∀ a x, ((![v55] : Fin 1 → IVec S16 32) a x).toNat < S32768.size a)
theorem k0_idx6_inb : ∀ (v55 : IVec S16 32) (k0_hw6 : k0_chk6 v55), ∀ a x, ((![v55] : Fin 1 → IVec S16 32) a x).toNat < S32768.size a := fun v55 k0_hw6 => k0_hw6

def k0_chk7 (v63 : IVec S16 32) : Prop :=
  (∀ a x, ((![v63] : Fin 1 → IVec S16 32) a x).toNat < S4096.size a)
theorem k0_idx7_inb : ∀ (v63 : IVec S16 32) (k0_hw7 : k0_chk7 v63), ∀ a x, ((![v63] : Fin 1 → IVec S16 32) a x).toNat < S4096.size a := fun v63 k0_hw7 => k0_hw7

def k0_chk8 (v61 : IVec S16 32) : Prop :=
  (∀ a x, ((![v61] : Fin 1 → IVec S16 32) a x).toNat < S32768.size a)
theorem k0_idx8_inb : ∀ (v61 : IVec S16 32) (k0_hw8 : k0_chk8 v61), ∀ a x, ((![v61] : Fin 1 → IVec S16 32) a x).toNat < S32768.size a := fun v61 k0_hw8 => k0_hw8

def k0_chk9 (v69 : IVec S16 32) : Prop :=
  (∀ a x, ((![v69] : Fin 1 → IVec S16 32) a x).toNat < S4096.size a)
theorem k0_idx9_inb : ∀ (v69 : IVec S16 32) (k0_hw9 : k0_chk9 v69), ∀ a x, ((![v69] : Fin 1 → IVec S16 32) a x).toNat < S4096.size a := fun v69 k0_hw9 => k0_hw9

def k0_chk10 (v67 : IVec S16 32) : Prop :=
  (∀ a x, ((![v67] : Fin 1 → IVec S16 32) a x).toNat < S32768.size a)
theorem k0_idx10_inb : ∀ (v67 : IVec S16 32) (k0_hw10 : k0_chk10 v67), ∀ a x, ((![v67] : Fin 1 → IVec S16 32) a x).toNat < S32768.size a := fun v67 k0_hw10 => k0_hw10

def k0_chk11 (v75 : IVec S16 32) : Prop :=
  (∀ a x, ((![v75] : Fin 1 → IVec S16 32) a x).toNat < S4096.size a)
theorem k0_idx11_inb : ∀ (v75 : IVec S16 32) (k0_hw11 : k0_chk11 v75), ∀ a x, ((![v75] : Fin 1 → IVec S16 32) a x).toNat < S4096.size a := fun v75 k0_hw11 => k0_hw11

def k0_chk12 (v73 : IVec S16 32) : Prop :=
  (∀ a x, ((![v73] : Fin 1 → IVec S16 32) a x).toNat < S32768.size a)
theorem k0_idx12_inb : ∀ (v73 : IVec S16 32) (k0_hw12 : k0_chk12 v73), ∀ a x, ((![v73] : Fin 1 → IVec S16 32) a x).toNat < S32768.size a := fun v73 k0_hw12 => k0_hw12

def k0_chk13 (v81 : IVec S16 32) : Prop :=
  (∀ a x, ((![v81] : Fin 1 → IVec S16 32) a x).toNat < S4096.size a)
theorem k0_idx13_inb : ∀ (v81 : IVec S16 32) (k0_hw13 : k0_chk13 v81), ∀ a x, ((![v81] : Fin 1 → IVec S16 32) a x).toNat < S4096.size a := fun v81 k0_hw13 => k0_hw13

def k0_chk14 (v79 : IVec S16 32) : Prop :=
  (∀ a x, ((![v79] : Fin 1 → IVec S16 32) a x).toNat < S32768.size a)
theorem k0_idx14_inb : ∀ (v79 : IVec S16 32) (k0_hw14 : k0_chk14 v79), ∀ a x, ((![v79] : Fin 1 → IVec S16 32) a x).toNat < S32768.size a := fun v79 k0_hw14 => k0_hw14

def k0_chk15 (v87 : IVec S16 32) : Prop :=
  (∀ a x, ((![v87] : Fin 1 → IVec S16 32) a x).toNat < S4096.size a)
theorem k0_idx15_inb : ∀ (v87 : IVec S16 32) (k0_hw15 : k0_chk15 v87), ∀ a x, ((![v87] : Fin 1 → IVec S16 32) a x).toNat < S4096.size a := fun v87 k0_hw15 => k0_hw15

def k0_chk16 (v85 : IVec S16 32) : Prop :=
  (∀ a x, ((![v85] : Fin 1 → IVec S16 32) a x).toNat < S32768.size a)
theorem k0_idx16_inb : ∀ (v85 : IVec S16 32) (k0_hw16 : k0_chk16 v85), ∀ a x, ((![v85] : Fin 1 → IVec S16 32) a x).toNat < S32768.size a := fun v85 k0_hw16 => k0_hw16

def k0_chk17 (v93 : IVec S16 32) : Prop :=
  (∀ a x, ((![v93] : Fin 1 → IVec S16 32) a x).toNat < S4096.size a)
theorem k0_idx17_inb : ∀ (v93 : IVec S16 32) (k0_hw17 : k0_chk17 v93), ∀ a x, ((![v93] : Fin 1 → IVec S16 32) a x).toNat < S4096.size a := fun v93 k0_hw17 => k0_hw17

def k0_chk18 (v91 : IVec S16 32) : Prop :=
  (∀ a x, ((![v91] : Fin 1 → IVec S16 32) a x).toNat < S32768.size a)
theorem k0_idx18_inb : ∀ (v91 : IVec S16 32) (k0_hw18 : k0_chk18 v91), ∀ a x, ((![v91] : Fin 1 → IVec S16 32) a x).toNat < S32768.size a := fun v91 k0_hw18 => k0_hw18

def k0_chk19 (v99 : IVec S16 32) : Prop :=
  (∀ a x, ((![v99] : Fin 1 → IVec S16 32) a x).toNat < S4096.size a)
theorem k0_idx19_inb : ∀ (v99 : IVec S16 32) (k0_hw19 : k0_chk19 v99), ∀ a x, ((![v99] : Fin 1 → IVec S16 32) a x).toNat < S4096.size a := fun v99 k0_hw19 => k0_hw19

def k0_chk20 (v97 : IVec S16 32) : Prop :=
  (∀ a x, ((![v97] : Fin 1 → IVec S16 32) a x).toNat < S32768.size a)
theorem k0_idx20_inb : ∀ (v97 : IVec S16 32) (k0_hw20 : k0_chk20 v97), ∀ a x, ((![v97] : Fin 1 → IVec S16 32) a x).toNat < S32768.size a := fun v97 k0_hw20 => k0_hw20

def k0_chk21 (v105 : IVec S16 32) : Prop :=
  (∀ a x, ((![v105] : Fin 1 → IVec S16 32) a x).toNat < S4096.size a)
theorem k0_idx21_inb : ∀ (v105 : IVec S16 32) (k0_hw21 : k0_chk21 v105), ∀ a x, ((![v105] : Fin 1 → IVec S16 32) a x).toNat < S4096.size a := fun v105 k0_hw21 => k0_hw21

def k0_chk22 (v103 : IVec S16 32) : Prop :=
  (∀ a x, ((![v103] : Fin 1 → IVec S16 32) a x).toNat < S32768.size a)
theorem k0_idx22_inb : ∀ (v103 : IVec S16 32) (k0_hw22 : k0_chk22 v103), ∀ a x, ((![v103] : Fin 1 → IVec S16 32) a x).toNat < S32768.size a := fun v103 k0_hw22 => k0_hw22

def k0_chk23 (v111 : IVec S16 32) : Prop :=
  (∀ a x, ((![v111] : Fin 1 → IVec S16 32) a x).toNat < S4096.size a)
theorem k0_idx23_inb : ∀ (v111 : IVec S16 32) (k0_hw23 : k0_chk23 v111), ∀ a x, ((![v111] : Fin 1 → IVec S16 32) a x).toNat < S4096.size a := fun v111 k0_hw23 => k0_hw23

def k0_chk24 (v109 : IVec S16 32) : Prop :=
  (∀ a x, ((![v109] : Fin 1 → IVec S16 32) a x).toNat < S32768.size a)
theorem k0_idx24_inb : ∀ (v109 : IVec S16 32) (k0_hw24 : k0_chk24 v109), ∀ a x, ((![v109] : Fin 1 → IVec S16 32) a x).toNat < S32768.size a := fun v109 k0_hw24 => k0_hw24

def k0_chk25 (v117 : IVec S16 32) : Prop :=
  (∀ a x, ((![v117] : Fin 1 → IVec S16 32) a x).toNat < S4096.size a)
theorem k0_idx25_inb : ∀ (v117 : IVec S16 32) (k0_hw25 : k0_chk25 v117), ∀ a x, ((![v117] : Fin 1 → IVec S16 32) a x).toNat < S4096.size a := fun v117 k0_hw25 => k0_hw25

def k0_chk26 (v115 : IVec S16 32) : Prop :=
  (∀ a x, ((![v115] : Fin 1 → IVec S16 32) a x).toNat < S32768.size a)
theorem k0_idx26_inb : ∀ (v115 : IVec S16 32) (k0_hw26 : k0_chk26 v115), ∀ a x, ((![v115] : Fin 1 → IVec S16 32) a x).toNat < S32768.size a := fun v115 k0_hw26 => k0_hw26

def k0_chk27 (v123 : IVec S16 32) : Prop :=
  (∀ a x, ((![v123] : Fin 1 → IVec S16 32) a x).toNat < S4096.size a)
theorem k0_idx27_inb : ∀ (v123 : IVec S16 32) (k0_hw27 : k0_chk27 v123), ∀ a x, ((![v123] : Fin 1 → IVec S16 32) a x).toNat < S4096.size a := fun v123 k0_hw27 => k0_hw27

def k0_chk28 (v121 : IVec S16 32) : Prop :=
  (∀ a x, ((![v121] : Fin 1 → IVec S16 32) a x).toNat < S32768.size a)
theorem k0_idx28_inb : ∀ (v121 : IVec S16 32) (k0_hw28 : k0_chk28 v121), ∀ a x, ((![v121] : Fin 1 → IVec S16 32) a x).toNat < S32768.size a := fun v121 k0_hw28 => k0_hw28

def k0_chk29 (v129 : IVec S16 32) : Prop :=
  (∀ a x, ((![v129] : Fin 1 → IVec S16 32) a x).toNat < S4096.size a)
theorem k0_idx29_inb : ∀ (v129 : IVec S16 32) (k0_hw29 : k0_chk29 v129), ∀ a x, ((![v129] : Fin 1 → IVec S16 32) a x).toNat < S4096.size a := fun v129 k0_hw29 => k0_hw29

def k0_chk30 (v127 : IVec S16 32) : Prop :=
  (∀ a x, ((![v127] : Fin 1 → IVec S16 32) a x).toNat < S32768.size a)
theorem k0_idx30_inb : ∀ (v127 : IVec S16 32) (k0_hw30 : k0_chk30 v127), ∀ a x, ((![v127] : Fin 1 → IVec S16 32) a x).toNat < S32768.size a := fun v127 k0_hw30 => k0_hw30

def k0_chk31 (v135 : IVec S16 32) : Prop :=
  (∀ a x, ((![v135] : Fin 1 → IVec S16 32) a x).toNat < S4096.size a)
theorem k0_idx31_inb : ∀ (v135 : IVec S16 32) (k0_hw31 : k0_chk31 v135), ∀ a x, ((![v135] : Fin 1 → IVec S16 32) a x).toNat < S4096.size a := fun v135 k0_hw31 => k0_hw31

def k0_chk32 (v133 : IVec S16 32) : Prop :=
  (∀ a x, ((![v133] : Fin 1 → IVec S16 32) a x).toNat < S32768.size a)
theorem k0_idx32_inb : ∀ (v133 : IVec S16 32) (k0_hw32 : k0_chk32 v133), ∀ a x, ((![v133] : Fin 1 → IVec S16 32) a x).toNat < S32768.size a := fun v133 k0_hw32 => k0_hw32

def k0_chk33 (v141 : IVec S16 32) : Prop :=
  (∀ a x, ((![v141] : Fin 1 → IVec S16 32) a x).toNat < S4096.size a)
theorem k0_idx33_inb : ∀ (v141 : IVec S16 32) (k0_hw33 : k0_chk33 v141), ∀ a x, ((![v141] : Fin 1 → IVec S16 32) a x).toNat < S4096.size a := fun v141 k0_hw33 => k0_hw33

def k0_chk34 (v139 : IVec S16 32) : Prop :=
  (∀ a x, ((![v139] : Fin 1 → IVec S16 32) a x).toNat < S32768.size a)
theorem k0_idx34_inb : ∀ (v139 : IVec S16 32) (k0_hw34 : k0_chk34 v139), ∀ a x, ((![v139] : Fin 1 → IVec S16 32) a x).toNat < S32768.size a := fun v139 k0_hw34 => k0_hw34

def k0_chk35 (v147 : IVec S16 32) : Prop :=
  (∀ a x, ((![v147] : Fin 1 → IVec S16 32) a x).toNat < S4096.size a)
theorem k0_idx35_inb : ∀ (v147 : IVec S16 32) (k0_hw35 : k0_chk35 v147), ∀ a x, ((![v147] : Fin 1 → IVec S16 32) a x).toNat < S4096.size a := fun v147 k0_hw35 => k0_hw35

def k0_chk36 (v145 : IVec S16 32) : Prop :=
  (∀ a x, ((![v145] : Fin 1 → IVec S16 32) a x).toNat < S32768.size a)
theorem k0_idx36_inb : ∀ (v145 : IVec S16 32) (k0_hw36 : k0_chk36 v145), ∀ a x, ((![v145] : Fin 1 → IVec S16 32) a x).toNat < S32768.size a := fun v145 k0_hw36 => k0_hw36

def k0_chk37 (v153 : IVec S16 32) : Prop :=
  (∀ a x, ((![v153] : Fin 1 → IVec S16 32) a x).toNat < S4096.size a)
theorem k0_idx37_inb : ∀ (v153 : IVec S16 32) (k0_hw37 : k0_chk37 v153), ∀ a x, ((![v153] : Fin 1 → IVec S16 32) a x).toNat < S4096.size a := fun v153 k0_hw37 => k0_hw37

def k0_chk38 (v151 : IVec S16 32) : Prop :=
  (∀ a x, ((![v151] : Fin 1 → IVec S16 32) a x).toNat < S32768.size a)
theorem k0_idx38_inb : ∀ (v151 : IVec S16 32) (k0_hw38 : k0_chk38 v151), ∀ a x, ((![v151] : Fin 1 → IVec S16 32) a x).toNat < S32768.size a := fun v151 k0_hw38 => k0_hw38

def k0_chk39 (v159 : IVec S16 32) : Prop :=
  (∀ a x, ((![v159] : Fin 1 → IVec S16 32) a x).toNat < S4096.size a)
theorem k0_idx39_inb : ∀ (v159 : IVec S16 32) (k0_hw39 : k0_chk39 v159), ∀ a x, ((![v159] : Fin 1 → IVec S16 32) a x).toNat < S4096.size a := fun v159 k0_hw39 => k0_hw39

def k0_chk40 (v157 : IVec S16 32) : Prop :=
  (∀ a x, ((![v157] : Fin 1 → IVec S16 32) a x).toNat < S32768.size a)
theorem k0_idx40_inb : ∀ (v157 : IVec S16 32) (k0_hw40 : k0_chk40 v157), ∀ a x, ((![v157] : Fin 1 → IVec S16 32) a x).toNat < S32768.size a := fun v157 k0_hw40 => k0_hw40

def k0_chk41 (v165 : IVec S16 32) : Prop :=
  (∀ a x, ((![v165] : Fin 1 → IVec S16 32) a x).toNat < S4096.size a)
theorem k0_idx41_inb : ∀ (v165 : IVec S16 32) (k0_hw41 : k0_chk41 v165), ∀ a x, ((![v165] : Fin 1 → IVec S16 32) a x).toNat < S4096.size a := fun v165 k0_hw41 => k0_hw41

def k0_chk42 (v163 : IVec S16 32) : Prop :=
  (∀ a x, ((![v163] : Fin 1 → IVec S16 32) a x).toNat < S32768.size a)
theorem k0_idx42_inb : ∀ (v163 : IVec S16 32) (k0_hw42 : k0_chk42 v163), ∀ a x, ((![v163] : Fin 1 → IVec S16 32) a x).toNat < S32768.size a := fun v163 k0_hw42 => k0_hw42

def k0_chk43 (v171 : IVec S16 32) : Prop :=
  (∀ a x, ((![v171] : Fin 1 → IVec S16 32) a x).toNat < S4096.size a)
theorem k0_idx43_inb : ∀ (v171 : IVec S16 32) (k0_hw43 : k0_chk43 v171), ∀ a x, ((![v171] : Fin 1 → IVec S16 32) a x).toNat < S4096.size a := fun v171 k0_hw43 => k0_hw43

def k0_chk44 (v169 : IVec S16 32) : Prop :=
  (∀ a x, ((![v169] : Fin 1 → IVec S16 32) a x).toNat < S32768.size a)
theorem k0_idx44_inb : ∀ (v169 : IVec S16 32) (k0_hw44 : k0_chk44 v169), ∀ a x, ((![v169] : Fin 1 → IVec S16 32) a x).toNat < S32768.size a := fun v169 k0_hw44 => k0_hw44

def k0_chk45 (v177 : IVec S16 32) : Prop :=
  (∀ a x, ((![v177] : Fin 1 → IVec S16 32) a x).toNat < S4096.size a)
theorem k0_idx45_inb : ∀ (v177 : IVec S16 32) (k0_hw45 : k0_chk45 v177), ∀ a x, ((![v177] : Fin 1 → IVec S16 32) a x).toNat < S4096.size a := fun v177 k0_hw45 => k0_hw45

def k0_chk46 (v175 : IVec S16 32) : Prop :=
  (∀ a x, ((![v175] : Fin 1 → IVec S16 32) a x).toNat < S32768.size a)
theorem k0_idx46_inb : ∀ (v175 : IVec S16 32) (k0_hw46 : k0_chk46 v175), ∀ a x, ((![v175] : Fin 1 → IVec S16 32) a x).toNat < S32768.size a := fun v175 k0_hw46 => k0_hw46

def k0_chk47 (v183 : IVec S16 32) : Prop :=
  (∀ a x, ((![v183] : Fin 1 → IVec S16 32) a x).toNat < S4096.size a)
theorem k0_idx47_inb : ∀ (v183 : IVec S16 32) (k0_hw47 : k0_chk47 v183), ∀ a x, ((![v183] : Fin 1 → IVec S16 32) a x).toNat < S4096.size a := fun v183 k0_hw47 => k0_hw47

def k0_chk48 (v181 : IVec S16 32) : Prop :=
  (∀ a x, ((![v181] : Fin 1 → IVec S16 32) a x).toNat < S32768.size a)
theorem k0_idx48_inb : ∀ (v181 : IVec S16 32) (k0_hw48 : k0_chk48 v181), ∀ a x, ((![v181] : Fin 1 → IVec S16 32) a x).toNat < S32768.size a := fun v181 k0_hw48 => k0_hw48

def k0_chk49 (v189 : IVec S16 32) : Prop :=
  (∀ a x, ((![v189] : Fin 1 → IVec S16 32) a x).toNat < S4096.size a)
theorem k0_idx49_inb : ∀ (v189 : IVec S16 32) (k0_hw49 : k0_chk49 v189), ∀ a x, ((![v189] : Fin 1 → IVec S16 32) a x).toNat < S4096.size a := fun v189 k0_hw49 => k0_hw49

def k0_chk50 (v187 : IVec S16 32) : Prop :=
  (∀ a x, ((![v187] : Fin 1 → IVec S16 32) a x).toNat < S32768.size a)
theorem k0_idx50_inb : ∀ (v187 : IVec S16 32) (k0_hw50 : k0_chk50 v187), ∀ a x, ((![v187] : Fin 1 → IVec S16 32) a x).toNat < S32768.size a := fun v187 k0_hw50 => k0_hw50

def k0_chk51 (v195 : IVec S16 32) : Prop :=
  (∀ a x, ((![v195] : Fin 1 → IVec S16 32) a x).toNat < S4096.size a)
theorem k0_idx51_inb : ∀ (v195 : IVec S16 32) (k0_hw51 : k0_chk51 v195), ∀ a x, ((![v195] : Fin 1 → IVec S16 32) a x).toNat < S4096.size a := fun v195 k0_hw51 => k0_hw51

def k0_chk52 (v193 : IVec S16 32) : Prop :=
  (∀ a x, ((![v193] : Fin 1 → IVec S16 32) a x).toNat < S32768.size a)
theorem k0_idx52_inb : ∀ (v193 : IVec S16 32) (k0_hw52 : k0_chk52 v193), ∀ a x, ((![v193] : Fin 1 → IVec S16 32) a x).toNat < S32768.size a := fun v193 k0_hw52 => k0_hw52

def k0_chk53 (v201 : IVec S16 32) : Prop :=
  (∀ a x, ((![v201] : Fin 1 → IVec S16 32) a x).toNat < S4096.size a)
theorem k0_idx53_inb : ∀ (v201 : IVec S16 32) (k0_hw53 : k0_chk53 v201), ∀ a x, ((![v201] : Fin 1 → IVec S16 32) a x).toNat < S4096.size a := fun v201 k0_hw53 => k0_hw53

def k0_chk54 (v199 : IVec S16 32) : Prop :=
  (∀ a x, ((![v199] : Fin 1 → IVec S16 32) a x).toNat < S32768.size a)
theorem k0_idx54_inb : ∀ (v199 : IVec S16 32) (k0_hw54 : k0_chk54 v199), ∀ a x, ((![v199] : Fin 1 → IVec S16 32) a x).toNat < S32768.size a := fun v199 k0_hw54 => k0_hw54

def k0_chk55 (v207 : IVec S16 32) : Prop :=
  (∀ a x, ((![v207] : Fin 1 → IVec S16 32) a x).toNat < S4096.size a)
theorem k0_idx55_inb : ∀ (v207 : IVec S16 32) (k0_hw55 : k0_chk55 v207), ∀ a x, ((![v207] : Fin 1 → IVec S16 32) a x).toNat < S4096.size a := fun v207 k0_hw55 => k0_hw55

def k0_chk56 (v205 : IVec S16 32) : Prop :=
  (∀ a x, ((![v205] : Fin 1 → IVec S16 32) a x).toNat < S32768.size a)
theorem k0_idx56_inb : ∀ (v205 : IVec S16 32) (k0_hw56 : k0_chk56 v205), ∀ a x, ((![v205] : Fin 1 → IVec S16 32) a x).toNat < S32768.size a := fun v205 k0_hw56 => k0_hw56

def k0_chk57 (v213 : IVec S16 32) : Prop :=
  (∀ a x, ((![v213] : Fin 1 → IVec S16 32) a x).toNat < S4096.size a)
theorem k0_idx57_inb : ∀ (v213 : IVec S16 32) (k0_hw57 : k0_chk57 v213), ∀ a x, ((![v213] : Fin 1 → IVec S16 32) a x).toNat < S4096.size a := fun v213 k0_hw57 => k0_hw57

def k0_chk58 (v211 : IVec S16 32) : Prop :=
  (∀ a x, ((![v211] : Fin 1 → IVec S16 32) a x).toNat < S32768.size a)
theorem k0_idx58_inb : ∀ (v211 : IVec S16 32) (k0_hw58 : k0_chk58 v211), ∀ a x, ((![v211] : Fin 1 → IVec S16 32) a x).toNat < S32768.size a := fun v211 k0_hw58 => k0_hw58

def k0_chk59 (v219 : IVec S16 32) : Prop :=
  (∀ a x, ((![v219] : Fin 1 → IVec S16 32) a x).toNat < S4096.size a)
theorem k0_idx59_inb : ∀ (v219 : IVec S16 32) (k0_hw59 : k0_chk59 v219), ∀ a x, ((![v219] : Fin 1 → IVec S16 32) a x).toNat < S4096.size a := fun v219 k0_hw59 => k0_hw59

def k0_chk60 (v217 : IVec S16 32) : Prop :=
  (∀ a x, ((![v217] : Fin 1 → IVec S16 32) a x).toNat < S32768.size a)
theorem k0_idx60_inb : ∀ (v217 : IVec S16 32) (k0_hw60 : k0_chk60 v217), ∀ a x, ((![v217] : Fin 1 → IVec S16 32) a x).toNat < S32768.size a := fun v217 k0_hw60 => k0_hw60

def k0_chk61 (v225 : IVec S16 32) : Prop :=
  (∀ a x, ((![v225] : Fin 1 → IVec S16 32) a x).toNat < S4096.size a)
theorem k0_idx61_inb : ∀ (v225 : IVec S16 32) (k0_hw61 : k0_chk61 v225), ∀ a x, ((![v225] : Fin 1 → IVec S16 32) a x).toNat < S4096.size a := fun v225 k0_hw61 => k0_hw61

def k0_chk62 (v223 : IVec S16 32) : Prop :=
  (∀ a x, ((![v223] : Fin 1 → IVec S16 32) a x).toNat < S32768.size a)
theorem k0_idx62_inb : ∀ (v223 : IVec S16 32) (k0_hw62 : k0_chk62 v223), ∀ a x, ((![v223] : Fin 1 → IVec S16 32) a x).toNat < S32768.size a := fun v223 k0_hw62 => k0_hw62

def k0_chk63 (v231 : IVec S16 32) : Prop :=
  (∀ a x, ((![v231] : Fin 1 → IVec S16 32) a x).toNat < S4096.size a)
theorem k0_idx63_inb : ∀ (v231 : IVec S16 32) (k0_hw63 : k0_chk63 v231), ∀ a x, ((![v231] : Fin 1 → IVec S16 32) a x).toNat < S4096.size a := fun v231 k0_hw63 => k0_hw63

def k0_chk64 (v229 : IVec S16 32) : Prop :=
  (∀ a x, ((![v229] : Fin 1 → IVec S16 32) a x).toNat < S32768.size a)
theorem k0_idx64_inb : ∀ (v229 : IVec S16 32) (k0_hw64 : k0_chk64 v229), ∀ a x, ((![v229] : Fin 1 → IVec S16 32) a x).toNat < S32768.size a := fun v229 k0_hw64 => k0_hw64
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_21 : BitVec 32 := 1024#32
  let v233 : BitVec 32 := Scalar.muli v1 c1024_i32_21
  let c0_i32_22 : BitVec 32 := 0#32
  let v234 : BitVec 32 := Scalar.addi v233 c0_i32_22
  let c1024_i32_23 : BitVec 32 := 1024#32
  let v235 : BitVec 32 := Scalar.muli v234 c1024_i32_23
  ![v235.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1024_i32_24 : BitVec 32 := 1024#32
  let v238 : BitVec 32 := Scalar.muli v18 c1024_i32_24
  let c32_i32 : BitVec 32 := 32#32
  let v239 : BitVec 32 := Scalar.addi v238 c32_i32
  let c16_i32_25 : BitVec 32 := 16#32
  let v240 : BitVec 32 := Scalar.muli v239 c16_i32_25
  ![v240.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1024_i32_26 : BitVec 32 := 1024#32
  let v241 : BitVec 32 := Scalar.muli v18 c1024_i32_26
  let c32_i32_27 : BitVec 32 := 32#32
  let v242 : BitVec 32 := Scalar.addi v241 c32_i32_27
  let c128_i32_28 : BitVec 32 := 128#32
  let v243 : BitVec 32 := Scalar.muli v242 c128_i32_28
  ![v243.toNat]

def k0_chk65 (v248 : IVec S16 32) : Prop :=
  (∀ a x, ((![v248] : Fin 1 → IVec S16 32) a x).toNat < S4096.size a)
theorem k0_idx65_inb : ∀ (v248 : IVec S16 32) (k0_hw65 : k0_chk65 v248), ∀ a x, ((![v248] : Fin 1 → IVec S16 32) a x).toNat < S4096.size a := fun v248 k0_hw65 => k0_hw65

def k0_chk66 (v246 : IVec S16 32) : Prop :=
  (∀ a x, ((![v246] : Fin 1 → IVec S16 32) a x).toNat < S32768.size a)
theorem k0_idx66_inb : ∀ (v246 : IVec S16 32) (k0_hw66 : k0_chk66 v246), ∀ a x, ((![v246] : Fin 1 → IVec S16 32) a x).toNat < S32768.size a := fun v246 k0_hw66 => k0_hw66

def k0_chk67 (v254 : IVec S16 32) : Prop :=
  (∀ a x, ((![v254] : Fin 1 → IVec S16 32) a x).toNat < S4096.size a)
theorem k0_idx67_inb : ∀ (v254 : IVec S16 32) (k0_hw67 : k0_chk67 v254), ∀ a x, ((![v254] : Fin 1 → IVec S16 32) a x).toNat < S4096.size a := fun v254 k0_hw67 => k0_hw67

def k0_chk68 (v252 : IVec S16 32) : Prop :=
  (∀ a x, ((![v252] : Fin 1 → IVec S16 32) a x).toNat < S32768.size a)
theorem k0_idx68_inb : ∀ (v252 : IVec S16 32) (k0_hw68 : k0_chk68 v252), ∀ a x, ((![v252] : Fin 1 → IVec S16 32) a x).toNat < S32768.size a := fun v252 k0_hw68 => k0_hw68

def k0_chk69 (v260 : IVec S16 32) : Prop :=
  (∀ a x, ((![v260] : Fin 1 → IVec S16 32) a x).toNat < S4096.size a)
theorem k0_idx69_inb : ∀ (v260 : IVec S16 32) (k0_hw69 : k0_chk69 v260), ∀ a x, ((![v260] : Fin 1 → IVec S16 32) a x).toNat < S4096.size a := fun v260 k0_hw69 => k0_hw69

def k0_chk70 (v258 : IVec S16 32) : Prop :=
  (∀ a x, ((![v258] : Fin 1 → IVec S16 32) a x).toNat < S32768.size a)
theorem k0_idx70_inb : ∀ (v258 : IVec S16 32) (k0_hw70 : k0_chk70 v258), ∀ a x, ((![v258] : Fin 1 → IVec S16 32) a x).toNat < S32768.size a := fun v258 k0_hw70 => k0_hw70

def k0_chk71 (v266 : IVec S16 32) : Prop :=
  (∀ a x, ((![v266] : Fin 1 → IVec S16 32) a x).toNat < S4096.size a)
theorem k0_idx71_inb : ∀ (v266 : IVec S16 32) (k0_hw71 : k0_chk71 v266), ∀ a x, ((![v266] : Fin 1 → IVec S16 32) a x).toNat < S4096.size a := fun v266 k0_hw71 => k0_hw71

def k0_chk72 (v264 : IVec S16 32) : Prop :=
  (∀ a x, ((![v264] : Fin 1 → IVec S16 32) a x).toNat < S32768.size a)
theorem k0_idx72_inb : ∀ (v264 : IVec S16 32) (k0_hw72 : k0_chk72 v264), ∀ a x, ((![v264] : Fin 1 → IVec S16 32) a x).toNat < S32768.size a := fun v264 k0_hw72 => k0_hw72

def k0_chk73 (v272 : IVec S16 32) : Prop :=
  (∀ a x, ((![v272] : Fin 1 → IVec S16 32) a x).toNat < S4096.size a)
theorem k0_idx73_inb : ∀ (v272 : IVec S16 32) (k0_hw73 : k0_chk73 v272), ∀ a x, ((![v272] : Fin 1 → IVec S16 32) a x).toNat < S4096.size a := fun v272 k0_hw73 => k0_hw73

def k0_chk74 (v270 : IVec S16 32) : Prop :=
  (∀ a x, ((![v270] : Fin 1 → IVec S16 32) a x).toNat < S32768.size a)
theorem k0_idx74_inb : ∀ (v270 : IVec S16 32) (k0_hw74 : k0_chk74 v270), ∀ a x, ((![v270] : Fin 1 → IVec S16 32) a x).toNat < S32768.size a := fun v270 k0_hw74 => k0_hw74

def k0_chk75 (v278 : IVec S16 32) : Prop :=
  (∀ a x, ((![v278] : Fin 1 → IVec S16 32) a x).toNat < S4096.size a)
theorem k0_idx75_inb : ∀ (v278 : IVec S16 32) (k0_hw75 : k0_chk75 v278), ∀ a x, ((![v278] : Fin 1 → IVec S16 32) a x).toNat < S4096.size a := fun v278 k0_hw75 => k0_hw75

def k0_chk76 (v276 : IVec S16 32) : Prop :=
  (∀ a x, ((![v276] : Fin 1 → IVec S16 32) a x).toNat < S32768.size a)
theorem k0_idx76_inb : ∀ (v276 : IVec S16 32) (k0_hw76 : k0_chk76 v276), ∀ a x, ((![v276] : Fin 1 → IVec S16 32) a x).toNat < S32768.size a := fun v276 k0_hw76 => k0_hw76

def k0_chk77 (v284 : IVec S16 32) : Prop :=
  (∀ a x, ((![v284] : Fin 1 → IVec S16 32) a x).toNat < S4096.size a)
theorem k0_idx77_inb : ∀ (v284 : IVec S16 32) (k0_hw77 : k0_chk77 v284), ∀ a x, ((![v284] : Fin 1 → IVec S16 32) a x).toNat < S4096.size a := fun v284 k0_hw77 => k0_hw77

def k0_chk78 (v282 : IVec S16 32) : Prop :=
  (∀ a x, ((![v282] : Fin 1 → IVec S16 32) a x).toNat < S32768.size a)
theorem k0_idx78_inb : ∀ (v282 : IVec S16 32) (k0_hw78 : k0_chk78 v282), ∀ a x, ((![v282] : Fin 1 → IVec S16 32) a x).toNat < S32768.size a := fun v282 k0_hw78 => k0_hw78

def k0_chk79 (v290 : IVec S16 32) : Prop :=
  (∀ a x, ((![v290] : Fin 1 → IVec S16 32) a x).toNat < S4096.size a)
theorem k0_idx79_inb : ∀ (v290 : IVec S16 32) (k0_hw79 : k0_chk79 v290), ∀ a x, ((![v290] : Fin 1 → IVec S16 32) a x).toNat < S4096.size a := fun v290 k0_hw79 => k0_hw79

def k0_chk80 (v288 : IVec S16 32) : Prop :=
  (∀ a x, ((![v288] : Fin 1 → IVec S16 32) a x).toNat < S32768.size a)
theorem k0_idx80_inb : ∀ (v288 : IVec S16 32) (k0_hw80 : k0_chk80 v288), ∀ a x, ((![v288] : Fin 1 → IVec S16 32) a x).toNat < S32768.size a := fun v288 k0_hw80 => k0_hw80

def k0_chk81 (v296 : IVec S16 32) : Prop :=
  (∀ a x, ((![v296] : Fin 1 → IVec S16 32) a x).toNat < S4096.size a)
theorem k0_idx81_inb : ∀ (v296 : IVec S16 32) (k0_hw81 : k0_chk81 v296), ∀ a x, ((![v296] : Fin 1 → IVec S16 32) a x).toNat < S4096.size a := fun v296 k0_hw81 => k0_hw81

def k0_chk82 (v294 : IVec S16 32) : Prop :=
  (∀ a x, ((![v294] : Fin 1 → IVec S16 32) a x).toNat < S32768.size a)
theorem k0_idx82_inb : ∀ (v294 : IVec S16 32) (k0_hw82 : k0_chk82 v294), ∀ a x, ((![v294] : Fin 1 → IVec S16 32) a x).toNat < S32768.size a := fun v294 k0_hw82 => k0_hw82

def k0_chk83 (v302 : IVec S16 32) : Prop :=
  (∀ a x, ((![v302] : Fin 1 → IVec S16 32) a x).toNat < S4096.size a)
theorem k0_idx83_inb : ∀ (v302 : IVec S16 32) (k0_hw83 : k0_chk83 v302), ∀ a x, ((![v302] : Fin 1 → IVec S16 32) a x).toNat < S4096.size a := fun v302 k0_hw83 => k0_hw83

def k0_chk84 (v300 : IVec S16 32) : Prop :=
  (∀ a x, ((![v300] : Fin 1 → IVec S16 32) a x).toNat < S32768.size a)
theorem k0_idx84_inb : ∀ (v300 : IVec S16 32) (k0_hw84 : k0_chk84 v300), ∀ a x, ((![v300] : Fin 1 → IVec S16 32) a x).toNat < S32768.size a := fun v300 k0_hw84 => k0_hw84

def k0_chk85 (v308 : IVec S16 32) : Prop :=
  (∀ a x, ((![v308] : Fin 1 → IVec S16 32) a x).toNat < S4096.size a)
theorem k0_idx85_inb : ∀ (v308 : IVec S16 32) (k0_hw85 : k0_chk85 v308), ∀ a x, ((![v308] : Fin 1 → IVec S16 32) a x).toNat < S4096.size a := fun v308 k0_hw85 => k0_hw85

def k0_chk86 (v306 : IVec S16 32) : Prop :=
  (∀ a x, ((![v306] : Fin 1 → IVec S16 32) a x).toNat < S32768.size a)
theorem k0_idx86_inb : ∀ (v306 : IVec S16 32) (k0_hw86 : k0_chk86 v306), ∀ a x, ((![v306] : Fin 1 → IVec S16 32) a x).toNat < S32768.size a := fun v306 k0_hw86 => k0_hw86

def k0_chk87 (v314 : IVec S16 32) : Prop :=
  (∀ a x, ((![v314] : Fin 1 → IVec S16 32) a x).toNat < S4096.size a)
theorem k0_idx87_inb : ∀ (v314 : IVec S16 32) (k0_hw87 : k0_chk87 v314), ∀ a x, ((![v314] : Fin 1 → IVec S16 32) a x).toNat < S4096.size a := fun v314 k0_hw87 => k0_hw87

def k0_chk88 (v312 : IVec S16 32) : Prop :=
  (∀ a x, ((![v312] : Fin 1 → IVec S16 32) a x).toNat < S32768.size a)
theorem k0_idx88_inb : ∀ (v312 : IVec S16 32) (k0_hw88 : k0_chk88 v312), ∀ a x, ((![v312] : Fin 1 → IVec S16 32) a x).toNat < S32768.size a := fun v312 k0_hw88 => k0_hw88

def k0_chk89 (v320 : IVec S16 32) : Prop :=
  (∀ a x, ((![v320] : Fin 1 → IVec S16 32) a x).toNat < S4096.size a)
theorem k0_idx89_inb : ∀ (v320 : IVec S16 32) (k0_hw89 : k0_chk89 v320), ∀ a x, ((![v320] : Fin 1 → IVec S16 32) a x).toNat < S4096.size a := fun v320 k0_hw89 => k0_hw89

def k0_chk90 (v318 : IVec S16 32) : Prop :=
  (∀ a x, ((![v318] : Fin 1 → IVec S16 32) a x).toNat < S32768.size a)
theorem k0_idx90_inb : ∀ (v318 : IVec S16 32) (k0_hw90 : k0_chk90 v318), ∀ a x, ((![v318] : Fin 1 → IVec S16 32) a x).toNat < S32768.size a := fun v318 k0_hw90 => k0_hw90

def k0_chk91 (v326 : IVec S16 32) : Prop :=
  (∀ a x, ((![v326] : Fin 1 → IVec S16 32) a x).toNat < S4096.size a)
theorem k0_idx91_inb : ∀ (v326 : IVec S16 32) (k0_hw91 : k0_chk91 v326), ∀ a x, ((![v326] : Fin 1 → IVec S16 32) a x).toNat < S4096.size a := fun v326 k0_hw91 => k0_hw91

def k0_chk92 (v324 : IVec S16 32) : Prop :=
  (∀ a x, ((![v324] : Fin 1 → IVec S16 32) a x).toNat < S32768.size a)
theorem k0_idx92_inb : ∀ (v324 : IVec S16 32) (k0_hw92 : k0_chk92 v324), ∀ a x, ((![v324] : Fin 1 → IVec S16 32) a x).toNat < S32768.size a := fun v324 k0_hw92 => k0_hw92

def k0_chk93 (v332 : IVec S16 32) : Prop :=
  (∀ a x, ((![v332] : Fin 1 → IVec S16 32) a x).toNat < S4096.size a)
theorem k0_idx93_inb : ∀ (v332 : IVec S16 32) (k0_hw93 : k0_chk93 v332), ∀ a x, ((![v332] : Fin 1 → IVec S16 32) a x).toNat < S4096.size a := fun v332 k0_hw93 => k0_hw93

def k0_chk94 (v330 : IVec S16 32) : Prop :=
  (∀ a x, ((![v330] : Fin 1 → IVec S16 32) a x).toNat < S32768.size a)
theorem k0_idx94_inb : ∀ (v330 : IVec S16 32) (k0_hw94 : k0_chk94 v330), ∀ a x, ((![v330] : Fin 1 → IVec S16 32) a x).toNat < S32768.size a := fun v330 k0_hw94 => k0_hw94

def k0_chk95 (v338 : IVec S16 32) : Prop :=
  (∀ a x, ((![v338] : Fin 1 → IVec S16 32) a x).toNat < S4096.size a)
theorem k0_idx95_inb : ∀ (v338 : IVec S16 32) (k0_hw95 : k0_chk95 v338), ∀ a x, ((![v338] : Fin 1 → IVec S16 32) a x).toNat < S4096.size a := fun v338 k0_hw95 => k0_hw95

def k0_chk96 (v336 : IVec S16 32) : Prop :=
  (∀ a x, ((![v336] : Fin 1 → IVec S16 32) a x).toNat < S32768.size a)
theorem k0_idx96_inb : ∀ (v336 : IVec S16 32) (k0_hw96 : k0_chk96 v336), ∀ a x, ((![v336] : Fin 1 → IVec S16 32) a x).toNat < S32768.size a := fun v336 k0_hw96 => k0_hw96

def k0_chk97 (v344 : IVec S16 32) : Prop :=
  (∀ a x, ((![v344] : Fin 1 → IVec S16 32) a x).toNat < S4096.size a)
theorem k0_idx97_inb : ∀ (v344 : IVec S16 32) (k0_hw97 : k0_chk97 v344), ∀ a x, ((![v344] : Fin 1 → IVec S16 32) a x).toNat < S4096.size a := fun v344 k0_hw97 => k0_hw97

def k0_chk98 (v342 : IVec S16 32) : Prop :=
  (∀ a x, ((![v342] : Fin 1 → IVec S16 32) a x).toNat < S32768.size a)
theorem k0_idx98_inb : ∀ (v342 : IVec S16 32) (k0_hw98 : k0_chk98 v342), ∀ a x, ((![v342] : Fin 1 → IVec S16 32) a x).toNat < S32768.size a := fun v342 k0_hw98 => k0_hw98

def k0_chk99 (v350 : IVec S16 32) : Prop :=
  (∀ a x, ((![v350] : Fin 1 → IVec S16 32) a x).toNat < S4096.size a)
theorem k0_idx99_inb : ∀ (v350 : IVec S16 32) (k0_hw99 : k0_chk99 v350), ∀ a x, ((![v350] : Fin 1 → IVec S16 32) a x).toNat < S4096.size a := fun v350 k0_hw99 => k0_hw99

def k0_chk100 (v348 : IVec S16 32) : Prop :=
  (∀ a x, ((![v348] : Fin 1 → IVec S16 32) a x).toNat < S32768.size a)
theorem k0_idx100_inb : ∀ (v348 : IVec S16 32) (k0_hw100 : k0_chk100 v348), ∀ a x, ((![v348] : Fin 1 → IVec S16 32) a x).toNat < S32768.size a := fun v348 k0_hw100 => k0_hw100

def k0_chk101 (v356 : IVec S16 32) : Prop :=
  (∀ a x, ((![v356] : Fin 1 → IVec S16 32) a x).toNat < S4096.size a)
theorem k0_idx101_inb : ∀ (v356 : IVec S16 32) (k0_hw101 : k0_chk101 v356), ∀ a x, ((![v356] : Fin 1 → IVec S16 32) a x).toNat < S4096.size a := fun v356 k0_hw101 => k0_hw101

def k0_chk102 (v354 : IVec S16 32) : Prop :=
  (∀ a x, ((![v354] : Fin 1 → IVec S16 32) a x).toNat < S32768.size a)
theorem k0_idx102_inb : ∀ (v354 : IVec S16 32) (k0_hw102 : k0_chk102 v354), ∀ a x, ((![v354] : Fin 1 → IVec S16 32) a x).toNat < S32768.size a := fun v354 k0_hw102 => k0_hw102

def k0_chk103 (v362 : IVec S16 32) : Prop :=
  (∀ a x, ((![v362] : Fin 1 → IVec S16 32) a x).toNat < S4096.size a)
theorem k0_idx103_inb : ∀ (v362 : IVec S16 32) (k0_hw103 : k0_chk103 v362), ∀ a x, ((![v362] : Fin 1 → IVec S16 32) a x).toNat < S4096.size a := fun v362 k0_hw103 => k0_hw103

def k0_chk104 (v360 : IVec S16 32) : Prop :=
  (∀ a x, ((![v360] : Fin 1 → IVec S16 32) a x).toNat < S32768.size a)
theorem k0_idx104_inb : ∀ (v360 : IVec S16 32) (k0_hw104 : k0_chk104 v360), ∀ a x, ((![v360] : Fin 1 → IVec S16 32) a x).toNat < S32768.size a := fun v360 k0_hw104 => k0_hw104

def k0_chk105 (v368 : IVec S16 32) : Prop :=
  (∀ a x, ((![v368] : Fin 1 → IVec S16 32) a x).toNat < S4096.size a)
theorem k0_idx105_inb : ∀ (v368 : IVec S16 32) (k0_hw105 : k0_chk105 v368), ∀ a x, ((![v368] : Fin 1 → IVec S16 32) a x).toNat < S4096.size a := fun v368 k0_hw105 => k0_hw105

def k0_chk106 (v366 : IVec S16 32) : Prop :=
  (∀ a x, ((![v366] : Fin 1 → IVec S16 32) a x).toNat < S32768.size a)
theorem k0_idx106_inb : ∀ (v366 : IVec S16 32) (k0_hw106 : k0_chk106 v366), ∀ a x, ((![v366] : Fin 1 → IVec S16 32) a x).toNat < S32768.size a := fun v366 k0_hw106 => k0_hw106

def k0_chk107 (v374 : IVec S16 32) : Prop :=
  (∀ a x, ((![v374] : Fin 1 → IVec S16 32) a x).toNat < S4096.size a)
theorem k0_idx107_inb : ∀ (v374 : IVec S16 32) (k0_hw107 : k0_chk107 v374), ∀ a x, ((![v374] : Fin 1 → IVec S16 32) a x).toNat < S4096.size a := fun v374 k0_hw107 => k0_hw107

def k0_chk108 (v372 : IVec S16 32) : Prop :=
  (∀ a x, ((![v372] : Fin 1 → IVec S16 32) a x).toNat < S32768.size a)
theorem k0_idx108_inb : ∀ (v372 : IVec S16 32) (k0_hw108 : k0_chk108 v372), ∀ a x, ((![v372] : Fin 1 → IVec S16 32) a x).toNat < S32768.size a := fun v372 k0_hw108 => k0_hw108

def k0_chk109 (v380 : IVec S16 32) : Prop :=
  (∀ a x, ((![v380] : Fin 1 → IVec S16 32) a x).toNat < S4096.size a)
theorem k0_idx109_inb : ∀ (v380 : IVec S16 32) (k0_hw109 : k0_chk109 v380), ∀ a x, ((![v380] : Fin 1 → IVec S16 32) a x).toNat < S4096.size a := fun v380 k0_hw109 => k0_hw109

def k0_chk110 (v378 : IVec S16 32) : Prop :=
  (∀ a x, ((![v378] : Fin 1 → IVec S16 32) a x).toNat < S32768.size a)
theorem k0_idx110_inb : ∀ (v378 : IVec S16 32) (k0_hw110 : k0_chk110 v378), ∀ a x, ((![v378] : Fin 1 → IVec S16 32) a x).toNat < S32768.size a := fun v378 k0_hw110 => k0_hw110

def k0_chk111 (v386 : IVec S16 32) : Prop :=
  (∀ a x, ((![v386] : Fin 1 → IVec S16 32) a x).toNat < S4096.size a)
theorem k0_idx111_inb : ∀ (v386 : IVec S16 32) (k0_hw111 : k0_chk111 v386), ∀ a x, ((![v386] : Fin 1 → IVec S16 32) a x).toNat < S4096.size a := fun v386 k0_hw111 => k0_hw111

def k0_chk112 (v384 : IVec S16 32) : Prop :=
  (∀ a x, ((![v384] : Fin 1 → IVec S16 32) a x).toNat < S32768.size a)
theorem k0_idx112_inb : ∀ (v384 : IVec S16 32) (k0_hw112 : k0_chk112 v384), ∀ a x, ((![v384] : Fin 1 → IVec S16 32) a x).toNat < S32768.size a := fun v384 k0_hw112 => k0_hw112

def k0_chk113 (v392 : IVec S16 32) : Prop :=
  (∀ a x, ((![v392] : Fin 1 → IVec S16 32) a x).toNat < S4096.size a)
theorem k0_idx113_inb : ∀ (v392 : IVec S16 32) (k0_hw113 : k0_chk113 v392), ∀ a x, ((![v392] : Fin 1 → IVec S16 32) a x).toNat < S4096.size a := fun v392 k0_hw113 => k0_hw113

def k0_chk114 (v390 : IVec S16 32) : Prop :=
  (∀ a x, ((![v390] : Fin 1 → IVec S16 32) a x).toNat < S32768.size a)
theorem k0_idx114_inb : ∀ (v390 : IVec S16 32) (k0_hw114 : k0_chk114 v390), ∀ a x, ((![v390] : Fin 1 → IVec S16 32) a x).toNat < S32768.size a := fun v390 k0_hw114 => k0_hw114

def k0_chk115 (v398 : IVec S16 32) : Prop :=
  (∀ a x, ((![v398] : Fin 1 → IVec S16 32) a x).toNat < S4096.size a)
theorem k0_idx115_inb : ∀ (v398 : IVec S16 32) (k0_hw115 : k0_chk115 v398), ∀ a x, ((![v398] : Fin 1 → IVec S16 32) a x).toNat < S4096.size a := fun v398 k0_hw115 => k0_hw115

def k0_chk116 (v396 : IVec S16 32) : Prop :=
  (∀ a x, ((![v396] : Fin 1 → IVec S16 32) a x).toNat < S32768.size a)
theorem k0_idx116_inb : ∀ (v396 : IVec S16 32) (k0_hw116 : k0_chk116 v396), ∀ a x, ((![v396] : Fin 1 → IVec S16 32) a x).toNat < S32768.size a := fun v396 k0_hw116 => k0_hw116

def k0_chk117 (v404 : IVec S16 32) : Prop :=
  (∀ a x, ((![v404] : Fin 1 → IVec S16 32) a x).toNat < S4096.size a)
theorem k0_idx117_inb : ∀ (v404 : IVec S16 32) (k0_hw117 : k0_chk117 v404), ∀ a x, ((![v404] : Fin 1 → IVec S16 32) a x).toNat < S4096.size a := fun v404 k0_hw117 => k0_hw117

def k0_chk118 (v402 : IVec S16 32) : Prop :=
  (∀ a x, ((![v402] : Fin 1 → IVec S16 32) a x).toNat < S32768.size a)
theorem k0_idx118_inb : ∀ (v402 : IVec S16 32) (k0_hw118 : k0_chk118 v402), ∀ a x, ((![v402] : Fin 1 → IVec S16 32) a x).toNat < S32768.size a := fun v402 k0_hw118 => k0_hw118

def k0_chk119 (v410 : IVec S16 32) : Prop :=
  (∀ a x, ((![v410] : Fin 1 → IVec S16 32) a x).toNat < S4096.size a)
theorem k0_idx119_inb : ∀ (v410 : IVec S16 32) (k0_hw119 : k0_chk119 v410), ∀ a x, ((![v410] : Fin 1 → IVec S16 32) a x).toNat < S4096.size a := fun v410 k0_hw119 => k0_hw119

def k0_chk120 (v408 : IVec S16 32) : Prop :=
  (∀ a x, ((![v408] : Fin 1 → IVec S16 32) a x).toNat < S32768.size a)
theorem k0_idx120_inb : ∀ (v408 : IVec S16 32) (k0_hw120 : k0_chk120 v408), ∀ a x, ((![v408] : Fin 1 → IVec S16 32) a x).toNat < S32768.size a := fun v408 k0_hw120 => k0_hw120

def k0_chk121 (v416 : IVec S16 32) : Prop :=
  (∀ a x, ((![v416] : Fin 1 → IVec S16 32) a x).toNat < S4096.size a)
theorem k0_idx121_inb : ∀ (v416 : IVec S16 32) (k0_hw121 : k0_chk121 v416), ∀ a x, ((![v416] : Fin 1 → IVec S16 32) a x).toNat < S4096.size a := fun v416 k0_hw121 => k0_hw121

def k0_chk122 (v414 : IVec S16 32) : Prop :=
  (∀ a x, ((![v414] : Fin 1 → IVec S16 32) a x).toNat < S32768.size a)
theorem k0_idx122_inb : ∀ (v414 : IVec S16 32) (k0_hw122 : k0_chk122 v414), ∀ a x, ((![v414] : Fin 1 → IVec S16 32) a x).toNat < S32768.size a := fun v414 k0_hw122 => k0_hw122

def k0_chk123 (v422 : IVec S16 32) : Prop :=
  (∀ a x, ((![v422] : Fin 1 → IVec S16 32) a x).toNat < S4096.size a)
theorem k0_idx123_inb : ∀ (v422 : IVec S16 32) (k0_hw123 : k0_chk123 v422), ∀ a x, ((![v422] : Fin 1 → IVec S16 32) a x).toNat < S4096.size a := fun v422 k0_hw123 => k0_hw123

def k0_chk124 (v420 : IVec S16 32) : Prop :=
  (∀ a x, ((![v420] : Fin 1 → IVec S16 32) a x).toNat < S32768.size a)
theorem k0_idx124_inb : ∀ (v420 : IVec S16 32) (k0_hw124 : k0_chk124 v420), ∀ a x, ((![v420] : Fin 1 → IVec S16 32) a x).toNat < S32768.size a := fun v420 k0_hw124 => k0_hw124

def k0_chk125 (v428 : IVec S16 32) : Prop :=
  (∀ a x, ((![v428] : Fin 1 → IVec S16 32) a x).toNat < S4096.size a)
theorem k0_idx125_inb : ∀ (v428 : IVec S16 32) (k0_hw125 : k0_chk125 v428), ∀ a x, ((![v428] : Fin 1 → IVec S16 32) a x).toNat < S4096.size a := fun v428 k0_hw125 => k0_hw125

def k0_chk126 (v426 : IVec S16 32) : Prop :=
  (∀ a x, ((![v426] : Fin 1 → IVec S16 32) a x).toNat < S32768.size a)
theorem k0_idx126_inb : ∀ (v426 : IVec S16 32) (k0_hw126 : k0_chk126 v426), ∀ a x, ((![v426] : Fin 1 → IVec S16 32) a x).toNat < S32768.size a := fun v426 k0_hw126 => k0_hw126

def k0_chk127 (v434 : IVec S16 32) : Prop :=
  (∀ a x, ((![v434] : Fin 1 → IVec S16 32) a x).toNat < S4096.size a)
theorem k0_idx127_inb : ∀ (v434 : IVec S16 32) (k0_hw127 : k0_chk127 v434), ∀ a x, ((![v434] : Fin 1 → IVec S16 32) a x).toNat < S4096.size a := fun v434 k0_hw127 => k0_hw127

def k0_chk128 (v432 : IVec S16 32) : Prop :=
  (∀ a x, ((![v432] : Fin 1 → IVec S16 32) a x).toNat < S32768.size a)
theorem k0_idx128_inb : ∀ (v432 : IVec S16 32) (k0_hw128 : k0_chk128 v432), ∀ a x, ((![v432] : Fin 1 → IVec S16 32) a x).toNat < S32768.size a := fun v432 k0_hw128 => k0_hw128
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_125 : BitVec 32 := 1024#32
  let v436 : BitVec 32 := Scalar.muli v1 c1024_i32_125
  let c32_i32_126 : BitVec 32 := 32#32
  let v437 : BitVec 32 := Scalar.addi v436 c32_i32_126
  let c1024_i32_127 : BitVec 32 := 1024#32
  let v438 : BitVec 32 := Scalar.muli v437 c1024_i32_127
  ![v438.toNat]
@[reducible] def k0_t1_loop : Scf.Loop 32 :=
  let c1_i32_129 : BitVec 32 := 1#32
  let c15_i32 : BitVec 32 := 15#32
  let v441 : BitVec 32 := Scalar.addi c1_i32_129 c15_i32
  let c1_i32_130 : BitVec 32 := 1#32
  ⟨c1_i32_129, v441, c1_i32_130⟩
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_136 : BitVec 32 := 1024#32
  let v451 : BitVec 32 := Scalar.muli v1 c1024_i32_136
  let c1024_i32_137 : BitVec 32 := 1024#32
  let v452 : BitVec 32 := Scalar.muli v451 c1024_i32_137
  ![v452.toNat]

def k0_chk129 (v457 : IVec S16 32) : Prop :=
  (∀ a x, ((![v457] : Fin 1 → IVec S16 32) a x).toNat < S32768.size a)
theorem k0_idx129_inb : ∀ (v457 : IVec S16 32) (k0_hw129 : k0_chk129 v457), ∀ a x, ((![v457] : Fin 1 → IVec S16 32) a x).toNat < S32768.size a := fun v457 k0_hw129 => k0_hw129

def k0_chk130 (v460 : IVec S16 32) : Prop :=
  (∀ a x, ((![v460] : Fin 1 → IVec S16 32) a x).toNat < S32768.size a)
theorem k0_idx130_inb : ∀ (v460 : IVec S16 32) (k0_hw130 : k0_chk130 v460), ∀ a x, ((![v460] : Fin 1 → IVec S16 32) a x).toNat < S32768.size a := fun v460 k0_hw130 => k0_hw130

def k0_chk131 (v463 : IVec S16 32) : Prop :=
  (∀ a x, ((![v463] : Fin 1 → IVec S16 32) a x).toNat < S32768.size a)
theorem k0_idx131_inb : ∀ (v463 : IVec S16 32) (k0_hw131 : k0_chk131 v463), ∀ a x, ((![v463] : Fin 1 → IVec S16 32) a x).toNat < S32768.size a := fun v463 k0_hw131 => k0_hw131

def k0_chk132 (v466 : IVec S16 32) : Prop :=
  (∀ a x, ((![v466] : Fin 1 → IVec S16 32) a x).toNat < S32768.size a)
theorem k0_idx132_inb : ∀ (v466 : IVec S16 32) (k0_hw132 : k0_chk132 v466), ∀ a x, ((![v466] : Fin 1 → IVec S16 32) a x).toNat < S32768.size a := fun v466 k0_hw132 => k0_hw132

def k0_chk133 (v469 : IVec S16 32) : Prop :=
  (∀ a x, ((![v469] : Fin 1 → IVec S16 32) a x).toNat < S32768.size a)
theorem k0_idx133_inb : ∀ (v469 : IVec S16 32) (k0_hw133 : k0_chk133 v469), ∀ a x, ((![v469] : Fin 1 → IVec S16 32) a x).toNat < S32768.size a := fun v469 k0_hw133 => k0_hw133

def k0_chk134 (v472 : IVec S16 32) : Prop :=
  (∀ a x, ((![v472] : Fin 1 → IVec S16 32) a x).toNat < S32768.size a)
theorem k0_idx134_inb : ∀ (v472 : IVec S16 32) (k0_hw134 : k0_chk134 v472), ∀ a x, ((![v472] : Fin 1 → IVec S16 32) a x).toNat < S32768.size a := fun v472 k0_hw134 => k0_hw134

def k0_chk135 (v475 : IVec S16 32) : Prop :=
  (∀ a x, ((![v475] : Fin 1 → IVec S16 32) a x).toNat < S32768.size a)
theorem k0_idx135_inb : ∀ (v475 : IVec S16 32) (k0_hw135 : k0_chk135 v475), ∀ a x, ((![v475] : Fin 1 → IVec S16 32) a x).toNat < S32768.size a := fun v475 k0_hw135 => k0_hw135

def k0_chk136 (v478 : IVec S16 32) : Prop :=
  (∀ a x, ((![v478] : Fin 1 → IVec S16 32) a x).toNat < S32768.size a)
theorem k0_idx136_inb : ∀ (v478 : IVec S16 32) (k0_hw136 : k0_chk136 v478), ∀ a x, ((![v478] : Fin 1 → IVec S16 32) a x).toNat < S32768.size a := fun v478 k0_hw136 => k0_hw136

def k0_chk137 (v481 : IVec S16 32) : Prop :=
  (∀ a x, ((![v481] : Fin 1 → IVec S16 32) a x).toNat < S32768.size a)
theorem k0_idx137_inb : ∀ (v481 : IVec S16 32) (k0_hw137 : k0_chk137 v481), ∀ a x, ((![v481] : Fin 1 → IVec S16 32) a x).toNat < S32768.size a := fun v481 k0_hw137 => k0_hw137

def k0_chk138 (v484 : IVec S16 32) : Prop :=
  (∀ a x, ((![v484] : Fin 1 → IVec S16 32) a x).toNat < S32768.size a)
theorem k0_idx138_inb : ∀ (v484 : IVec S16 32) (k0_hw138 : k0_chk138 v484), ∀ a x, ((![v484] : Fin 1 → IVec S16 32) a x).toNat < S32768.size a := fun v484 k0_hw138 => k0_hw138

def k0_chk139 (v487 : IVec S16 32) : Prop :=
  (∀ a x, ((![v487] : Fin 1 → IVec S16 32) a x).toNat < S32768.size a)
theorem k0_idx139_inb : ∀ (v487 : IVec S16 32) (k0_hw139 : k0_chk139 v487), ∀ a x, ((![v487] : Fin 1 → IVec S16 32) a x).toNat < S32768.size a := fun v487 k0_hw139 => k0_hw139

def k0_chk140 (v490 : IVec S16 32) : Prop :=
  (∀ a x, ((![v490] : Fin 1 → IVec S16 32) a x).toNat < S32768.size a)
theorem k0_idx140_inb : ∀ (v490 : IVec S16 32) (k0_hw140 : k0_chk140 v490), ∀ a x, ((![v490] : Fin 1 → IVec S16 32) a x).toNat < S32768.size a := fun v490 k0_hw140 => k0_hw140

def k0_chk141 (v493 : IVec S16 32) : Prop :=
  (∀ a x, ((![v493] : Fin 1 → IVec S16 32) a x).toNat < S32768.size a)
theorem k0_idx141_inb : ∀ (v493 : IVec S16 32) (k0_hw141 : k0_chk141 v493), ∀ a x, ((![v493] : Fin 1 → IVec S16 32) a x).toNat < S32768.size a := fun v493 k0_hw141 => k0_hw141

def k0_chk142 (v496 : IVec S16 32) : Prop :=
  (∀ a x, ((![v496] : Fin 1 → IVec S16 32) a x).toNat < S32768.size a)
theorem k0_idx142_inb : ∀ (v496 : IVec S16 32) (k0_hw142 : k0_chk142 v496), ∀ a x, ((![v496] : Fin 1 → IVec S16 32) a x).toNat < S32768.size a := fun v496 k0_hw142 => k0_hw142

def k0_chk143 (v499 : IVec S16 32) : Prop :=
  (∀ a x, ((![v499] : Fin 1 → IVec S16 32) a x).toNat < S32768.size a)
theorem k0_idx143_inb : ∀ (v499 : IVec S16 32) (k0_hw143 : k0_chk143 v499), ∀ a x, ((![v499] : Fin 1 → IVec S16 32) a x).toNat < S32768.size a := fun v499 k0_hw143 => k0_hw143

def k0_chk144 (v502 : IVec S16 32) : Prop :=
  (∀ a x, ((![v502] : Fin 1 → IVec S16 32) a x).toNat < S32768.size a)
theorem k0_idx144_inb : ∀ (v502 : IVec S16 32) (k0_hw144 : k0_chk144 v502), ∀ a x, ((![v502] : Fin 1 → IVec S16 32) a x).toNat < S32768.size a := fun v502 k0_hw144 => k0_hw144

def k0_chk145 (v505 : IVec S16 32) : Prop :=
  (∀ a x, ((![v505] : Fin 1 → IVec S16 32) a x).toNat < S32768.size a)
theorem k0_idx145_inb : ∀ (v505 : IVec S16 32) (k0_hw145 : k0_chk145 v505), ∀ a x, ((![v505] : Fin 1 → IVec S16 32) a x).toNat < S32768.size a := fun v505 k0_hw145 => k0_hw145

def k0_chk146 (v508 : IVec S16 32) : Prop :=
  (∀ a x, ((![v508] : Fin 1 → IVec S16 32) a x).toNat < S32768.size a)
theorem k0_idx146_inb : ∀ (v508 : IVec S16 32) (k0_hw146 : k0_chk146 v508), ∀ a x, ((![v508] : Fin 1 → IVec S16 32) a x).toNat < S32768.size a := fun v508 k0_hw146 => k0_hw146

def k0_chk147 (v511 : IVec S16 32) : Prop :=
  (∀ a x, ((![v511] : Fin 1 → IVec S16 32) a x).toNat < S32768.size a)
theorem k0_idx147_inb : ∀ (v511 : IVec S16 32) (k0_hw147 : k0_chk147 v511), ∀ a x, ((![v511] : Fin 1 → IVec S16 32) a x).toNat < S32768.size a := fun v511 k0_hw147 => k0_hw147

def k0_chk148 (v514 : IVec S16 32) : Prop :=
  (∀ a x, ((![v514] : Fin 1 → IVec S16 32) a x).toNat < S32768.size a)
theorem k0_idx148_inb : ∀ (v514 : IVec S16 32) (k0_hw148 : k0_chk148 v514), ∀ a x, ((![v514] : Fin 1 → IVec S16 32) a x).toNat < S32768.size a := fun v514 k0_hw148 => k0_hw148

def k0_chk149 (v517 : IVec S16 32) : Prop :=
  (∀ a x, ((![v517] : Fin 1 → IVec S16 32) a x).toNat < S32768.size a)
theorem k0_idx149_inb : ∀ (v517 : IVec S16 32) (k0_hw149 : k0_chk149 v517), ∀ a x, ((![v517] : Fin 1 → IVec S16 32) a x).toNat < S32768.size a := fun v517 k0_hw149 => k0_hw149

def k0_chk150 (v520 : IVec S16 32) : Prop :=
  (∀ a x, ((![v520] : Fin 1 → IVec S16 32) a x).toNat < S32768.size a)
theorem k0_idx150_inb : ∀ (v520 : IVec S16 32) (k0_hw150 : k0_chk150 v520), ∀ a x, ((![v520] : Fin 1 → IVec S16 32) a x).toNat < S32768.size a := fun v520 k0_hw150 => k0_hw150

def k0_chk151 (v523 : IVec S16 32) : Prop :=
  (∀ a x, ((![v523] : Fin 1 → IVec S16 32) a x).toNat < S32768.size a)
theorem k0_idx151_inb : ∀ (v523 : IVec S16 32) (k0_hw151 : k0_chk151 v523), ∀ a x, ((![v523] : Fin 1 → IVec S16 32) a x).toNat < S32768.size a := fun v523 k0_hw151 => k0_hw151

def k0_chk152 (v526 : IVec S16 32) : Prop :=
  (∀ a x, ((![v526] : Fin 1 → IVec S16 32) a x).toNat < S32768.size a)
theorem k0_idx152_inb : ∀ (v526 : IVec S16 32) (k0_hw152 : k0_chk152 v526), ∀ a x, ((![v526] : Fin 1 → IVec S16 32) a x).toNat < S32768.size a := fun v526 k0_hw152 => k0_hw152

def k0_chk153 (v529 : IVec S16 32) : Prop :=
  (∀ a x, ((![v529] : Fin 1 → IVec S16 32) a x).toNat < S32768.size a)
theorem k0_idx153_inb : ∀ (v529 : IVec S16 32) (k0_hw153 : k0_chk153 v529), ∀ a x, ((![v529] : Fin 1 → IVec S16 32) a x).toNat < S32768.size a := fun v529 k0_hw153 => k0_hw153

def k0_chk154 (v532 : IVec S16 32) : Prop :=
  (∀ a x, ((![v532] : Fin 1 → IVec S16 32) a x).toNat < S32768.size a)
theorem k0_idx154_inb : ∀ (v532 : IVec S16 32) (k0_hw154 : k0_chk154 v532), ∀ a x, ((![v532] : Fin 1 → IVec S16 32) a x).toNat < S32768.size a := fun v532 k0_hw154 => k0_hw154

def k0_chk155 (v535 : IVec S16 32) : Prop :=
  (∀ a x, ((![v535] : Fin 1 → IVec S16 32) a x).toNat < S32768.size a)
theorem k0_idx155_inb : ∀ (v535 : IVec S16 32) (k0_hw155 : k0_chk155 v535), ∀ a x, ((![v535] : Fin 1 → IVec S16 32) a x).toNat < S32768.size a := fun v535 k0_hw155 => k0_hw155

def k0_chk156 (v538 : IVec S16 32) : Prop :=
  (∀ a x, ((![v538] : Fin 1 → IVec S16 32) a x).toNat < S32768.size a)
theorem k0_idx156_inb : ∀ (v538 : IVec S16 32) (k0_hw156 : k0_chk156 v538), ∀ a x, ((![v538] : Fin 1 → IVec S16 32) a x).toNat < S32768.size a := fun v538 k0_hw156 => k0_hw156

def k0_chk157 (v541 : IVec S16 32) : Prop :=
  (∀ a x, ((![v541] : Fin 1 → IVec S16 32) a x).toNat < S32768.size a)
theorem k0_idx157_inb : ∀ (v541 : IVec S16 32) (k0_hw157 : k0_chk157 v541), ∀ a x, ((![v541] : Fin 1 → IVec S16 32) a x).toNat < S32768.size a := fun v541 k0_hw157 => k0_hw157

def k0_chk158 (v544 : IVec S16 32) : Prop :=
  (∀ a x, ((![v544] : Fin 1 → IVec S16 32) a x).toNat < S32768.size a)
theorem k0_idx158_inb : ∀ (v544 : IVec S16 32) (k0_hw158 : k0_chk158 v544), ∀ a x, ((![v544] : Fin 1 → IVec S16 32) a x).toNat < S32768.size a := fun v544 k0_hw158 => k0_hw158

def k0_chk159 (v547 : IVec S16 32) : Prop :=
  (∀ a x, ((![v547] : Fin 1 → IVec S16 32) a x).toNat < S32768.size a)
theorem k0_idx159_inb : ∀ (v547 : IVec S16 32) (k0_hw159 : k0_chk159 v547), ∀ a x, ((![v547] : Fin 1 → IVec S16 32) a x).toNat < S32768.size a := fun v547 k0_hw159 => k0_hw159

def k0_chk160 (v550 : IVec S16 32) : Prop :=
  (∀ a x, ((![v550] : Fin 1 → IVec S16 32) a x).toNat < S32768.size a)
theorem k0_idx160_inb : ∀ (v550 : IVec S16 32) (k0_hw160 : k0_chk160 v550), ∀ a x, ((![v550] : Fin 1 → IVec S16 32) a x).toNat < S32768.size a := fun v550 k0_hw160 => k0_hw160
def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1024_i32_204 : BitVec 32 := 1024#32
  let v553 : BitVec 32 := Scalar.muli v18 c1024_i32_204
  let c2_i32_202 : BitVec 32 := 2#32
  let c1_i32_129 : BitVec 32 := 1#32
  let c1_i32_130 : BitVec 32 := 1#32
  let arg13 : BitVec 32 := Scf.iv c1_i32_129 c1_i32_130 k0_t1
  let v551 : BitVec 32 := Scalar.muli c2_i32_202 arg13
  let c32_i32_203 : BitVec 32 := 32#32
  let v552 : BitVec 32 := Scalar.muli v551 c32_i32_203
  let v554 : BitVec 32 := Scalar.addi v553 v552
  let c16_i32_205 : BitVec 32 := 16#32
  let v555 : BitVec 32 := Scalar.muli v554 c16_i32_205
  ![v555.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1024_i32_206 : BitVec 32 := 1024#32
  let v556 : BitVec 32 := Scalar.muli v18 c1024_i32_206
  let c2_i32_202 : BitVec 32 := 2#32
  let c1_i32_129 : BitVec 32 := 1#32
  let c1_i32_130 : BitVec 32 := 1#32
  let arg13 : BitVec 32 := Scf.iv c1_i32_129 c1_i32_130 k0_t1
  let v551 : BitVec 32 := Scalar.muli c2_i32_202 arg13
  let c32_i32_203 : BitVec 32 := 32#32
  let v552 : BitVec 32 := Scalar.muli v551 c32_i32_203
  let v557 : BitVec 32 := Scalar.addi v556 v552
  let c128_i32_207 : BitVec 32 := 128#32
  let v558 : BitVec 32 := Scalar.muli v557 c128_i32_207
  ![v558.toNat]

def k0_chk161 (v563 : IVec S16 32) : Prop :=
  (∀ a x, ((![v563] : Fin 1 → IVec S16 32) a x).toNat < S4096.size a)
theorem k0_idx161_inb : ∀ (v563 : IVec S16 32) (k0_hw161 : k0_chk161 v563), ∀ a x, ((![v563] : Fin 1 → IVec S16 32) a x).toNat < S4096.size a := fun v563 k0_hw161 => k0_hw161

def k0_chk162 (v561 : IVec S16 32) : Prop :=
  (∀ a x, ((![v561] : Fin 1 → IVec S16 32) a x).toNat < S32768.size a)
theorem k0_idx162_inb : ∀ (v561 : IVec S16 32) (k0_hw162 : k0_chk162 v561), ∀ a x, ((![v561] : Fin 1 → IVec S16 32) a x).toNat < S32768.size a := fun v561 k0_hw162 => k0_hw162

def k0_chk163 (v569 : IVec S16 32) : Prop :=
  (∀ a x, ((![v569] : Fin 1 → IVec S16 32) a x).toNat < S4096.size a)
theorem k0_idx163_inb : ∀ (v569 : IVec S16 32) (k0_hw163 : k0_chk163 v569), ∀ a x, ((![v569] : Fin 1 → IVec S16 32) a x).toNat < S4096.size a := fun v569 k0_hw163 => k0_hw163

def k0_chk164 (v567 : IVec S16 32) : Prop :=
  (∀ a x, ((![v567] : Fin 1 → IVec S16 32) a x).toNat < S32768.size a)
theorem k0_idx164_inb : ∀ (v567 : IVec S16 32) (k0_hw164 : k0_chk164 v567), ∀ a x, ((![v567] : Fin 1 → IVec S16 32) a x).toNat < S32768.size a := fun v567 k0_hw164 => k0_hw164

def k0_chk165 (v575 : IVec S16 32) : Prop :=
  (∀ a x, ((![v575] : Fin 1 → IVec S16 32) a x).toNat < S4096.size a)
theorem k0_idx165_inb : ∀ (v575 : IVec S16 32) (k0_hw165 : k0_chk165 v575), ∀ a x, ((![v575] : Fin 1 → IVec S16 32) a x).toNat < S4096.size a := fun v575 k0_hw165 => k0_hw165

def k0_chk166 (v573 : IVec S16 32) : Prop :=
  (∀ a x, ((![v573] : Fin 1 → IVec S16 32) a x).toNat < S32768.size a)
theorem k0_idx166_inb : ∀ (v573 : IVec S16 32) (k0_hw166 : k0_chk166 v573), ∀ a x, ((![v573] : Fin 1 → IVec S16 32) a x).toNat < S32768.size a := fun v573 k0_hw166 => k0_hw166

def k0_chk167 (v581 : IVec S16 32) : Prop :=
  (∀ a x, ((![v581] : Fin 1 → IVec S16 32) a x).toNat < S4096.size a)
theorem k0_idx167_inb : ∀ (v581 : IVec S16 32) (k0_hw167 : k0_chk167 v581), ∀ a x, ((![v581] : Fin 1 → IVec S16 32) a x).toNat < S4096.size a := fun v581 k0_hw167 => k0_hw167

def k0_chk168 (v579 : IVec S16 32) : Prop :=
  (∀ a x, ((![v579] : Fin 1 → IVec S16 32) a x).toNat < S32768.size a)
theorem k0_idx168_inb : ∀ (v579 : IVec S16 32) (k0_hw168 : k0_chk168 v579), ∀ a x, ((![v579] : Fin 1 → IVec S16 32) a x).toNat < S32768.size a := fun v579 k0_hw168 => k0_hw168

def k0_chk169 (v587 : IVec S16 32) : Prop :=
  (∀ a x, ((![v587] : Fin 1 → IVec S16 32) a x).toNat < S4096.size a)
theorem k0_idx169_inb : ∀ (v587 : IVec S16 32) (k0_hw169 : k0_chk169 v587), ∀ a x, ((![v587] : Fin 1 → IVec S16 32) a x).toNat < S4096.size a := fun v587 k0_hw169 => k0_hw169

def k0_chk170 (v585 : IVec S16 32) : Prop :=
  (∀ a x, ((![v585] : Fin 1 → IVec S16 32) a x).toNat < S32768.size a)
theorem k0_idx170_inb : ∀ (v585 : IVec S16 32) (k0_hw170 : k0_chk170 v585), ∀ a x, ((![v585] : Fin 1 → IVec S16 32) a x).toNat < S32768.size a := fun v585 k0_hw170 => k0_hw170

def k0_chk171 (v593 : IVec S16 32) : Prop :=
  (∀ a x, ((![v593] : Fin 1 → IVec S16 32) a x).toNat < S4096.size a)
theorem k0_idx171_inb : ∀ (v593 : IVec S16 32) (k0_hw171 : k0_chk171 v593), ∀ a x, ((![v593] : Fin 1 → IVec S16 32) a x).toNat < S4096.size a := fun v593 k0_hw171 => k0_hw171

def k0_chk172 (v591 : IVec S16 32) : Prop :=
  (∀ a x, ((![v591] : Fin 1 → IVec S16 32) a x).toNat < S32768.size a)
theorem k0_idx172_inb : ∀ (v591 : IVec S16 32) (k0_hw172 : k0_chk172 v591), ∀ a x, ((![v591] : Fin 1 → IVec S16 32) a x).toNat < S32768.size a := fun v591 k0_hw172 => k0_hw172

def k0_chk173 (v599 : IVec S16 32) : Prop :=
  (∀ a x, ((![v599] : Fin 1 → IVec S16 32) a x).toNat < S4096.size a)
theorem k0_idx173_inb : ∀ (v599 : IVec S16 32) (k0_hw173 : k0_chk173 v599), ∀ a x, ((![v599] : Fin 1 → IVec S16 32) a x).toNat < S4096.size a := fun v599 k0_hw173 => k0_hw173

def k0_chk174 (v597 : IVec S16 32) : Prop :=
  (∀ a x, ((![v597] : Fin 1 → IVec S16 32) a x).toNat < S32768.size a)
theorem k0_idx174_inb : ∀ (v597 : IVec S16 32) (k0_hw174 : k0_chk174 v597), ∀ a x, ((![v597] : Fin 1 → IVec S16 32) a x).toNat < S32768.size a := fun v597 k0_hw174 => k0_hw174

def k0_chk175 (v605 : IVec S16 32) : Prop :=
  (∀ a x, ((![v605] : Fin 1 → IVec S16 32) a x).toNat < S4096.size a)
theorem k0_idx175_inb : ∀ (v605 : IVec S16 32) (k0_hw175 : k0_chk175 v605), ∀ a x, ((![v605] : Fin 1 → IVec S16 32) a x).toNat < S4096.size a := fun v605 k0_hw175 => k0_hw175

def k0_chk176 (v603 : IVec S16 32) : Prop :=
  (∀ a x, ((![v603] : Fin 1 → IVec S16 32) a x).toNat < S32768.size a)
theorem k0_idx176_inb : ∀ (v603 : IVec S16 32) (k0_hw176 : k0_chk176 v603), ∀ a x, ((![v603] : Fin 1 → IVec S16 32) a x).toNat < S32768.size a := fun v603 k0_hw176 => k0_hw176

def k0_chk177 (v611 : IVec S16 32) : Prop :=
  (∀ a x, ((![v611] : Fin 1 → IVec S16 32) a x).toNat < S4096.size a)
theorem k0_idx177_inb : ∀ (v611 : IVec S16 32) (k0_hw177 : k0_chk177 v611), ∀ a x, ((![v611] : Fin 1 → IVec S16 32) a x).toNat < S4096.size a := fun v611 k0_hw177 => k0_hw177

def k0_chk178 (v609 : IVec S16 32) : Prop :=
  (∀ a x, ((![v609] : Fin 1 → IVec S16 32) a x).toNat < S32768.size a)
theorem k0_idx178_inb : ∀ (v609 : IVec S16 32) (k0_hw178 : k0_chk178 v609), ∀ a x, ((![v609] : Fin 1 → IVec S16 32) a x).toNat < S32768.size a := fun v609 k0_hw178 => k0_hw178

def k0_chk179 (v617 : IVec S16 32) : Prop :=
  (∀ a x, ((![v617] : Fin 1 → IVec S16 32) a x).toNat < S4096.size a)
theorem k0_idx179_inb : ∀ (v617 : IVec S16 32) (k0_hw179 : k0_chk179 v617), ∀ a x, ((![v617] : Fin 1 → IVec S16 32) a x).toNat < S4096.size a := fun v617 k0_hw179 => k0_hw179

def k0_chk180 (v615 : IVec S16 32) : Prop :=
  (∀ a x, ((![v615] : Fin 1 → IVec S16 32) a x).toNat < S32768.size a)
theorem k0_idx180_inb : ∀ (v615 : IVec S16 32) (k0_hw180 : k0_chk180 v615), ∀ a x, ((![v615] : Fin 1 → IVec S16 32) a x).toNat < S32768.size a := fun v615 k0_hw180 => k0_hw180

def k0_chk181 (v623 : IVec S16 32) : Prop :=
  (∀ a x, ((![v623] : Fin 1 → IVec S16 32) a x).toNat < S4096.size a)
theorem k0_idx181_inb : ∀ (v623 : IVec S16 32) (k0_hw181 : k0_chk181 v623), ∀ a x, ((![v623] : Fin 1 → IVec S16 32) a x).toNat < S4096.size a := fun v623 k0_hw181 => k0_hw181

def k0_chk182 (v621 : IVec S16 32) : Prop :=
  (∀ a x, ((![v621] : Fin 1 → IVec S16 32) a x).toNat < S32768.size a)
theorem k0_idx182_inb : ∀ (v621 : IVec S16 32) (k0_hw182 : k0_chk182 v621), ∀ a x, ((![v621] : Fin 1 → IVec S16 32) a x).toNat < S32768.size a := fun v621 k0_hw182 => k0_hw182

def k0_chk183 (v629 : IVec S16 32) : Prop :=
  (∀ a x, ((![v629] : Fin 1 → IVec S16 32) a x).toNat < S4096.size a)
theorem k0_idx183_inb : ∀ (v629 : IVec S16 32) (k0_hw183 : k0_chk183 v629), ∀ a x, ((![v629] : Fin 1 → IVec S16 32) a x).toNat < S4096.size a := fun v629 k0_hw183 => k0_hw183

def k0_chk184 (v627 : IVec S16 32) : Prop :=
  (∀ a x, ((![v627] : Fin 1 → IVec S16 32) a x).toNat < S32768.size a)
theorem k0_idx184_inb : ∀ (v627 : IVec S16 32) (k0_hw184 : k0_chk184 v627), ∀ a x, ((![v627] : Fin 1 → IVec S16 32) a x).toNat < S32768.size a := fun v627 k0_hw184 => k0_hw184

def k0_chk185 (v635 : IVec S16 32) : Prop :=
  (∀ a x, ((![v635] : Fin 1 → IVec S16 32) a x).toNat < S4096.size a)
theorem k0_idx185_inb : ∀ (v635 : IVec S16 32) (k0_hw185 : k0_chk185 v635), ∀ a x, ((![v635] : Fin 1 → IVec S16 32) a x).toNat < S4096.size a := fun v635 k0_hw185 => k0_hw185

def k0_chk186 (v633 : IVec S16 32) : Prop :=
  (∀ a x, ((![v633] : Fin 1 → IVec S16 32) a x).toNat < S32768.size a)
theorem k0_idx186_inb : ∀ (v633 : IVec S16 32) (k0_hw186 : k0_chk186 v633), ∀ a x, ((![v633] : Fin 1 → IVec S16 32) a x).toNat < S32768.size a := fun v633 k0_hw186 => k0_hw186

def k0_chk187 (v641 : IVec S16 32) : Prop :=
  (∀ a x, ((![v641] : Fin 1 → IVec S16 32) a x).toNat < S4096.size a)
theorem k0_idx187_inb : ∀ (v641 : IVec S16 32) (k0_hw187 : k0_chk187 v641), ∀ a x, ((![v641] : Fin 1 → IVec S16 32) a x).toNat < S4096.size a := fun v641 k0_hw187 => k0_hw187

def k0_chk188 (v639 : IVec S16 32) : Prop :=
  (∀ a x, ((![v639] : Fin 1 → IVec S16 32) a x).toNat < S32768.size a)
theorem k0_idx188_inb : ∀ (v639 : IVec S16 32) (k0_hw188 : k0_chk188 v639), ∀ a x, ((![v639] : Fin 1 → IVec S16 32) a x).toNat < S32768.size a := fun v639 k0_hw188 => k0_hw188

def k0_chk189 (v647 : IVec S16 32) : Prop :=
  (∀ a x, ((![v647] : Fin 1 → IVec S16 32) a x).toNat < S4096.size a)
theorem k0_idx189_inb : ∀ (v647 : IVec S16 32) (k0_hw189 : k0_chk189 v647), ∀ a x, ((![v647] : Fin 1 → IVec S16 32) a x).toNat < S4096.size a := fun v647 k0_hw189 => k0_hw189

def k0_chk190 (v645 : IVec S16 32) : Prop :=
  (∀ a x, ((![v645] : Fin 1 → IVec S16 32) a x).toNat < S32768.size a)
theorem k0_idx190_inb : ∀ (v645 : IVec S16 32) (k0_hw190 : k0_chk190 v645), ∀ a x, ((![v645] : Fin 1 → IVec S16 32) a x).toNat < S32768.size a := fun v645 k0_hw190 => k0_hw190

def k0_chk191 (v653 : IVec S16 32) : Prop :=
  (∀ a x, ((![v653] : Fin 1 → IVec S16 32) a x).toNat < S4096.size a)
theorem k0_idx191_inb : ∀ (v653 : IVec S16 32) (k0_hw191 : k0_chk191 v653), ∀ a x, ((![v653] : Fin 1 → IVec S16 32) a x).toNat < S4096.size a := fun v653 k0_hw191 => k0_hw191

def k0_chk192 (v651 : IVec S16 32) : Prop :=
  (∀ a x, ((![v651] : Fin 1 → IVec S16 32) a x).toNat < S32768.size a)
theorem k0_idx192_inb : ∀ (v651 : IVec S16 32) (k0_hw192 : k0_chk192 v651), ∀ a x, ((![v651] : Fin 1 → IVec S16 32) a x).toNat < S32768.size a := fun v651 k0_hw192 => k0_hw192

def k0_chk193 (v659 : IVec S16 32) : Prop :=
  (∀ a x, ((![v659] : Fin 1 → IVec S16 32) a x).toNat < S4096.size a)
theorem k0_idx193_inb : ∀ (v659 : IVec S16 32) (k0_hw193 : k0_chk193 v659), ∀ a x, ((![v659] : Fin 1 → IVec S16 32) a x).toNat < S4096.size a := fun v659 k0_hw193 => k0_hw193

def k0_chk194 (v657 : IVec S16 32) : Prop :=
  (∀ a x, ((![v657] : Fin 1 → IVec S16 32) a x).toNat < S32768.size a)
theorem k0_idx194_inb : ∀ (v657 : IVec S16 32) (k0_hw194 : k0_chk194 v657), ∀ a x, ((![v657] : Fin 1 → IVec S16 32) a x).toNat < S32768.size a := fun v657 k0_hw194 => k0_hw194

def k0_chk195 (v665 : IVec S16 32) : Prop :=
  (∀ a x, ((![v665] : Fin 1 → IVec S16 32) a x).toNat < S4096.size a)
theorem k0_idx195_inb : ∀ (v665 : IVec S16 32) (k0_hw195 : k0_chk195 v665), ∀ a x, ((![v665] : Fin 1 → IVec S16 32) a x).toNat < S4096.size a := fun v665 k0_hw195 => k0_hw195

def k0_chk196 (v663 : IVec S16 32) : Prop :=
  (∀ a x, ((![v663] : Fin 1 → IVec S16 32) a x).toNat < S32768.size a)
theorem k0_idx196_inb : ∀ (v663 : IVec S16 32) (k0_hw196 : k0_chk196 v663), ∀ a x, ((![v663] : Fin 1 → IVec S16 32) a x).toNat < S32768.size a := fun v663 k0_hw196 => k0_hw196

def k0_chk197 (v671 : IVec S16 32) : Prop :=
  (∀ a x, ((![v671] : Fin 1 → IVec S16 32) a x).toNat < S4096.size a)
theorem k0_idx197_inb : ∀ (v671 : IVec S16 32) (k0_hw197 : k0_chk197 v671), ∀ a x, ((![v671] : Fin 1 → IVec S16 32) a x).toNat < S4096.size a := fun v671 k0_hw197 => k0_hw197

def k0_chk198 (v669 : IVec S16 32) : Prop :=
  (∀ a x, ((![v669] : Fin 1 → IVec S16 32) a x).toNat < S32768.size a)
theorem k0_idx198_inb : ∀ (v669 : IVec S16 32) (k0_hw198 : k0_chk198 v669), ∀ a x, ((![v669] : Fin 1 → IVec S16 32) a x).toNat < S32768.size a := fun v669 k0_hw198 => k0_hw198

def k0_chk199 (v677 : IVec S16 32) : Prop :=
  (∀ a x, ((![v677] : Fin 1 → IVec S16 32) a x).toNat < S4096.size a)
theorem k0_idx199_inb : ∀ (v677 : IVec S16 32) (k0_hw199 : k0_chk199 v677), ∀ a x, ((![v677] : Fin 1 → IVec S16 32) a x).toNat < S4096.size a := fun v677 k0_hw199 => k0_hw199

def k0_chk200 (v675 : IVec S16 32) : Prop :=
  (∀ a x, ((![v675] : Fin 1 → IVec S16 32) a x).toNat < S32768.size a)
theorem k0_idx200_inb : ∀ (v675 : IVec S16 32) (k0_hw200 : k0_chk200 v675), ∀ a x, ((![v675] : Fin 1 → IVec S16 32) a x).toNat < S32768.size a := fun v675 k0_hw200 => k0_hw200

def k0_chk201 (v683 : IVec S16 32) : Prop :=
  (∀ a x, ((![v683] : Fin 1 → IVec S16 32) a x).toNat < S4096.size a)
theorem k0_idx201_inb : ∀ (v683 : IVec S16 32) (k0_hw201 : k0_chk201 v683), ∀ a x, ((![v683] : Fin 1 → IVec S16 32) a x).toNat < S4096.size a := fun v683 k0_hw201 => k0_hw201

def k0_chk202 (v681 : IVec S16 32) : Prop :=
  (∀ a x, ((![v681] : Fin 1 → IVec S16 32) a x).toNat < S32768.size a)
theorem k0_idx202_inb : ∀ (v681 : IVec S16 32) (k0_hw202 : k0_chk202 v681), ∀ a x, ((![v681] : Fin 1 → IVec S16 32) a x).toNat < S32768.size a := fun v681 k0_hw202 => k0_hw202

def k0_chk203 (v689 : IVec S16 32) : Prop :=
  (∀ a x, ((![v689] : Fin 1 → IVec S16 32) a x).toNat < S4096.size a)
theorem k0_idx203_inb : ∀ (v689 : IVec S16 32) (k0_hw203 : k0_chk203 v689), ∀ a x, ((![v689] : Fin 1 → IVec S16 32) a x).toNat < S4096.size a := fun v689 k0_hw203 => k0_hw203

def k0_chk204 (v687 : IVec S16 32) : Prop :=
  (∀ a x, ((![v687] : Fin 1 → IVec S16 32) a x).toNat < S32768.size a)
theorem k0_idx204_inb : ∀ (v687 : IVec S16 32) (k0_hw204 : k0_chk204 v687), ∀ a x, ((![v687] : Fin 1 → IVec S16 32) a x).toNat < S32768.size a := fun v687 k0_hw204 => k0_hw204

def k0_chk205 (v695 : IVec S16 32) : Prop :=
  (∀ a x, ((![v695] : Fin 1 → IVec S16 32) a x).toNat < S4096.size a)
theorem k0_idx205_inb : ∀ (v695 : IVec S16 32) (k0_hw205 : k0_chk205 v695), ∀ a x, ((![v695] : Fin 1 → IVec S16 32) a x).toNat < S4096.size a := fun v695 k0_hw205 => k0_hw205

def k0_chk206 (v693 : IVec S16 32) : Prop :=
  (∀ a x, ((![v693] : Fin 1 → IVec S16 32) a x).toNat < S32768.size a)
theorem k0_idx206_inb : ∀ (v693 : IVec S16 32) (k0_hw206 : k0_chk206 v693), ∀ a x, ((![v693] : Fin 1 → IVec S16 32) a x).toNat < S32768.size a := fun v693 k0_hw206 => k0_hw206

def k0_chk207 (v701 : IVec S16 32) : Prop :=
  (∀ a x, ((![v701] : Fin 1 → IVec S16 32) a x).toNat < S4096.size a)
theorem k0_idx207_inb : ∀ (v701 : IVec S16 32) (k0_hw207 : k0_chk207 v701), ∀ a x, ((![v701] : Fin 1 → IVec S16 32) a x).toNat < S4096.size a := fun v701 k0_hw207 => k0_hw207

def k0_chk208 (v699 : IVec S16 32) : Prop :=
  (∀ a x, ((![v699] : Fin 1 → IVec S16 32) a x).toNat < S32768.size a)
theorem k0_idx208_inb : ∀ (v699 : IVec S16 32) (k0_hw208 : k0_chk208 v699), ∀ a x, ((![v699] : Fin 1 → IVec S16 32) a x).toNat < S32768.size a := fun v699 k0_hw208 => k0_hw208

def k0_chk209 (v707 : IVec S16 32) : Prop :=
  (∀ a x, ((![v707] : Fin 1 → IVec S16 32) a x).toNat < S4096.size a)
theorem k0_idx209_inb : ∀ (v707 : IVec S16 32) (k0_hw209 : k0_chk209 v707), ∀ a x, ((![v707] : Fin 1 → IVec S16 32) a x).toNat < S4096.size a := fun v707 k0_hw209 => k0_hw209

def k0_chk210 (v705 : IVec S16 32) : Prop :=
  (∀ a x, ((![v705] : Fin 1 → IVec S16 32) a x).toNat < S32768.size a)
theorem k0_idx210_inb : ∀ (v705 : IVec S16 32) (k0_hw210 : k0_chk210 v705), ∀ a x, ((![v705] : Fin 1 → IVec S16 32) a x).toNat < S32768.size a := fun v705 k0_hw210 => k0_hw210

def k0_chk211 (v713 : IVec S16 32) : Prop :=
  (∀ a x, ((![v713] : Fin 1 → IVec S16 32) a x).toNat < S4096.size a)
theorem k0_idx211_inb : ∀ (v713 : IVec S16 32) (k0_hw211 : k0_chk211 v713), ∀ a x, ((![v713] : Fin 1 → IVec S16 32) a x).toNat < S4096.size a := fun v713 k0_hw211 => k0_hw211

def k0_chk212 (v711 : IVec S16 32) : Prop :=
  (∀ a x, ((![v711] : Fin 1 → IVec S16 32) a x).toNat < S32768.size a)
theorem k0_idx212_inb : ∀ (v711 : IVec S16 32) (k0_hw212 : k0_chk212 v711), ∀ a x, ((![v711] : Fin 1 → IVec S16 32) a x).toNat < S32768.size a := fun v711 k0_hw212 => k0_hw212

def k0_chk213 (v719 : IVec S16 32) : Prop :=
  (∀ a x, ((![v719] : Fin 1 → IVec S16 32) a x).toNat < S4096.size a)
theorem k0_idx213_inb : ∀ (v719 : IVec S16 32) (k0_hw213 : k0_chk213 v719), ∀ a x, ((![v719] : Fin 1 → IVec S16 32) a x).toNat < S4096.size a := fun v719 k0_hw213 => k0_hw213

def k0_chk214 (v717 : IVec S16 32) : Prop :=
  (∀ a x, ((![v717] : Fin 1 → IVec S16 32) a x).toNat < S32768.size a)
theorem k0_idx214_inb : ∀ (v717 : IVec S16 32) (k0_hw214 : k0_chk214 v717), ∀ a x, ((![v717] : Fin 1 → IVec S16 32) a x).toNat < S32768.size a := fun v717 k0_hw214 => k0_hw214

def k0_chk215 (v725 : IVec S16 32) : Prop :=
  (∀ a x, ((![v725] : Fin 1 → IVec S16 32) a x).toNat < S4096.size a)
theorem k0_idx215_inb : ∀ (v725 : IVec S16 32) (k0_hw215 : k0_chk215 v725), ∀ a x, ((![v725] : Fin 1 → IVec S16 32) a x).toNat < S4096.size a := fun v725 k0_hw215 => k0_hw215

def k0_chk216 (v723 : IVec S16 32) : Prop :=
  (∀ a x, ((![v723] : Fin 1 → IVec S16 32) a x).toNat < S32768.size a)
theorem k0_idx216_inb : ∀ (v723 : IVec S16 32) (k0_hw216 : k0_chk216 v723), ∀ a x, ((![v723] : Fin 1 → IVec S16 32) a x).toNat < S32768.size a := fun v723 k0_hw216 => k0_hw216

def k0_chk217 (v731 : IVec S16 32) : Prop :=
  (∀ a x, ((![v731] : Fin 1 → IVec S16 32) a x).toNat < S4096.size a)
theorem k0_idx217_inb : ∀ (v731 : IVec S16 32) (k0_hw217 : k0_chk217 v731), ∀ a x, ((![v731] : Fin 1 → IVec S16 32) a x).toNat < S4096.size a := fun v731 k0_hw217 => k0_hw217

def k0_chk218 (v729 : IVec S16 32) : Prop :=
  (∀ a x, ((![v729] : Fin 1 → IVec S16 32) a x).toNat < S32768.size a)
theorem k0_idx218_inb : ∀ (v729 : IVec S16 32) (k0_hw218 : k0_chk218 v729), ∀ a x, ((![v729] : Fin 1 → IVec S16 32) a x).toNat < S32768.size a := fun v729 k0_hw218 => k0_hw218

def k0_chk219 (v737 : IVec S16 32) : Prop :=
  (∀ a x, ((![v737] : Fin 1 → IVec S16 32) a x).toNat < S4096.size a)
theorem k0_idx219_inb : ∀ (v737 : IVec S16 32) (k0_hw219 : k0_chk219 v737), ∀ a x, ((![v737] : Fin 1 → IVec S16 32) a x).toNat < S4096.size a := fun v737 k0_hw219 => k0_hw219

def k0_chk220 (v735 : IVec S16 32) : Prop :=
  (∀ a x, ((![v735] : Fin 1 → IVec S16 32) a x).toNat < S32768.size a)
theorem k0_idx220_inb : ∀ (v735 : IVec S16 32) (k0_hw220 : k0_chk220 v735), ∀ a x, ((![v735] : Fin 1 → IVec S16 32) a x).toNat < S32768.size a := fun v735 k0_hw220 => k0_hw220

def k0_chk221 (v743 : IVec S16 32) : Prop :=
  (∀ a x, ((![v743] : Fin 1 → IVec S16 32) a x).toNat < S4096.size a)
theorem k0_idx221_inb : ∀ (v743 : IVec S16 32) (k0_hw221 : k0_chk221 v743), ∀ a x, ((![v743] : Fin 1 → IVec S16 32) a x).toNat < S4096.size a := fun v743 k0_hw221 => k0_hw221

def k0_chk222 (v741 : IVec S16 32) : Prop :=
  (∀ a x, ((![v741] : Fin 1 → IVec S16 32) a x).toNat < S32768.size a)
theorem k0_idx222_inb : ∀ (v741 : IVec S16 32) (k0_hw222 : k0_chk222 v741), ∀ a x, ((![v741] : Fin 1 → IVec S16 32) a x).toNat < S32768.size a := fun v741 k0_hw222 => k0_hw222

def k0_chk223 (v749 : IVec S16 32) : Prop :=
  (∀ a x, ((![v749] : Fin 1 → IVec S16 32) a x).toNat < S4096.size a)
theorem k0_idx223_inb : ∀ (v749 : IVec S16 32) (k0_hw223 : k0_chk223 v749), ∀ a x, ((![v749] : Fin 1 → IVec S16 32) a x).toNat < S4096.size a := fun v749 k0_hw223 => k0_hw223

def k0_chk224 (v747 : IVec S16 32) : Prop :=
  (∀ a x, ((![v747] : Fin 1 → IVec S16 32) a x).toNat < S32768.size a)
theorem k0_idx224_inb : ∀ (v747 : IVec S16 32) (k0_hw224 : k0_chk224 v747), ∀ a x, ((![v747] : Fin 1 → IVec S16 32) a x).toNat < S32768.size a := fun v747 k0_hw224 => k0_hw224
def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_304 : BitVec 32 := 1024#32
  let v751 : BitVec 32 := Scalar.muli v1 c1024_i32_304
  let c2_i32_202 : BitVec 32 := 2#32
  let c1_i32_129 : BitVec 32 := 1#32
  let c1_i32_130 : BitVec 32 := 1#32
  let arg13 : BitVec 32 := Scf.iv c1_i32_129 c1_i32_130 k0_t1
  let v551 : BitVec 32 := Scalar.muli c2_i32_202 arg13
  let c32_i32_203 : BitVec 32 := 32#32
  let v552 : BitVec 32 := Scalar.muli v551 c32_i32_203
  let v752 : BitVec 32 := Scalar.addi v751 v552
  let c1024_i32_305 : BitVec 32 := 1024#32
  let v753 : BitVec 32 := Scalar.muli v752 c1024_i32_305
  ![v753.toNat]
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_306 : BitVec 32 := 1024#32
  let v756 : BitVec 32 := Scalar.muli v1 c1024_i32_306
  let c1024_i32_307 : BitVec 32 := 1024#32
  let v757 : BitVec 32 := Scalar.muli v756 c1024_i32_307
  ![v757.toNat]

def k0_chk225 (v762 : IVec S16 32) : Prop :=
  (∀ a x, ((![v762] : Fin 1 → IVec S16 32) a x).toNat < S32768.size a)
theorem k0_idx225_inb : ∀ (v762 : IVec S16 32) (k0_hw225 : k0_chk225 v762), ∀ a x, ((![v762] : Fin 1 → IVec S16 32) a x).toNat < S32768.size a := fun v762 k0_hw225 => k0_hw225

def k0_chk226 (v765 : IVec S16 32) : Prop :=
  (∀ a x, ((![v765] : Fin 1 → IVec S16 32) a x).toNat < S32768.size a)
theorem k0_idx226_inb : ∀ (v765 : IVec S16 32) (k0_hw226 : k0_chk226 v765), ∀ a x, ((![v765] : Fin 1 → IVec S16 32) a x).toNat < S32768.size a := fun v765 k0_hw226 => k0_hw226

def k0_chk227 (v768 : IVec S16 32) : Prop :=
  (∀ a x, ((![v768] : Fin 1 → IVec S16 32) a x).toNat < S32768.size a)
theorem k0_idx227_inb : ∀ (v768 : IVec S16 32) (k0_hw227 : k0_chk227 v768), ∀ a x, ((![v768] : Fin 1 → IVec S16 32) a x).toNat < S32768.size a := fun v768 k0_hw227 => k0_hw227

def k0_chk228 (v771 : IVec S16 32) : Prop :=
  (∀ a x, ((![v771] : Fin 1 → IVec S16 32) a x).toNat < S32768.size a)
theorem k0_idx228_inb : ∀ (v771 : IVec S16 32) (k0_hw228 : k0_chk228 v771), ∀ a x, ((![v771] : Fin 1 → IVec S16 32) a x).toNat < S32768.size a := fun v771 k0_hw228 => k0_hw228

def k0_chk229 (v774 : IVec S16 32) : Prop :=
  (∀ a x, ((![v774] : Fin 1 → IVec S16 32) a x).toNat < S32768.size a)
theorem k0_idx229_inb : ∀ (v774 : IVec S16 32) (k0_hw229 : k0_chk229 v774), ∀ a x, ((![v774] : Fin 1 → IVec S16 32) a x).toNat < S32768.size a := fun v774 k0_hw229 => k0_hw229

def k0_chk230 (v777 : IVec S16 32) : Prop :=
  (∀ a x, ((![v777] : Fin 1 → IVec S16 32) a x).toNat < S32768.size a)
theorem k0_idx230_inb : ∀ (v777 : IVec S16 32) (k0_hw230 : k0_chk230 v777), ∀ a x, ((![v777] : Fin 1 → IVec S16 32) a x).toNat < S32768.size a := fun v777 k0_hw230 => k0_hw230

def k0_chk231 (v780 : IVec S16 32) : Prop :=
  (∀ a x, ((![v780] : Fin 1 → IVec S16 32) a x).toNat < S32768.size a)
theorem k0_idx231_inb : ∀ (v780 : IVec S16 32) (k0_hw231 : k0_chk231 v780), ∀ a x, ((![v780] : Fin 1 → IVec S16 32) a x).toNat < S32768.size a := fun v780 k0_hw231 => k0_hw231

def k0_chk232 (v783 : IVec S16 32) : Prop :=
  (∀ a x, ((![v783] : Fin 1 → IVec S16 32) a x).toNat < S32768.size a)
theorem k0_idx232_inb : ∀ (v783 : IVec S16 32) (k0_hw232 : k0_chk232 v783), ∀ a x, ((![v783] : Fin 1 → IVec S16 32) a x).toNat < S32768.size a := fun v783 k0_hw232 => k0_hw232

def k0_chk233 (v786 : IVec S16 32) : Prop :=
  (∀ a x, ((![v786] : Fin 1 → IVec S16 32) a x).toNat < S32768.size a)
theorem k0_idx233_inb : ∀ (v786 : IVec S16 32) (k0_hw233 : k0_chk233 v786), ∀ a x, ((![v786] : Fin 1 → IVec S16 32) a x).toNat < S32768.size a := fun v786 k0_hw233 => k0_hw233

def k0_chk234 (v789 : IVec S16 32) : Prop :=
  (∀ a x, ((![v789] : Fin 1 → IVec S16 32) a x).toNat < S32768.size a)
theorem k0_idx234_inb : ∀ (v789 : IVec S16 32) (k0_hw234 : k0_chk234 v789), ∀ a x, ((![v789] : Fin 1 → IVec S16 32) a x).toNat < S32768.size a := fun v789 k0_hw234 => k0_hw234

def k0_chk235 (v792 : IVec S16 32) : Prop :=
  (∀ a x, ((![v792] : Fin 1 → IVec S16 32) a x).toNat < S32768.size a)
theorem k0_idx235_inb : ∀ (v792 : IVec S16 32) (k0_hw235 : k0_chk235 v792), ∀ a x, ((![v792] : Fin 1 → IVec S16 32) a x).toNat < S32768.size a := fun v792 k0_hw235 => k0_hw235

def k0_chk236 (v795 : IVec S16 32) : Prop :=
  (∀ a x, ((![v795] : Fin 1 → IVec S16 32) a x).toNat < S32768.size a)
theorem k0_idx236_inb : ∀ (v795 : IVec S16 32) (k0_hw236 : k0_chk236 v795), ∀ a x, ((![v795] : Fin 1 → IVec S16 32) a x).toNat < S32768.size a := fun v795 k0_hw236 => k0_hw236

def k0_chk237 (v798 : IVec S16 32) : Prop :=
  (∀ a x, ((![v798] : Fin 1 → IVec S16 32) a x).toNat < S32768.size a)
theorem k0_idx237_inb : ∀ (v798 : IVec S16 32) (k0_hw237 : k0_chk237 v798), ∀ a x, ((![v798] : Fin 1 → IVec S16 32) a x).toNat < S32768.size a := fun v798 k0_hw237 => k0_hw237

def k0_chk238 (v801 : IVec S16 32) : Prop :=
  (∀ a x, ((![v801] : Fin 1 → IVec S16 32) a x).toNat < S32768.size a)
theorem k0_idx238_inb : ∀ (v801 : IVec S16 32) (k0_hw238 : k0_chk238 v801), ∀ a x, ((![v801] : Fin 1 → IVec S16 32) a x).toNat < S32768.size a := fun v801 k0_hw238 => k0_hw238

def k0_chk239 (v804 : IVec S16 32) : Prop :=
  (∀ a x, ((![v804] : Fin 1 → IVec S16 32) a x).toNat < S32768.size a)
theorem k0_idx239_inb : ∀ (v804 : IVec S16 32) (k0_hw239 : k0_chk239 v804), ∀ a x, ((![v804] : Fin 1 → IVec S16 32) a x).toNat < S32768.size a := fun v804 k0_hw239 => k0_hw239

def k0_chk240 (v807 : IVec S16 32) : Prop :=
  (∀ a x, ((![v807] : Fin 1 → IVec S16 32) a x).toNat < S32768.size a)
theorem k0_idx240_inb : ∀ (v807 : IVec S16 32) (k0_hw240 : k0_chk240 v807), ∀ a x, ((![v807] : Fin 1 → IVec S16 32) a x).toNat < S32768.size a := fun v807 k0_hw240 => k0_hw240

def k0_chk241 (v810 : IVec S16 32) : Prop :=
  (∀ a x, ((![v810] : Fin 1 → IVec S16 32) a x).toNat < S32768.size a)
theorem k0_idx241_inb : ∀ (v810 : IVec S16 32) (k0_hw241 : k0_chk241 v810), ∀ a x, ((![v810] : Fin 1 → IVec S16 32) a x).toNat < S32768.size a := fun v810 k0_hw241 => k0_hw241

def k0_chk242 (v813 : IVec S16 32) : Prop :=
  (∀ a x, ((![v813] : Fin 1 → IVec S16 32) a x).toNat < S32768.size a)
theorem k0_idx242_inb : ∀ (v813 : IVec S16 32) (k0_hw242 : k0_chk242 v813), ∀ a x, ((![v813] : Fin 1 → IVec S16 32) a x).toNat < S32768.size a := fun v813 k0_hw242 => k0_hw242

def k0_chk243 (v816 : IVec S16 32) : Prop :=
  (∀ a x, ((![v816] : Fin 1 → IVec S16 32) a x).toNat < S32768.size a)
theorem k0_idx243_inb : ∀ (v816 : IVec S16 32) (k0_hw243 : k0_chk243 v816), ∀ a x, ((![v816] : Fin 1 → IVec S16 32) a x).toNat < S32768.size a := fun v816 k0_hw243 => k0_hw243

def k0_chk244 (v819 : IVec S16 32) : Prop :=
  (∀ a x, ((![v819] : Fin 1 → IVec S16 32) a x).toNat < S32768.size a)
theorem k0_idx244_inb : ∀ (v819 : IVec S16 32) (k0_hw244 : k0_chk244 v819), ∀ a x, ((![v819] : Fin 1 → IVec S16 32) a x).toNat < S32768.size a := fun v819 k0_hw244 => k0_hw244

def k0_chk245 (v822 : IVec S16 32) : Prop :=
  (∀ a x, ((![v822] : Fin 1 → IVec S16 32) a x).toNat < S32768.size a)
theorem k0_idx245_inb : ∀ (v822 : IVec S16 32) (k0_hw245 : k0_chk245 v822), ∀ a x, ((![v822] : Fin 1 → IVec S16 32) a x).toNat < S32768.size a := fun v822 k0_hw245 => k0_hw245

def k0_chk246 (v825 : IVec S16 32) : Prop :=
  (∀ a x, ((![v825] : Fin 1 → IVec S16 32) a x).toNat < S32768.size a)
theorem k0_idx246_inb : ∀ (v825 : IVec S16 32) (k0_hw246 : k0_chk246 v825), ∀ a x, ((![v825] : Fin 1 → IVec S16 32) a x).toNat < S32768.size a := fun v825 k0_hw246 => k0_hw246

def k0_chk247 (v828 : IVec S16 32) : Prop :=
  (∀ a x, ((![v828] : Fin 1 → IVec S16 32) a x).toNat < S32768.size a)
theorem k0_idx247_inb : ∀ (v828 : IVec S16 32) (k0_hw247 : k0_chk247 v828), ∀ a x, ((![v828] : Fin 1 → IVec S16 32) a x).toNat < S32768.size a := fun v828 k0_hw247 => k0_hw247

def k0_chk248 (v831 : IVec S16 32) : Prop :=
  (∀ a x, ((![v831] : Fin 1 → IVec S16 32) a x).toNat < S32768.size a)
theorem k0_idx248_inb : ∀ (v831 : IVec S16 32) (k0_hw248 : k0_chk248 v831), ∀ a x, ((![v831] : Fin 1 → IVec S16 32) a x).toNat < S32768.size a := fun v831 k0_hw248 => k0_hw248

def k0_chk249 (v834 : IVec S16 32) : Prop :=
  (∀ a x, ((![v834] : Fin 1 → IVec S16 32) a x).toNat < S32768.size a)
theorem k0_idx249_inb : ∀ (v834 : IVec S16 32) (k0_hw249 : k0_chk249 v834), ∀ a x, ((![v834] : Fin 1 → IVec S16 32) a x).toNat < S32768.size a := fun v834 k0_hw249 => k0_hw249

def k0_chk250 (v837 : IVec S16 32) : Prop :=
  (∀ a x, ((![v837] : Fin 1 → IVec S16 32) a x).toNat < S32768.size a)
theorem k0_idx250_inb : ∀ (v837 : IVec S16 32) (k0_hw250 : k0_chk250 v837), ∀ a x, ((![v837] : Fin 1 → IVec S16 32) a x).toNat < S32768.size a := fun v837 k0_hw250 => k0_hw250

def k0_chk251 (v840 : IVec S16 32) : Prop :=
  (∀ a x, ((![v840] : Fin 1 → IVec S16 32) a x).toNat < S32768.size a)
theorem k0_idx251_inb : ∀ (v840 : IVec S16 32) (k0_hw251 : k0_chk251 v840), ∀ a x, ((![v840] : Fin 1 → IVec S16 32) a x).toNat < S32768.size a := fun v840 k0_hw251 => k0_hw251

def k0_chk252 (v843 : IVec S16 32) : Prop :=
  (∀ a x, ((![v843] : Fin 1 → IVec S16 32) a x).toNat < S32768.size a)
theorem k0_idx252_inb : ∀ (v843 : IVec S16 32) (k0_hw252 : k0_chk252 v843), ∀ a x, ((![v843] : Fin 1 → IVec S16 32) a x).toNat < S32768.size a := fun v843 k0_hw252 => k0_hw252

def k0_chk253 (v846 : IVec S16 32) : Prop :=
  (∀ a x, ((![v846] : Fin 1 → IVec S16 32) a x).toNat < S32768.size a)
theorem k0_idx253_inb : ∀ (v846 : IVec S16 32) (k0_hw253 : k0_chk253 v846), ∀ a x, ((![v846] : Fin 1 → IVec S16 32) a x).toNat < S32768.size a := fun v846 k0_hw253 => k0_hw253

def k0_chk254 (v849 : IVec S16 32) : Prop :=
  (∀ a x, ((![v849] : Fin 1 → IVec S16 32) a x).toNat < S32768.size a)
theorem k0_idx254_inb : ∀ (v849 : IVec S16 32) (k0_hw254 : k0_chk254 v849), ∀ a x, ((![v849] : Fin 1 → IVec S16 32) a x).toNat < S32768.size a := fun v849 k0_hw254 => k0_hw254

def k0_chk255 (v852 : IVec S16 32) : Prop :=
  (∀ a x, ((![v852] : Fin 1 → IVec S16 32) a x).toNat < S32768.size a)
theorem k0_idx255_inb : ∀ (v852 : IVec S16 32) (k0_hw255 : k0_chk255 v852), ∀ a x, ((![v852] : Fin 1 → IVec S16 32) a x).toNat < S32768.size a := fun v852 k0_hw255 => k0_hw255

def k0_chk256 (v855 : IVec S16 32) : Prop :=
  (∀ a x, ((![v855] : Fin 1 → IVec S16 32) a x).toNat < S32768.size a)
theorem k0_idx256_inb : ∀ (v855 : IVec S16 32) (k0_hw256 : k0_chk256 v855), ∀ a x, ((![v855] : Fin 1 → IVec S16 32) a x).toNat < S32768.size a := fun v855 k0_hw256 => k0_hw256
def k0_off12 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1024_i32_375 : BitVec 32 := 1024#32
  let v859 : BitVec 32 := Scalar.muli v18 c1024_i32_375
  let c2_i32_372 : BitVec 32 := 2#32
  let c1_i32_129 : BitVec 32 := 1#32
  let c1_i32_130 : BitVec 32 := 1#32
  let arg13 : BitVec 32 := Scf.iv c1_i32_129 c1_i32_130 k0_t1
  let v856 : BitVec 32 := Scalar.muli c2_i32_372 arg13
  let c1_i32_373 : BitVec 32 := 1#32
  let v857 : BitVec 32 := Scalar.addi v856 c1_i32_373
  let c32_i32_374 : BitVec 32 := 32#32
  let v858 : BitVec 32 := Scalar.muli v857 c32_i32_374
  let v860 : BitVec 32 := Scalar.addi v859 v858
  let c16_i32_376 : BitVec 32 := 16#32
  let v861 : BitVec 32 := Scalar.muli v860 c16_i32_376
  ![v861.toNat]
def k0_off13 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1024_i32_377 : BitVec 32 := 1024#32
  let v862 : BitVec 32 := Scalar.muli v18 c1024_i32_377
  let c2_i32_372 : BitVec 32 := 2#32
  let c1_i32_129 : BitVec 32 := 1#32
  let c1_i32_130 : BitVec 32 := 1#32
  let arg13 : BitVec 32 := Scf.iv c1_i32_129 c1_i32_130 k0_t1
  let v856 : BitVec 32 := Scalar.muli c2_i32_372 arg13
  let c1_i32_373 : BitVec 32 := 1#32
  let v857 : BitVec 32 := Scalar.addi v856 c1_i32_373
  let c32_i32_374 : BitVec 32 := 32#32
  let v858 : BitVec 32 := Scalar.muli v857 c32_i32_374
  let v863 : BitVec 32 := Scalar.addi v862 v858
  let c128_i32_378 : BitVec 32 := 128#32
  let v864 : BitVec 32 := Scalar.muli v863 c128_i32_378
  ![v864.toNat]

def k0_chk257 (v869 : IVec S16 32) : Prop :=
  (∀ a x, ((![v869] : Fin 1 → IVec S16 32) a x).toNat < S4096.size a)
theorem k0_idx257_inb : ∀ (v869 : IVec S16 32) (k0_hw257 : k0_chk257 v869), ∀ a x, ((![v869] : Fin 1 → IVec S16 32) a x).toNat < S4096.size a := fun v869 k0_hw257 => k0_hw257

def k0_chk258 (v867 : IVec S16 32) : Prop :=
  (∀ a x, ((![v867] : Fin 1 → IVec S16 32) a x).toNat < S32768.size a)
theorem k0_idx258_inb : ∀ (v867 : IVec S16 32) (k0_hw258 : k0_chk258 v867), ∀ a x, ((![v867] : Fin 1 → IVec S16 32) a x).toNat < S32768.size a := fun v867 k0_hw258 => k0_hw258

def k0_chk259 (v875 : IVec S16 32) : Prop :=
  (∀ a x, ((![v875] : Fin 1 → IVec S16 32) a x).toNat < S4096.size a)
theorem k0_idx259_inb : ∀ (v875 : IVec S16 32) (k0_hw259 : k0_chk259 v875), ∀ a x, ((![v875] : Fin 1 → IVec S16 32) a x).toNat < S4096.size a := fun v875 k0_hw259 => k0_hw259

def k0_chk260 (v873 : IVec S16 32) : Prop :=
  (∀ a x, ((![v873] : Fin 1 → IVec S16 32) a x).toNat < S32768.size a)
theorem k0_idx260_inb : ∀ (v873 : IVec S16 32) (k0_hw260 : k0_chk260 v873), ∀ a x, ((![v873] : Fin 1 → IVec S16 32) a x).toNat < S32768.size a := fun v873 k0_hw260 => k0_hw260

def k0_chk261 (v881 : IVec S16 32) : Prop :=
  (∀ a x, ((![v881] : Fin 1 → IVec S16 32) a x).toNat < S4096.size a)
theorem k0_idx261_inb : ∀ (v881 : IVec S16 32) (k0_hw261 : k0_chk261 v881), ∀ a x, ((![v881] : Fin 1 → IVec S16 32) a x).toNat < S4096.size a := fun v881 k0_hw261 => k0_hw261

def k0_chk262 (v879 : IVec S16 32) : Prop :=
  (∀ a x, ((![v879] : Fin 1 → IVec S16 32) a x).toNat < S32768.size a)
theorem k0_idx262_inb : ∀ (v879 : IVec S16 32) (k0_hw262 : k0_chk262 v879), ∀ a x, ((![v879] : Fin 1 → IVec S16 32) a x).toNat < S32768.size a := fun v879 k0_hw262 => k0_hw262

def k0_chk263 (v887 : IVec S16 32) : Prop :=
  (∀ a x, ((![v887] : Fin 1 → IVec S16 32) a x).toNat < S4096.size a)
theorem k0_idx263_inb : ∀ (v887 : IVec S16 32) (k0_hw263 : k0_chk263 v887), ∀ a x, ((![v887] : Fin 1 → IVec S16 32) a x).toNat < S4096.size a := fun v887 k0_hw263 => k0_hw263

def k0_chk264 (v885 : IVec S16 32) : Prop :=
  (∀ a x, ((![v885] : Fin 1 → IVec S16 32) a x).toNat < S32768.size a)
theorem k0_idx264_inb : ∀ (v885 : IVec S16 32) (k0_hw264 : k0_chk264 v885), ∀ a x, ((![v885] : Fin 1 → IVec S16 32) a x).toNat < S32768.size a := fun v885 k0_hw264 => k0_hw264

def k0_chk265 (v893 : IVec S16 32) : Prop :=
  (∀ a x, ((![v893] : Fin 1 → IVec S16 32) a x).toNat < S4096.size a)
theorem k0_idx265_inb : ∀ (v893 : IVec S16 32) (k0_hw265 : k0_chk265 v893), ∀ a x, ((![v893] : Fin 1 → IVec S16 32) a x).toNat < S4096.size a := fun v893 k0_hw265 => k0_hw265

def k0_chk266 (v891 : IVec S16 32) : Prop :=
  (∀ a x, ((![v891] : Fin 1 → IVec S16 32) a x).toNat < S32768.size a)
theorem k0_idx266_inb : ∀ (v891 : IVec S16 32) (k0_hw266 : k0_chk266 v891), ∀ a x, ((![v891] : Fin 1 → IVec S16 32) a x).toNat < S32768.size a := fun v891 k0_hw266 => k0_hw266

def k0_chk267 (v899 : IVec S16 32) : Prop :=
  (∀ a x, ((![v899] : Fin 1 → IVec S16 32) a x).toNat < S4096.size a)
theorem k0_idx267_inb : ∀ (v899 : IVec S16 32) (k0_hw267 : k0_chk267 v899), ∀ a x, ((![v899] : Fin 1 → IVec S16 32) a x).toNat < S4096.size a := fun v899 k0_hw267 => k0_hw267

def k0_chk268 (v897 : IVec S16 32) : Prop :=
  (∀ a x, ((![v897] : Fin 1 → IVec S16 32) a x).toNat < S32768.size a)
theorem k0_idx268_inb : ∀ (v897 : IVec S16 32) (k0_hw268 : k0_chk268 v897), ∀ a x, ((![v897] : Fin 1 → IVec S16 32) a x).toNat < S32768.size a := fun v897 k0_hw268 => k0_hw268

def k0_chk269 (v905 : IVec S16 32) : Prop :=
  (∀ a x, ((![v905] : Fin 1 → IVec S16 32) a x).toNat < S4096.size a)
theorem k0_idx269_inb : ∀ (v905 : IVec S16 32) (k0_hw269 : k0_chk269 v905), ∀ a x, ((![v905] : Fin 1 → IVec S16 32) a x).toNat < S4096.size a := fun v905 k0_hw269 => k0_hw269

def k0_chk270 (v903 : IVec S16 32) : Prop :=
  (∀ a x, ((![v903] : Fin 1 → IVec S16 32) a x).toNat < S32768.size a)
theorem k0_idx270_inb : ∀ (v903 : IVec S16 32) (k0_hw270 : k0_chk270 v903), ∀ a x, ((![v903] : Fin 1 → IVec S16 32) a x).toNat < S32768.size a := fun v903 k0_hw270 => k0_hw270

def k0_chk271 (v911 : IVec S16 32) : Prop :=
  (∀ a x, ((![v911] : Fin 1 → IVec S16 32) a x).toNat < S4096.size a)
theorem k0_idx271_inb : ∀ (v911 : IVec S16 32) (k0_hw271 : k0_chk271 v911), ∀ a x, ((![v911] : Fin 1 → IVec S16 32) a x).toNat < S4096.size a := fun v911 k0_hw271 => k0_hw271

def k0_chk272 (v909 : IVec S16 32) : Prop :=
  (∀ a x, ((![v909] : Fin 1 → IVec S16 32) a x).toNat < S32768.size a)
theorem k0_idx272_inb : ∀ (v909 : IVec S16 32) (k0_hw272 : k0_chk272 v909), ∀ a x, ((![v909] : Fin 1 → IVec S16 32) a x).toNat < S32768.size a := fun v909 k0_hw272 => k0_hw272

def k0_chk273 (v917 : IVec S16 32) : Prop :=
  (∀ a x, ((![v917] : Fin 1 → IVec S16 32) a x).toNat < S4096.size a)
theorem k0_idx273_inb : ∀ (v917 : IVec S16 32) (k0_hw273 : k0_chk273 v917), ∀ a x, ((![v917] : Fin 1 → IVec S16 32) a x).toNat < S4096.size a := fun v917 k0_hw273 => k0_hw273

def k0_chk274 (v915 : IVec S16 32) : Prop :=
  (∀ a x, ((![v915] : Fin 1 → IVec S16 32) a x).toNat < S32768.size a)
theorem k0_idx274_inb : ∀ (v915 : IVec S16 32) (k0_hw274 : k0_chk274 v915), ∀ a x, ((![v915] : Fin 1 → IVec S16 32) a x).toNat < S32768.size a := fun v915 k0_hw274 => k0_hw274

def k0_chk275 (v923 : IVec S16 32) : Prop :=
  (∀ a x, ((![v923] : Fin 1 → IVec S16 32) a x).toNat < S4096.size a)
theorem k0_idx275_inb : ∀ (v923 : IVec S16 32) (k0_hw275 : k0_chk275 v923), ∀ a x, ((![v923] : Fin 1 → IVec S16 32) a x).toNat < S4096.size a := fun v923 k0_hw275 => k0_hw275

def k0_chk276 (v921 : IVec S16 32) : Prop :=
  (∀ a x, ((![v921] : Fin 1 → IVec S16 32) a x).toNat < S32768.size a)
theorem k0_idx276_inb : ∀ (v921 : IVec S16 32) (k0_hw276 : k0_chk276 v921), ∀ a x, ((![v921] : Fin 1 → IVec S16 32) a x).toNat < S32768.size a := fun v921 k0_hw276 => k0_hw276

def k0_chk277 (v929 : IVec S16 32) : Prop :=
  (∀ a x, ((![v929] : Fin 1 → IVec S16 32) a x).toNat < S4096.size a)
theorem k0_idx277_inb : ∀ (v929 : IVec S16 32) (k0_hw277 : k0_chk277 v929), ∀ a x, ((![v929] : Fin 1 → IVec S16 32) a x).toNat < S4096.size a := fun v929 k0_hw277 => k0_hw277

def k0_chk278 (v927 : IVec S16 32) : Prop :=
  (∀ a x, ((![v927] : Fin 1 → IVec S16 32) a x).toNat < S32768.size a)
theorem k0_idx278_inb : ∀ (v927 : IVec S16 32) (k0_hw278 : k0_chk278 v927), ∀ a x, ((![v927] : Fin 1 → IVec S16 32) a x).toNat < S32768.size a := fun v927 k0_hw278 => k0_hw278

def k0_chk279 (v935 : IVec S16 32) : Prop :=
  (∀ a x, ((![v935] : Fin 1 → IVec S16 32) a x).toNat < S4096.size a)
theorem k0_idx279_inb : ∀ (v935 : IVec S16 32) (k0_hw279 : k0_chk279 v935), ∀ a x, ((![v935] : Fin 1 → IVec S16 32) a x).toNat < S4096.size a := fun v935 k0_hw279 => k0_hw279

def k0_chk280 (v933 : IVec S16 32) : Prop :=
  (∀ a x, ((![v933] : Fin 1 → IVec S16 32) a x).toNat < S32768.size a)
theorem k0_idx280_inb : ∀ (v933 : IVec S16 32) (k0_hw280 : k0_chk280 v933), ∀ a x, ((![v933] : Fin 1 → IVec S16 32) a x).toNat < S32768.size a := fun v933 k0_hw280 => k0_hw280

def k0_chk281 (v941 : IVec S16 32) : Prop :=
  (∀ a x, ((![v941] : Fin 1 → IVec S16 32) a x).toNat < S4096.size a)
theorem k0_idx281_inb : ∀ (v941 : IVec S16 32) (k0_hw281 : k0_chk281 v941), ∀ a x, ((![v941] : Fin 1 → IVec S16 32) a x).toNat < S4096.size a := fun v941 k0_hw281 => k0_hw281

def k0_chk282 (v939 : IVec S16 32) : Prop :=
  (∀ a x, ((![v939] : Fin 1 → IVec S16 32) a x).toNat < S32768.size a)
theorem k0_idx282_inb : ∀ (v939 : IVec S16 32) (k0_hw282 : k0_chk282 v939), ∀ a x, ((![v939] : Fin 1 → IVec S16 32) a x).toNat < S32768.size a := fun v939 k0_hw282 => k0_hw282

def k0_chk283 (v947 : IVec S16 32) : Prop :=
  (∀ a x, ((![v947] : Fin 1 → IVec S16 32) a x).toNat < S4096.size a)
theorem k0_idx283_inb : ∀ (v947 : IVec S16 32) (k0_hw283 : k0_chk283 v947), ∀ a x, ((![v947] : Fin 1 → IVec S16 32) a x).toNat < S4096.size a := fun v947 k0_hw283 => k0_hw283

def k0_chk284 (v945 : IVec S16 32) : Prop :=
  (∀ a x, ((![v945] : Fin 1 → IVec S16 32) a x).toNat < S32768.size a)
theorem k0_idx284_inb : ∀ (v945 : IVec S16 32) (k0_hw284 : k0_chk284 v945), ∀ a x, ((![v945] : Fin 1 → IVec S16 32) a x).toNat < S32768.size a := fun v945 k0_hw284 => k0_hw284

def k0_chk285 (v953 : IVec S16 32) : Prop :=
  (∀ a x, ((![v953] : Fin 1 → IVec S16 32) a x).toNat < S4096.size a)
theorem k0_idx285_inb : ∀ (v953 : IVec S16 32) (k0_hw285 : k0_chk285 v953), ∀ a x, ((![v953] : Fin 1 → IVec S16 32) a x).toNat < S4096.size a := fun v953 k0_hw285 => k0_hw285

def k0_chk286 (v951 : IVec S16 32) : Prop :=
  (∀ a x, ((![v951] : Fin 1 → IVec S16 32) a x).toNat < S32768.size a)
theorem k0_idx286_inb : ∀ (v951 : IVec S16 32) (k0_hw286 : k0_chk286 v951), ∀ a x, ((![v951] : Fin 1 → IVec S16 32) a x).toNat < S32768.size a := fun v951 k0_hw286 => k0_hw286

def k0_chk287 (v959 : IVec S16 32) : Prop :=
  (∀ a x, ((![v959] : Fin 1 → IVec S16 32) a x).toNat < S4096.size a)
theorem k0_idx287_inb : ∀ (v959 : IVec S16 32) (k0_hw287 : k0_chk287 v959), ∀ a x, ((![v959] : Fin 1 → IVec S16 32) a x).toNat < S4096.size a := fun v959 k0_hw287 => k0_hw287

def k0_chk288 (v957 : IVec S16 32) : Prop :=
  (∀ a x, ((![v957] : Fin 1 → IVec S16 32) a x).toNat < S32768.size a)
theorem k0_idx288_inb : ∀ (v957 : IVec S16 32) (k0_hw288 : k0_chk288 v957), ∀ a x, ((![v957] : Fin 1 → IVec S16 32) a x).toNat < S32768.size a := fun v957 k0_hw288 => k0_hw288

def k0_chk289 (v965 : IVec S16 32) : Prop :=
  (∀ a x, ((![v965] : Fin 1 → IVec S16 32) a x).toNat < S4096.size a)
theorem k0_idx289_inb : ∀ (v965 : IVec S16 32) (k0_hw289 : k0_chk289 v965), ∀ a x, ((![v965] : Fin 1 → IVec S16 32) a x).toNat < S4096.size a := fun v965 k0_hw289 => k0_hw289

def k0_chk290 (v963 : IVec S16 32) : Prop :=
  (∀ a x, ((![v963] : Fin 1 → IVec S16 32) a x).toNat < S32768.size a)
theorem k0_idx290_inb : ∀ (v963 : IVec S16 32) (k0_hw290 : k0_chk290 v963), ∀ a x, ((![v963] : Fin 1 → IVec S16 32) a x).toNat < S32768.size a := fun v963 k0_hw290 => k0_hw290

def k0_chk291 (v971 : IVec S16 32) : Prop :=
  (∀ a x, ((![v971] : Fin 1 → IVec S16 32) a x).toNat < S4096.size a)
theorem k0_idx291_inb : ∀ (v971 : IVec S16 32) (k0_hw291 : k0_chk291 v971), ∀ a x, ((![v971] : Fin 1 → IVec S16 32) a x).toNat < S4096.size a := fun v971 k0_hw291 => k0_hw291

def k0_chk292 (v969 : IVec S16 32) : Prop :=
  (∀ a x, ((![v969] : Fin 1 → IVec S16 32) a x).toNat < S32768.size a)
theorem k0_idx292_inb : ∀ (v969 : IVec S16 32) (k0_hw292 : k0_chk292 v969), ∀ a x, ((![v969] : Fin 1 → IVec S16 32) a x).toNat < S32768.size a := fun v969 k0_hw292 => k0_hw292

def k0_chk293 (v977 : IVec S16 32) : Prop :=
  (∀ a x, ((![v977] : Fin 1 → IVec S16 32) a x).toNat < S4096.size a)
theorem k0_idx293_inb : ∀ (v977 : IVec S16 32) (k0_hw293 : k0_chk293 v977), ∀ a x, ((![v977] : Fin 1 → IVec S16 32) a x).toNat < S4096.size a := fun v977 k0_hw293 => k0_hw293

def k0_chk294 (v975 : IVec S16 32) : Prop :=
  (∀ a x, ((![v975] : Fin 1 → IVec S16 32) a x).toNat < S32768.size a)
theorem k0_idx294_inb : ∀ (v975 : IVec S16 32) (k0_hw294 : k0_chk294 v975), ∀ a x, ((![v975] : Fin 1 → IVec S16 32) a x).toNat < S32768.size a := fun v975 k0_hw294 => k0_hw294

def k0_chk295 (v983 : IVec S16 32) : Prop :=
  (∀ a x, ((![v983] : Fin 1 → IVec S16 32) a x).toNat < S4096.size a)
theorem k0_idx295_inb : ∀ (v983 : IVec S16 32) (k0_hw295 : k0_chk295 v983), ∀ a x, ((![v983] : Fin 1 → IVec S16 32) a x).toNat < S4096.size a := fun v983 k0_hw295 => k0_hw295

def k0_chk296 (v981 : IVec S16 32) : Prop :=
  (∀ a x, ((![v981] : Fin 1 → IVec S16 32) a x).toNat < S32768.size a)
theorem k0_idx296_inb : ∀ (v981 : IVec S16 32) (k0_hw296 : k0_chk296 v981), ∀ a x, ((![v981] : Fin 1 → IVec S16 32) a x).toNat < S32768.size a := fun v981 k0_hw296 => k0_hw296

def k0_chk297 (v989 : IVec S16 32) : Prop :=
  (∀ a x, ((![v989] : Fin 1 → IVec S16 32) a x).toNat < S4096.size a)
theorem k0_idx297_inb : ∀ (v989 : IVec S16 32) (k0_hw297 : k0_chk297 v989), ∀ a x, ((![v989] : Fin 1 → IVec S16 32) a x).toNat < S4096.size a := fun v989 k0_hw297 => k0_hw297

def k0_chk298 (v987 : IVec S16 32) : Prop :=
  (∀ a x, ((![v987] : Fin 1 → IVec S16 32) a x).toNat < S32768.size a)
theorem k0_idx298_inb : ∀ (v987 : IVec S16 32) (k0_hw298 : k0_chk298 v987), ∀ a x, ((![v987] : Fin 1 → IVec S16 32) a x).toNat < S32768.size a := fun v987 k0_hw298 => k0_hw298

def k0_chk299 (v995 : IVec S16 32) : Prop :=
  (∀ a x, ((![v995] : Fin 1 → IVec S16 32) a x).toNat < S4096.size a)
theorem k0_idx299_inb : ∀ (v995 : IVec S16 32) (k0_hw299 : k0_chk299 v995), ∀ a x, ((![v995] : Fin 1 → IVec S16 32) a x).toNat < S4096.size a := fun v995 k0_hw299 => k0_hw299

def k0_chk300 (v993 : IVec S16 32) : Prop :=
  (∀ a x, ((![v993] : Fin 1 → IVec S16 32) a x).toNat < S32768.size a)
theorem k0_idx300_inb : ∀ (v993 : IVec S16 32) (k0_hw300 : k0_chk300 v993), ∀ a x, ((![v993] : Fin 1 → IVec S16 32) a x).toNat < S32768.size a := fun v993 k0_hw300 => k0_hw300

def k0_chk301 (v1001 : IVec S16 32) : Prop :=
  (∀ a x, ((![v1001] : Fin 1 → IVec S16 32) a x).toNat < S4096.size a)
theorem k0_idx301_inb : ∀ (v1001 : IVec S16 32) (k0_hw301 : k0_chk301 v1001), ∀ a x, ((![v1001] : Fin 1 → IVec S16 32) a x).toNat < S4096.size a := fun v1001 k0_hw301 => k0_hw301

def k0_chk302 (v999 : IVec S16 32) : Prop :=
  (∀ a x, ((![v999] : Fin 1 → IVec S16 32) a x).toNat < S32768.size a)
theorem k0_idx302_inb : ∀ (v999 : IVec S16 32) (k0_hw302 : k0_chk302 v999), ∀ a x, ((![v999] : Fin 1 → IVec S16 32) a x).toNat < S32768.size a := fun v999 k0_hw302 => k0_hw302

def k0_chk303 (v1007 : IVec S16 32) : Prop :=
  (∀ a x, ((![v1007] : Fin 1 → IVec S16 32) a x).toNat < S4096.size a)
theorem k0_idx303_inb : ∀ (v1007 : IVec S16 32) (k0_hw303 : k0_chk303 v1007), ∀ a x, ((![v1007] : Fin 1 → IVec S16 32) a x).toNat < S4096.size a := fun v1007 k0_hw303 => k0_hw303

def k0_chk304 (v1005 : IVec S16 32) : Prop :=
  (∀ a x, ((![v1005] : Fin 1 → IVec S16 32) a x).toNat < S32768.size a)
theorem k0_idx304_inb : ∀ (v1005 : IVec S16 32) (k0_hw304 : k0_chk304 v1005), ∀ a x, ((![v1005] : Fin 1 → IVec S16 32) a x).toNat < S32768.size a := fun v1005 k0_hw304 => k0_hw304

def k0_chk305 (v1013 : IVec S16 32) : Prop :=
  (∀ a x, ((![v1013] : Fin 1 → IVec S16 32) a x).toNat < S4096.size a)
theorem k0_idx305_inb : ∀ (v1013 : IVec S16 32) (k0_hw305 : k0_chk305 v1013), ∀ a x, ((![v1013] : Fin 1 → IVec S16 32) a x).toNat < S4096.size a := fun v1013 k0_hw305 => k0_hw305

def k0_chk306 (v1011 : IVec S16 32) : Prop :=
  (∀ a x, ((![v1011] : Fin 1 → IVec S16 32) a x).toNat < S32768.size a)
theorem k0_idx306_inb : ∀ (v1011 : IVec S16 32) (k0_hw306 : k0_chk306 v1011), ∀ a x, ((![v1011] : Fin 1 → IVec S16 32) a x).toNat < S32768.size a := fun v1011 k0_hw306 => k0_hw306

def k0_chk307 (v1019 : IVec S16 32) : Prop :=
  (∀ a x, ((![v1019] : Fin 1 → IVec S16 32) a x).toNat < S4096.size a)
theorem k0_idx307_inb : ∀ (v1019 : IVec S16 32) (k0_hw307 : k0_chk307 v1019), ∀ a x, ((![v1019] : Fin 1 → IVec S16 32) a x).toNat < S4096.size a := fun v1019 k0_hw307 => k0_hw307

def k0_chk308 (v1017 : IVec S16 32) : Prop :=
  (∀ a x, ((![v1017] : Fin 1 → IVec S16 32) a x).toNat < S32768.size a)
theorem k0_idx308_inb : ∀ (v1017 : IVec S16 32) (k0_hw308 : k0_chk308 v1017), ∀ a x, ((![v1017] : Fin 1 → IVec S16 32) a x).toNat < S32768.size a := fun v1017 k0_hw308 => k0_hw308

def k0_chk309 (v1025 : IVec S16 32) : Prop :=
  (∀ a x, ((![v1025] : Fin 1 → IVec S16 32) a x).toNat < S4096.size a)
theorem k0_idx309_inb : ∀ (v1025 : IVec S16 32) (k0_hw309 : k0_chk309 v1025), ∀ a x, ((![v1025] : Fin 1 → IVec S16 32) a x).toNat < S4096.size a := fun v1025 k0_hw309 => k0_hw309

def k0_chk310 (v1023 : IVec S16 32) : Prop :=
  (∀ a x, ((![v1023] : Fin 1 → IVec S16 32) a x).toNat < S32768.size a)
theorem k0_idx310_inb : ∀ (v1023 : IVec S16 32) (k0_hw310 : k0_chk310 v1023), ∀ a x, ((![v1023] : Fin 1 → IVec S16 32) a x).toNat < S32768.size a := fun v1023 k0_hw310 => k0_hw310

def k0_chk311 (v1031 : IVec S16 32) : Prop :=
  (∀ a x, ((![v1031] : Fin 1 → IVec S16 32) a x).toNat < S4096.size a)
theorem k0_idx311_inb : ∀ (v1031 : IVec S16 32) (k0_hw311 : k0_chk311 v1031), ∀ a x, ((![v1031] : Fin 1 → IVec S16 32) a x).toNat < S4096.size a := fun v1031 k0_hw311 => k0_hw311

def k0_chk312 (v1029 : IVec S16 32) : Prop :=
  (∀ a x, ((![v1029] : Fin 1 → IVec S16 32) a x).toNat < S32768.size a)
theorem k0_idx312_inb : ∀ (v1029 : IVec S16 32) (k0_hw312 : k0_chk312 v1029), ∀ a x, ((![v1029] : Fin 1 → IVec S16 32) a x).toNat < S32768.size a := fun v1029 k0_hw312 => k0_hw312

def k0_chk313 (v1037 : IVec S16 32) : Prop :=
  (∀ a x, ((![v1037] : Fin 1 → IVec S16 32) a x).toNat < S4096.size a)
theorem k0_idx313_inb : ∀ (v1037 : IVec S16 32) (k0_hw313 : k0_chk313 v1037), ∀ a x, ((![v1037] : Fin 1 → IVec S16 32) a x).toNat < S4096.size a := fun v1037 k0_hw313 => k0_hw313

def k0_chk314 (v1035 : IVec S16 32) : Prop :=
  (∀ a x, ((![v1035] : Fin 1 → IVec S16 32) a x).toNat < S32768.size a)
theorem k0_idx314_inb : ∀ (v1035 : IVec S16 32) (k0_hw314 : k0_chk314 v1035), ∀ a x, ((![v1035] : Fin 1 → IVec S16 32) a x).toNat < S32768.size a := fun v1035 k0_hw314 => k0_hw314

def k0_chk315 (v1043 : IVec S16 32) : Prop :=
  (∀ a x, ((![v1043] : Fin 1 → IVec S16 32) a x).toNat < S4096.size a)
theorem k0_idx315_inb : ∀ (v1043 : IVec S16 32) (k0_hw315 : k0_chk315 v1043), ∀ a x, ((![v1043] : Fin 1 → IVec S16 32) a x).toNat < S4096.size a := fun v1043 k0_hw315 => k0_hw315

def k0_chk316 (v1041 : IVec S16 32) : Prop :=
  (∀ a x, ((![v1041] : Fin 1 → IVec S16 32) a x).toNat < S32768.size a)
theorem k0_idx316_inb : ∀ (v1041 : IVec S16 32) (k0_hw316 : k0_chk316 v1041), ∀ a x, ((![v1041] : Fin 1 → IVec S16 32) a x).toNat < S32768.size a := fun v1041 k0_hw316 => k0_hw316

def k0_chk317 (v1049 : IVec S16 32) : Prop :=
  (∀ a x, ((![v1049] : Fin 1 → IVec S16 32) a x).toNat < S4096.size a)
theorem k0_idx317_inb : ∀ (v1049 : IVec S16 32) (k0_hw317 : k0_chk317 v1049), ∀ a x, ((![v1049] : Fin 1 → IVec S16 32) a x).toNat < S4096.size a := fun v1049 k0_hw317 => k0_hw317

def k0_chk318 (v1047 : IVec S16 32) : Prop :=
  (∀ a x, ((![v1047] : Fin 1 → IVec S16 32) a x).toNat < S32768.size a)
theorem k0_idx318_inb : ∀ (v1047 : IVec S16 32) (k0_hw318 : k0_chk318 v1047), ∀ a x, ((![v1047] : Fin 1 → IVec S16 32) a x).toNat < S32768.size a := fun v1047 k0_hw318 => k0_hw318

def k0_chk319 (v1055 : IVec S16 32) : Prop :=
  (∀ a x, ((![v1055] : Fin 1 → IVec S16 32) a x).toNat < S4096.size a)
theorem k0_idx319_inb : ∀ (v1055 : IVec S16 32) (k0_hw319 : k0_chk319 v1055), ∀ a x, ((![v1055] : Fin 1 → IVec S16 32) a x).toNat < S4096.size a := fun v1055 k0_hw319 => k0_hw319

def k0_chk320 (v1053 : IVec S16 32) : Prop :=
  (∀ a x, ((![v1053] : Fin 1 → IVec S16 32) a x).toNat < S32768.size a)
theorem k0_idx320_inb : ∀ (v1053 : IVec S16 32) (k0_hw320 : k0_chk320 v1053), ∀ a x, ((![v1053] : Fin 1 → IVec S16 32) a x).toNat < S32768.size a := fun v1053 k0_hw320 => k0_hw320
def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_475 : BitVec 32 := 1024#32
  let v1057 : BitVec 32 := Scalar.muli v1 c1024_i32_475
  let c2_i32_372 : BitVec 32 := 2#32
  let c1_i32_129 : BitVec 32 := 1#32
  let c1_i32_130 : BitVec 32 := 1#32
  let arg13 : BitVec 32 := Scf.iv c1_i32_129 c1_i32_130 k0_t1
  let v856 : BitVec 32 := Scalar.muli c2_i32_372 arg13
  let c1_i32_373 : BitVec 32 := 1#32
  let v857 : BitVec 32 := Scalar.addi v856 c1_i32_373
  let c32_i32_374 : BitVec 32 := 32#32
  let v858 : BitVec 32 := Scalar.muli v857 c32_i32_374
  let v1058 : BitVec 32 := Scalar.addi v1057 v858
  let c1024_i32_476 : BitVec 32 := 1024#32
  let v1059 : BitVec 32 := Scalar.muli v1058 c1024_i32_476
  ![v1059.toNat]
def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_132 : BitVec 32 := 1024#32
  let v443 : BitVec 32 := Scalar.muli v1 c1024_i32_132
  let c1024_i32_133 : BitVec 32 := 1024#32
  let v444 : BitVec 32 := Scalar.muli v443 c1024_i32_133
  ![v444.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x16 : Shape := ⟨3, ![4, 1024, 16]⟩
abbrev S4x1024x128 : Shape := ⟨3, ![4, 1024, 128]⟩
abbrev S_ : Shape := ⟨0, ![]⟩
abbrev S4x1024x1024x8 : Shape := ⟨4, ![4, 1024, 1024, 8]⟩
abbrev S4 : Shape := ⟨1, ![4]⟩
abbrev S4x1x1 : Shape := ⟨3, ![4, 1, 1]⟩
abbrev S1024 : Shape := ⟨1, ![1024]⟩
abbrev S1x1024x1 : Shape := ⟨3, ![1, 1024, 1]⟩
abbrev S4x1024x16x8 : Shape := ⟨4, ![4, 1024, 16, 8]⟩
abbrev S4x1024x16x1 : Shape := ⟨4, ![4, 1024, 16, 1]⟩
abbrev S4x1024x16x3 : Shape := ⟨4, ![4, 1024, 16, 3]⟩
abbrev S4x8x1024x1024 : Shape := ⟨4, ![4, 8, 1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x1024x16, .i32⟩
  | .hbm, ⟨1, _⟩ => ⟨S4x1024x128, .f32⟩
  | .hbm, ⟨2, _⟩ => ⟨S_, .f32⟩
  | .hbm, ⟨3, _⟩ => ⟨S4x1024x1024x8, .f32⟩
  | .hbm, ⟨4, _⟩ => ⟨S4, .i32⟩
  | .hbm, ⟨5, _⟩ => ⟨S4x1x1, .i32⟩
  | .hbm, ⟨6, _⟩ => ⟨S1024, .i32⟩
  | .hbm, ⟨7, _⟩ => ⟨S1x1024x1, .i32⟩
  | .hbm, ⟨8, _⟩ => ⟨S4x1024x16x8, .f32⟩
  | .hbm, ⟨9, _⟩ => ⟨S_, .i32⟩
  | .hbm, ⟨10, _⟩ => ⟨S4x1x1, .i32⟩
  | .hbm, ⟨11, _⟩ => ⟨S4x1x1, .i1⟩
  | .hbm, ⟨12, _⟩ => ⟨S_, .i32⟩
  | .hbm, ⟨13, _⟩ => ⟨S4x1x1, .i32⟩
  | .hbm, ⟨14, _⟩ => ⟨S4x1x1, .i32⟩
  | .hbm, ⟨15, _⟩ => ⟨S4x1x1, .i32⟩
  | .hbm, ⟨16, _⟩ => ⟨S_, .i32⟩
  | .hbm, ⟨17, _⟩ => ⟨S1x1024x1, .i32⟩
  | .hbm, ⟨18, _⟩ => ⟨S1x1024x1, .i1⟩
  | .hbm, ⟨19, _⟩ => ⟨S_, .i32⟩
  | .hbm, ⟨20, _⟩ => ⟨S1x1024x1, .i32⟩
  | .hbm, ⟨21, _⟩ => ⟨S1x1024x1, .i32⟩
  | .hbm, ⟨22, _⟩ => ⟨S1x1024x1, .i32⟩
  | .hbm, ⟨23, _⟩ => ⟨S_, .i32⟩
  | .hbm, ⟨24, _⟩ => ⟨S4x1024x16, .i32⟩
  | .hbm, ⟨25, _⟩ => ⟨S4x1024x16, .i1⟩
  | .hbm, ⟨26, _⟩ => ⟨S_, .i32⟩
  | .hbm, ⟨27, _⟩ => ⟨S4x1024x16, .i32⟩
  | .hbm, ⟨28, _⟩ => ⟨S4x1024x16, .i32⟩
  | .hbm, ⟨29, _⟩ => ⟨S4x1024x16, .i32⟩
  | .hbm, ⟨30, _⟩ => ⟨S4x1024x16, .i32⟩
  | .hbm, ⟨31, _⟩ => ⟨S4x1024x16, .i32⟩
  | .hbm, ⟨32, _⟩ => ⟨S4x1024x16x1, .i32⟩
  | .hbm, ⟨33, _⟩ => ⟨S4x1024x16x1, .i32⟩
  | .hbm, ⟨34, _⟩ => ⟨S4x1024x16x1, .i32⟩
  | .hbm, ⟨35, _⟩ => ⟨S4x1024x16x3, .i32⟩
  | .hbm, ⟨36, _⟩ => ⟨S4x1024x1024x8, .f32⟩
  | .hbm, ⟨37, _⟩ => ⟨S4x8x1024x1024, .f32⟩
  | _, _ => ⟨S4x1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== TcKernel.lean ====
abbrev S4x3x1024 : Shape := ⟨3, ![4, 3, 1024]⟩
abbrev S3x64 : Shape := ⟨2, ![3, 64]⟩
abbrev S64 : Shape := ⟨1, ![64]⟩
abbrev S64x8 : Shape := ⟨2, ![64, 8]⟩
abbrev S8 : Shape := ⟨1, ![8]⟩
abbrev S4x1024x3 : Shape := ⟨3, ![4, 1024, 3]⟩
abbrev S4x1024x9 : Shape := ⟨3, ![4, 1024, 9]⟩
abbrev S1x64 : Shape := ⟨2, ![1, 64]⟩
abbrev S1x8 : Shape := ⟨2, ![1, 8]⟩
abbrev S4x1024x16 : Shape := ⟨3, ![4, 1024, 16]⟩
abbrev S4x1024x128 : Shape := ⟨3, ![4, 1024, 128]⟩
abbrev S1x3x1024 : Shape := ⟨3, ![1, 3, 1024]⟩
abbrev S1x1024x9 : Shape := ⟨3, ![1, 1024, 9]⟩
abbrev S1x256x16 : Shape := ⟨3, ![1, 256, 16]⟩
abbrev S1x256x128 : Shape := ⟨3, ![1, 256, 128]⟩
abbrev S3x1024 : Shape := ⟨2, ![3, 1024]⟩
abbrev S1024x9 : Shape := ⟨2, ![1024, 9]⟩
abbrev S1x256x3 : Shape := ⟨3, ![1, 256, 3]⟩
abbrev S256x3 : Shape := ⟨2, ![256, 3]⟩
abbrev S1x1024 : Shape := ⟨2, ![1, 1024]⟩
abbrev S256 : Shape := ⟨1, ![256]⟩
abbrev S256x1 : Shape := ⟨2, ![256, 1]⟩
abbrev S256x1024 : Shape := ⟨2, ![256, 1024]⟩
abbrev S256x9 : Shape := ⟨2, ![256, 9]⟩
abbrev S256x64 : Shape := ⟨2, ![256, 64]⟩
abbrev S256x8 : Shape := ⟨2, ![256, 8]⟩
abbrev S1x256x1 : Shape := ⟨3, ![1, 256, 1]⟩
abbrev S1x256x8 : Shape := ⟨3, ![1, 256, 8]⟩

abbrev nBuf : Space → Nat
  | .hbm => 17
  | .vmem => 12
  | .smem => 0
  | _ => 0

abbrev bufTy : (tb : Table) → Fin (tcTables nBuf tb) → BufTy
  | .hbm, ⟨0, _⟩ => ⟨S4x3x1024, .f32⟩
  | .hbm, ⟨1, _⟩ => ⟨S3x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S4x1024x3, .f32⟩
  | .hbm, ⟨6, _⟩ => ⟨S4x1024x3, .bf16⟩
  | .hbm, ⟨7, _⟩ => ⟨S4x1024x3, .f32⟩
  | .hbm, ⟨8, _⟩ => ⟨S4x1024x3, .f32⟩
  | .hbm, ⟨9, _⟩ => ⟨S4x1024x3, .bf16⟩
  | .hbm, ⟨10, _⟩ => ⟨S4x1024x3, .f32⟩
  | .hbm, ⟨11, _⟩ => ⟨S4x1024x3, .f32⟩
  | .hbm, ⟨12, _⟩ => ⟨S4x1024x9, .f32⟩
  | .hbm, ⟨13, _⟩ => ⟨S1x64, .f32⟩
  | .hbm, ⟨14, _⟩ => ⟨S1x8, .f32⟩
  | .hbm, ⟨15, _⟩ => ⟨S4x1024x16, .i32⟩
  | .hbm, ⟨16, _⟩ => ⟨S4x1024x128, .f32⟩
  | .local _ .vmem, ⟨0, _⟩ => ⟨S1x3x1024, .f32⟩
  | .local _ .vmem, ⟨1, _⟩ => ⟨S1x3x1024, .f32⟩
  | .local _ .vmem, ⟨2, _⟩ => ⟨S1x1024x9, .f32⟩
  | .local _ .vmem, ⟨3, _⟩ => ⟨S1x1024x9, .f32⟩
  | .local _ .vmem, ⟨4, _⟩ => ⟨S3x64, .f32⟩
  | .local _ .vmem, ⟨5, _⟩ => ⟨S1x64, .f32⟩
  | .local _ .vmem, ⟨6, _⟩ => ⟨S64x8, .f32⟩
  | .local _ .vmem, ⟨7, _⟩ => ⟨S1x8, .f32⟩
  | .local _ .vmem, ⟨8, _⟩ => ⟨S1x256x16, .i32⟩
  | .local _ .vmem, ⟨9, _⟩ => ⟨S1x256x16, .i32⟩
  | .local _ .vmem, ⟨10, _⟩ => ⟨S1x256x128, .f32⟩
  | .local _ .vmem, ⟨11, _⟩ => ⟨S1x256x128, .f32⟩
  | _, _ => ⟨S4x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_5 : Index := 0#32
  let arg1 : BitVec 32 := BitVec.ofNat 32 (i 1).val
  let c256_i32 : BitVec 32 := 256#32
  let v0 : BitVec 32 := Scalar.muli arg1 c256_i32
  let v5 : Index := Scalar.indexCast v0
  let c0_6 : Index := 0#32
  ![0, v5.toNat, 0]
def k0_off2 (i : grid0.Coords) : Fin 3 → Nat :=
  let c0_7 : Index := 0#32
  let arg1 : BitVec 32 := BitVec.ofNat 32 (i 1).val
  let c256_i32 : BitVec 32 := 256#32
  let v0 : BitVec 32 := Scalar.muli arg1 c256_i32
  let v8 : Index := Scalar.indexCast v0
  let c3 : Index := 3#32
  ![0, v8.toNat, 3]
def k0_off3 (i : grid0.Coords) : Fin 3 → Nat :=
  let c0_8 : Index := 0#32
  let arg1 : BitVec 32 := BitVec.ofNat 32 (i 1).val
  let c256_i32 : BitVec 32 := 256#32
  let v0 : BitVec 32 := Scalar.muli arg1 c256_i32
  let v12 : Index := Scalar.indexCast v0
  let c6 : Index := 6#32
  ![0, v12.toNat, 6]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== TcReferenceIdeal.lean ====
abbrev S4x3x1024 : Shape := ⟨3, ![4, 3, 1024]⟩
abbrev S3x64 : Shape := ⟨2, ![3, 64]⟩
abbrev S64 : Shape := ⟨1, ![64]⟩
abbrev S64x8 : Shape := ⟨2, ![64, 8]⟩
abbrev S8 : Shape := ⟨1, ![8]⟩
abbrev S4x1024x3 : Shape := ⟨3, ![4, 1024, 3]⟩
abbrev S_ : Shape := ⟨0, ![]⟩
abbrev S4x1024 : Shape := ⟨2, ![4, 1024]⟩
abbrev S4x1024x1 : Shape := ⟨3, ![4, 1024, 1]⟩
abbrev S4x1x1024 : Shape := ⟨3, ![4, 1, 1024]⟩
abbrev S4x1024x1024 : Shape := ⟨3, ![4, 1024, 1024]⟩
abbrev S4x1024x16 : Shape := ⟨3, ![4, 1024, 16]⟩
abbrev S4 : Shape := ⟨1, ![4]⟩
abbrev S4x1x1 : Shape := ⟨3, ![4, 1, 1]⟩
abbrev S4x1024x16x1 : Shape := ⟨4, ![4, 1024, 16, 1]⟩
abbrev S4x1024x16x2 : Shape := ⟨4, ![4, 1024, 16, 2]⟩
abbrev S4x1024x16x3 : Shape := ⟨4, ![4, 1024, 16, 3]⟩
abbrev S4x1024x1x3 : Shape := ⟨4, ![4, 1024, 1, 3]⟩
abbrev S4x1024x16x64 : Shape := ⟨4, ![4, 1024, 16, 64]⟩
abbrev S1x1x1x64 : Shape := ⟨4, ![1, 1, 1, 64]⟩
abbrev S4x1024x16x8 : Shape := ⟨4, ![4, 1024, 16, 8]⟩
abbrev S1x1x1x8 : Shape := ⟨4, ![1, 1, 1, 8]⟩
abbrev S4x1024x128 : Shape := ⟨3, ![4, 1024, 128]⟩

abbrev nBuf : Space → Nat
  | .hbm => 58
  | .vmem => 0
  | .smem => 0
  | _ => 0

abbrev bufTy : (tb : Table) → Fin (tcTables nBuf tb) → BufTy
  | .hbm, ⟨0, _⟩ => ⟨S4x3x1024, .f32⟩
  | .hbm, ⟨1, _⟩ => ⟨S3x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S4x1024x3, .f32⟩
  | .hbm, ⟨6, _⟩ => ⟨S4x1024x3, .f32⟩
  | .hbm, ⟨7, _⟩ => ⟨S_, .f32⟩
  | .hbm, ⟨8, _⟩ => ⟨S4x1024, .f32⟩
  | .hbm, ⟨9, _⟩ => ⟨S4x1024x1, .f32⟩
  | .hbm, ⟨10, _⟩ => ⟨S4x1x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S4x1024x1024, .f32⟩
  | .hbm, ⟨20, _⟩ => ⟨S4x1024x16, .f32⟩
  | .hbm, ⟨21, _⟩ => ⟨S4x1024x16, .i32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .i32⟩
  | .hbm, ⟨28, _⟩ => ⟨S4x1x1, .i32⟩
  | .hbm, ⟨29, _⟩ => ⟨S4x1x1, .i32⟩
  | .hbm, ⟨30, _⟩ => ⟨S4x1x1, .i32⟩
  | .hbm, ⟨31, _⟩ => ⟨S_, .i32⟩
  | .hbm, ⟨32, _⟩ => ⟨S4x1024x16, .i32⟩
  | .hbm, ⟨33, _⟩ => ⟨S4x1024x16, .i1⟩
  | .hbm, ⟨34, _⟩ => ⟨S_, .i32⟩
  | .hbm, ⟨35, _⟩ => ⟨S4x1024x16, .i32⟩
  | .hbm, ⟨36, _⟩ => ⟨S4x1024x16, .i32⟩
  | .hbm, ⟨37, _⟩ => ⟨S4x1024x16, .i32⟩
  | .hbm, ⟨38, _⟩ => ⟨S4x1024x16, .i32⟩
  | .hbm, ⟨39, _⟩ => ⟨S4x1024x16x1, .i32⟩
  | .hbm, ⟨40, _⟩ => ⟨S4x1024x16x1, .i32⟩
  | .hbm, ⟨41, _⟩ => ⟨S4x1024x16x2, .i32⟩
  | .hbm, ⟨42, _⟩ => ⟨S4x1024x16x3, .f32⟩
  | .hbm, ⟨43, _⟩ => ⟨S4x1024x1x3, .f32⟩
  | .hbm, ⟨44, _⟩ => ⟨S4x1024x16x3, .f32⟩
  | .hbm, ⟨45, _⟩ => ⟨S4x1024x16x3, .f32⟩
  | .hbm, ⟨46, _⟩ => ⟨S4x1024x16x64, .f32⟩
  | .hbm, ⟨47, _⟩ => ⟨S1x1x1x64, .f32⟩
  | .hbm, ⟨48, _⟩ => ⟨S4x1024x16x64, .f32⟩
  | .hbm, ⟨49, _⟩ => ⟨S4x1024x16x64, .f32⟩
  | .hbm, ⟨50, _⟩ => ⟨S_, .f32⟩
  | .hbm, ⟨51, _⟩ => ⟨S4x1024x16x64, .f32⟩
  | .hbm, ⟨52, _⟩ => ⟨S4x1024x16x64, .f32⟩
  | .hbm, ⟨53, _⟩ => ⟨S4x1024x16x8, .f32⟩
  | .hbm, ⟨54, _⟩ => ⟨S1x1x1x8, .f32⟩
  | .hbm, ⟨55, _⟩ => ⟨S4x1024x16x8, .f32⟩
  | .hbm, ⟨56, _⟩ => ⟨S4x1024x16x8, .f32⟩
  | .hbm, ⟨57, _⟩ => ⟨S4x1024x128, .f32⟩
  | _, _ => ⟨S4x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Put.lean ====
/-
  The values of a tile's row operations, as plain functions of flat positions.

  A store of sixteen lanes keeps, at each position, the last lane that names it (`last`).  A fill and a clear of a chunk
  buffer (32 rows of 1024 words) are both `put`: row `r` takes lane `k`'s value `q r k` at column `p r k`.
-/
module

public import Idealize.ShloMosaic.PureOps.ShapeOps
public import Mathlib.Data.List.FinRange

@[expose] public section

namespace Cert.Proof.Put

open Idealize.ShloMosaic

/-- The rank-one shape of `n` elements. -/
abbrev Sh (n : ℕ) : Shape := ⟨1, ![n]⟩

variable {α : Type}

/-- Position `n` of a rank-one shape, wrapping round past its end. -/
def ix (N : ℕ) [NeZero N] (n : ℕ) : (Sh N).Idx :=
  fun a => ⟨n % N, by rw [Fin.eq_zero a]; exact Nat.mod_lt _ (Nat.pos_of_ne_zero (NeZero.ne N))⟩

/-- The element at position `n`. -/
def rd {N : ℕ} [NeZero N] (f : (Sh N).Idx → α) (n : ℕ) : α := f (ix N n)

theorem lt_size {N : ℕ} (j : (Sh N).Idx) : (j 0).val < N := (j 0).isLt

theorem ix_val {N : ℕ} [NeZero N] {n : ℕ} (h : n < N) : (ix N n 0).val = n := Nat.mod_eq_of_lt h

theorem idx_ext {N : ℕ} {i j : (Sh N).Idx} (h : (i 0).val = (j 0).val) : i = j := by
  funext a; rw [Fin.eq_zero a]; exact Fin.ext h

theorem ix_self {N : ℕ} [NeZero N] (j : (Sh N).Idx) : ix N (j 0).val = j := idx_ext (ix_val (lt_size j))

theorem rd_self {N : ℕ} [NeZero N] (f : (Sh N).Idx → α) (j : (Sh N).Idx) : rd f (j 0).val = f j := by rw [rd, ix_self]

theorem rd_of_val {N : ℕ} [NeZero N] (f : (Sh N).Idx → α) (j : (Sh N).Idx) {n : ℕ} (h : (j 0).val = n) : f j = rd f n := by
  rw [← h, rd_self]

/-- The value of the last of sixteen lanes at position `j`, or `x` where none is. -/
def last (p : Fin 16 → ℕ) (q : Fin 16 → α) (j : ℕ) (x : α) : α :=
  (List.finRange 16).foldl (fun acc k => if p k = j then q k else acc) x

theorem foldl_none {β : Type} (l : List β) (P : β → Prop) [DecidablePred P] (q : β → α) (x : α) (h : ∀ k ∈ l, ¬ P k) :
    l.foldl (fun acc k => if P k then q k else acc) x = x := by
  induction l generalizing x with
  | nil => rfl
  | cons k l ih =>
    rw [List.foldl_cons, if_neg (h k (List.mem_cons_self ..))]
    exact ih _ fun k' hk' => h k' (List.mem_cons_of_mem _ hk')

/-- With one value for every lane a fold over lanes either takes it or keeps what was there. -/
theorem foldl_const {β : Type} (l : List β) (P : β → Prop) [DecidablePred P] (z x : α) :
    l.foldl (fun acc k => if P k then z else acc) x = if ∃ k ∈ l, P k then z else x := by
  induction l generalizing x with
  | nil => simp
  | cons k l ih =>
    rw [List.foldl_cons, ih]
    by_cases h : P k
    · simp [h]
    · simp [h]

theorem last_none {p : Fin 16 → ℕ} {q : Fin 16 → α} {j : ℕ} {x : α} (h : ∀ k, p k ≠ j) : last p q j x = x :=
  foldl_none _ (fun k => p k = j) q x fun k _ => h k

/-- Zeros stored where a row was stored leave zeros. -/
theorem last_zero (p : Fin 16 → ℕ) (q : Fin 16 → α) (j : ℕ) (z : α) : last p (fun _ => z) j (last p q j z) = z := by
  by_cases h : ∃ k, p k = j
  · have := foldl_const (List.finRange 16) (fun k => p k = j) z (last p q j z)
    unfold last at this ⊢
    rw [this, if_pos]
    obtain ⟨k, hk⟩ := h
    exact ⟨k, List.mem_finRange k, hk⟩
  · have h' : ∀ k, p k ≠ j := fun k hk => h ⟨k, hk⟩
    rw [last_none h', last_none h']

/-- Rows below `r` of a chunk buffer taken from sixteen lanes each, the others as they were. -/
def put (p : ℕ → Fin 16 → ℕ) (q : ℕ → Fin 16 → α) (r : ℕ) (g : (Sh 32768).Idx → α) : (Sh 32768).Idx → α :=
  fun j => if (j 0).val / 1024 < r then last (p ((j 0).val / 1024)) (q ((j 0).val / 1024)) ((j 0).val % 1024) (g j) else g j

theorem put_zero (p : ℕ → Fin 16 → ℕ) (q : ℕ → Fin 16 → α) (g : (Sh 32768).Idx → α) : put p q 0 g = g := by
  funext j; simp [put]

theorem put_all (p : ℕ → Fin 16 → ℕ) (q : ℕ → Fin 16 → α) (g : (Sh 32768).Idx → α) (j : (Sh 32768).Idx) :
    put p q 32 g j = last (p ((j 0).val / 1024)) (q ((j 0).val / 1024)) ((j 0).val % 1024) (g j) := by
  have := lt_size j
  rw [put, if_pos (by omega)]

/-- A clear undoes the fill at the same columns. -/
theorem clear_fill (p : ℕ → Fin 16 → ℕ) (q : ℕ → Fin 16 → α) (z : α) :
    put p (fun _ _ => z) 32 (put p q 32 fun _ => z) = fun _ => z := by
  funext j; rw [put_all, put_all, last_zero]

/-- A store of sixteen lanes, element by element. -/
theorem storeIdx_apply {F : FTy → Type} [FloatOps F] {e : EltTy} (f : Vec F (Sh 32768) e) (w : IVec (Sh 16) 32) (v : Vec F (Sh 16) e)
    (h : ∀ a x, ((![w] : Fin 1 → IVec (Sh 16) 32) a x).toNat < (Sh 32768).size a) (j : (Sh 32768).Idx) :
    storeIdx (s := Sh 32768) (d := ![16]) f ![w] v (fun _ => 1#1) false h j
      = last (fun k => (rd w k.val).toNat) (fun k => rd v k.val) (j 0).val (f j) := by
  have hl : ∀ k : Fin 16, (Shape.ofLane (d := ![16]) k) = ix 16 k.val := fun k => idx_ext (ix_val k.isLt).symm
  let step : Vec F (Sh 32768) e → Fin 16 → Vec F (Sh 32768) e := fun g k j' =>
    if (∀ a, (j' a).val = (idxAt (s := Sh 32768) ![w] h (Shape.ofLane (d := ![16]) k) a).val) then v (Shape.ofLane (d := ![16]) k) else g j'
  have key : ∀ (l : List (Fin 16)) (f : Vec F (Sh 32768) e),
      l.foldl step f j = l.foldl (fun acc k => if (rd w k.val).toNat = (j 0).val then rd v k.val else acc) (f j) := by
    intro l
    induction l with
    | nil => intro f; rfl
    | cons k l ih =>
      intro f
      rw [List.foldl_cons, List.foldl_cons, ih]
      congr 1
      have e : (∀ a, (j a).val = (idxAt (s := Sh 32768) ![w] h (Shape.ofLane (d := ![16]) k) a).val) ↔ (rd w k.val).toNat = (j 0).val := by
        constructor
        · intro H; rw [rd, ← hl]; exact (H 0).symm
        · intro H a; rw [Fin.eq_zero a, ← H, rd, ← hl]; rfl
      show (if (∀ a, (j a).val = (idxAt (s := Sh 32768) ![w] h (Shape.ofLane (d := ![16]) k) a).val) then v (Shape.ofLane (d := ![16]) k) else f j) = _
      by_cases c : (rd w k.val).toNat = (j 0).val
      · rw [if_pos c, if_pos (e.mpr c), rd, ← hl]
      · rw [if_neg c, if_neg (mt e.mp c)]
  exact key (List.finRange 16) f

/-- One more row of a `put`. -/
theorem storeIdx_put {F : FTy → Type} [FloatOps F] {e : EltTy} (p : ℕ → Fin 16 → ℕ) (q : ℕ → Fin 16 → Elt F e) (r : ℕ)
    (g : (Sh 32768).Idx → Elt F e) (w : IVec (Sh 16) 32) (v : Vec F (Sh 16) e)
    (h : ∀ a x, ((![w] : Fin 1 → IVec (Sh 16) 32) a x).toNat < (Sh 32768).size a)
    (hp : ∀ k : Fin 16, p r k < 1024) (hw : ∀ k : Fin 16, (rd w k.val).toNat = 1024 * r + p r k) (hv : ∀ k : Fin 16, rd v k.val = q r k) :
    storeIdx (s := Sh 32768) (d := ![16]) (put p q r g) ![w] v (fun _ => 1#1) false h = put p q (r + 1) g := by
  funext j
  rw [storeIdx_apply]
  simp only [hw, hv]
  unfold put
  rcases Nat.lt_trichotomy ((j 0).val / 1024) r with c | c | c
  · rw [if_pos c, if_pos (by omega), last_none (x := last _ _ _ _)]
    intro k; have := hp k; omega
  · rw [if_neg (by omega), if_pos (by omega), c]
    unfold last
    congr 1; funext acc k
    have e : 1024 * r + p r k = (j 0).val ↔ p r k = (j 0).val % 1024 := by omega
    simp only [e]
  · rw [if_neg (by omega), if_neg (by omega), last_none]
    intro k; have := hp k; omega

end Cert.Proof.Put

end
-- ==== Proof.Scatter.lean ====
/-
  The reference's scatter read at one entry: the last of a row's sixteen neighbours at the entry's column.
-/
module

public import proofs.«01_k».proof.Proof.Gen.ReferenceIdeal.Run
public import proofs.«01_k».proof.Proof.Put
public import Idealize.ShloMosaic.Lib.Routing.OpsOrder
public import Idealize.ShloMosaic.Lib.PointwiseCore

@[expose] public section

set_option maxRecDepth 100000

namespace Cert.Proof.Ref

open Cert.ReferenceIdeal Cert.ReferenceIdeal.Gen
open Cert.ReferenceIdeal.Facts Cert.ReferenceIdeal.Facts₀
open Idealize.ShloMosaic
open Cert.Proof.Put (last)

/-! ## A fold over many positions of which few count -/

/-- A conditional fold over all positions is the fold over an increasing family holding every position the condition selects. -/
theorem foldl_family {α : Type} {N M : ℕ} (e : Fin M → Fin N) (he : StrictMono e) (P : Fin N → Prop) [DecidablePred P] (hP : ∀ n, P n → ∃ k, e k = n)
    (q : Fin N → α) (x : α) :
    (List.finRange N).foldl (fun acc n => if P n then q n else acc) x
      = (List.finRange M).foldl (fun acc k => if P (e k) then q (e k) else acc) x := by
  have h1 : ∀ (K : ℕ) (Q : Fin K → Prop) [DecidablePred Q] (v : Fin K → α),
      (List.finRange K).foldl (fun acc n => if Q n then v n else acc) x
        = ((List.finRange K).filter fun n => decide (Q n)).foldl (fun _ n => v n) x := by
    intro K Q _ v
    rw [List.foldl_filter]
    simp only [decide_eq_true_eq]
  rw [h1 N P q, h1 M (fun k => P (e k)) fun k => q (e k)]
  have h2 : (List.finRange N).filter (fun n => decide (P n)) = ((List.finRange M).filter fun k => decide (P (e k))).map e := by
    refine List.Perm.eq_of_pairwise (le := (· < ·)) (fun a b _ _ hab hba => absurd hab (lt_asymm hba)) ?_ ?_ ?_
    · exact List.Pairwise.filter _ (List.pairwise_lt_finRange N)
    · exact List.Pairwise.map _ (fun a b h => he h) (List.Pairwise.filter _ (List.pairwise_lt_finRange M))
    · refine (List.perm_ext_iff_of_nodup ?_ ?_).2 fun n => ?_
      · exact List.Nodup.filter _ (List.nodup_finRange N)
      · exact List.Nodup.map he.injective (List.Nodup.filter _ (List.nodup_finRange M))
      · simp only [List.mem_filter, List.mem_finRange, true_and, decide_eq_true_eq, List.mem_map]
        constructor
        · intro h
          obtain ⟨k, rfl⟩ := hP n h
          exact ⟨k, h, rfl⟩
        · rintro ⟨k, h, rfl⟩
          exact h
  rw [h2, List.foldl_map]

/-! ## Where an update lands -/

/-- An update lands at an entry when its start and its window coordinate add up to the entry's coordinate on every axis. -/
theorem lands_iff {s si u : Shape} (d : ScatterDims s si u) {w : ℕ} (j : u.Idx) (idx : IVec si w) (e : s.Idx) :
    d.resultIdx? j idx = some e ↔ ∀ a, d.start j idx a + (d.window j a : Int) = ((e a).val : Int) := by
  unfold ScatterDims.resultIdx?
  split
  · next h =>
    constructor
    · intro he a
      have h0 := h a
      have e0 : (d.start j idx a + (d.window j a : Int)).toNat = (e a).val := congrArg Fin.val (congrFun (Option.some.inj he) a)
      omega
    · intro he
      refine congrArg some (funext fun a => Fin.ext ?_)
      show (d.start j idx a + (d.window j a : Int)).toNat = (e a).val
      rw [he a]; exact Int.toNat_natCast _
  · next h =>
    constructor
    · intro he; cases he
    · intro he
      refine (h fun a => ?_).elim
      rw [he a]
      have := (e a).isLt
      omega

/-- The scatter's dimension numbers. -/
abbrev dims : ScatterDims S4x1024x1024x8 S4x1024x16x3 S4x1024x16x8 := scatter_S4x1024x1024x8_S4x1024x16x3_S4x1024x16x8_3_012_012_3

section
variable (b : Fin 4) (r : Fin 1024) (k : Fin 16) (h : Fin 8) (idx : IVec S4x1024x16x3 32)

theorem start_0 : dims.start (ix4 b r k h) idx 0 = (idx (ix4 b r k 0)).toInt := by
  have e : dims.siIdx (ix4 b r k h) ⟨0, by decide⟩ = ix4 b r k 0 := by
    funext a; match a with | ⟨0, _⟩ => rfl | ⟨1, _⟩ => rfl | ⟨2, _⟩ => rfl | ⟨3, _⟩ => rfl
  rw [← e]; rfl
theorem start_1 : dims.start (ix4 b r k h) idx 1 = (idx (ix4 b r k 1)).toInt := by
  have e : dims.siIdx (ix4 b r k h) ⟨1, by decide⟩ = ix4 b r k 1 := by
    funext a; match a with | ⟨0, _⟩ => rfl | ⟨1, _⟩ => rfl | ⟨2, _⟩ => rfl | ⟨3, _⟩ => rfl
  rw [← e]; rfl
theorem start_2 : dims.start (ix4 b r k h) idx 2 = (idx (ix4 b r k 2)).toInt := by
  have e : dims.siIdx (ix4 b r k h) ⟨2, by decide⟩ = ix4 b r k 2 := by
    funext a; match a with | ⟨0, _⟩ => rfl | ⟨1, _⟩ => rfl | ⟨2, _⟩ => rfl | ⟨3, _⟩ => rfl
  rw [← e]; rfl
theorem start_3 : dims.start (ix4 b r k h) idx 3 = 0 := rfl
theorem window_0 : dims.window (ix4 b r k h) 0 = 0 := rfl
theorem window_1 : dims.window (ix4 b r k h) 1 = 0 := rfl
theorem window_2 : dims.window (ix4 b r k h) 2 = 0 := rfl
theorem window_3 : dims.window (ix4 b r k h) 3 = h.val := rfl

/-- Update `(b, r, k, h)`, whose index words are `b`, `r` and a column, lands on channel `h` of that column of row `r`. -/
theorem lands (h0 : (idx (ix4 b r k 0)).toInt = b.val) (h1 : (idx (ix4 b r k 1)).toInt = r.val)
    (b' : Fin 4) (r' c' : Fin 1024) (h' : Fin 8) :
    dims.resultIdx? (ix4 b r k h) idx = some (ix4 b' r' c' h')
      ↔ b = b' ∧ r = r' ∧ (idx (ix4 b r k 2)).toInt = c'.val ∧ h = h' := by
  rw [lands_iff]
  constructor
  · intro e
    have e0 := e 0; have e1 := e 1; have e2 := e 2; have e3 := e 3
    rw [start_0, window_0, h0] at e0
    rw [start_1, window_1, h1] at e1
    rw [start_2, window_2] at e2
    rw [start_3, window_3] at e3
    change (b.val : Int) + ((0 : ℕ) : Int) = (b'.val : Int) at e0
    change (r.val : Int) + ((0 : ℕ) : Int) = (r'.val : Int) at e1
    change (idx (ix4 b r k 2)).toInt + ((0 : ℕ) : Int) = (c'.val : Int) at e2
    change 0 + (h.val : Int) = (h'.val : Int) at e3
    exact ⟨Fin.ext (by omega), Fin.ext (by omega), by omega, Fin.ext (by omega)⟩
  · rintro ⟨rfl, rfl, e, rfl⟩ a
    match a with
    | ⟨0, _⟩ => exact (congrArg₂ (fun x y => x + ((y : ℕ) : Int)) (start_0 b r k h idx) (window_0 b r k h)).trans (by rw [h0]; exact Int.add_zero _)
    | ⟨1, _⟩ => exact (congrArg₂ (fun x y => x + ((y : ℕ) : Int)) (start_1 b r k h idx) (window_1 b r k h)).trans (by rw [h1]; exact Int.add_zero _)
    | ⟨2, _⟩ => exact (congrArg₂ (fun x y => x + ((y : ℕ) : Int)) (start_2 b r k h idx) (window_2 b r k h)).trans (by rw [e]; exact Int.add_zero _)
    | ⟨3, _⟩ => exact (congrArg₂ (fun x y => x + ((y : ℕ) : Int)) (start_3 b r k h idx) (window_3 b r k h)).trans (Int.zero_add _)
end

/-! ## The scatter at an entry -/

/-- Where neighbour `k` of row `(b, r)` stands among the updates, on channel `h`. -/
def at_ (b : Fin 4) (r : Fin 1024) (h : Fin 8) (k : Fin 16) : Fin S4x1024x16x8.numel := S4x1024x16x8.rowMajor (ix4 b r k h)

theorem at_val (b : Fin 4) (r : Fin 1024) (h : Fin 8) (k : Fin 16) :
    (at_ b r h k).val = ((b.val * 1024 + r.val) * 16 + k.val) * 8 + h.val := by
  unfold at_
  rw [Shape.rowMajor_val_four]
  rfl

theorem at_mono (b : Fin 4) (r : Fin 1024) (h : Fin 8) : StrictMono (at_ b r h) := by
  intro k k' hk
  rw [Fin.lt_def, at_val, at_val]
  have : k.val < k'.val := hk
  omega

/-- Entry `(b, r, c, h)` of the scatter over distinct rows is the last of the row's sixteen updates at column `c`, or the operand's. -/
theorem scatter_last {α : Type} (x : S4x1024x1024x8.Idx → α) (idx : IVec S4x1024x16x3 32) (upd : S4x1024x16x8.Idx → α)
    (h0 : ∀ b r k, (idx (ix4 b r k 0)).toInt = ((b : Fin 4).val : Int)) (h1 : ∀ b r k, (idx (ix4 b r k 1)).toInt = ((r : Fin 1024).val : Int))
    (b : Fin 4) (r c : Fin 1024) (h : Fin 8) (p : Fin 16 → ℕ) (hp : ∀ k, (idx (ix4 b r k 2)).toInt = (p k : Int)) :
    Host.scatter dims (fun _ v => v) x idx upd (ix4 b r c h) = last p (fun k => upd (ix4 b r k h)) c.val (x (ix4 b r c h)) := by
  rw [← Routing.scatterIn_finRange, Routing.scatterIn_at]
  rw [foldl_family (at_ b r h) (at_mono b r h) (fun n => dims.resultIdx? (S4x1024x16x8.rowMajor.symm n) idx = some (ix4 b r c h)) ?_]
  · unfold last
    refine congrArg (fun f => List.foldl f _ _) (funext fun acc => funext fun k => ?_)
    have e : S4x1024x16x8.rowMajor.symm (at_ b r h k) = ix4 b r k h := Equiv.symm_apply_apply _ _
    rw [e]
    refine if_congr ?_ rfl rfl
    rw [lands b r k h idx (h0 b r k) (h1 b r k), hp]
    exact ⟨fun q => Int.ofNat.inj q.2.2.1, fun q => ⟨rfl, rfl, congrArg _ q, rfl⟩⟩
  · intro n hn
    obtain ⟨b', r', k, h', e⟩ : ∃ (b' : Fin 4) (r' : Fin 1024) (k : Fin 16) (h' : Fin 8), S4x1024x16x8.rowMajor.symm n = ix4 b' r' k h' :=
      ⟨_, _, _, _, eq_ix4 _⟩
    rw [e, lands _ _ _ _ idx (h0 _ _ _) (h1 _ _ _)] at hn
    obtain ⟨rfl, rfl, -, rfl⟩ := hn
    exact ⟨k, ((Equiv.symm_apply_eq _).1 e).symm⟩

end Cert.Proof.Ref
-- ==== Proof.RefValue.lean ====
/-
  The reference's result read at one entry.
-/
module

public import proofs.«01_k».proof.Proof.Scatter

@[expose] public section

set_option maxRecDepth 100000

noncomputable section

namespace Cert.Proof.Ref

open Cert.ReferenceIdeal Cert.ReferenceIdeal.Gen
open Idealize.ShloMosaic
open Cert.Proof.Put (last)

variable {F : FTy → Type} [FloatOps F]

/-- The batches' numbers, wrapped as an index into an axis of 4. -/
def batchWords : IVec S4x1x1 32 :=
  select (cmpi .slt (broadcastInDim S4x1x1 ![0] bcast_S4_S4x1x1_0 (iotaInDim S4 32 0)) (broadcastInDim S4x1x1 ![] bcast_S_S4x1x1 (constantI S_ 32 0#32)))
    (addi (broadcastInDim S4x1x1 ![0] bcast_S4_S4x1x1_0 (iotaInDim S4 32 0)) (broadcastInDim S4x1x1 ![] bcast_S_S4x1x1 (constantI S_ 32 4#32)))
    (broadcastInDim S4x1x1 ![0] bcast_S4_S4x1x1_0 (iotaInDim S4 32 0))

/-- The rows' numbers, wrapped as an index into an axis of 1024. -/
def rowWords : IVec S1x1024x1 32 :=
  select (cmpi .slt (broadcastInDim S1x1024x1 ![1] bcast_S1024_S1x1024x1_1 (iotaInDim S1024 32 0)) (broadcastInDim S1x1024x1 ![] bcast_S_S1x1024x1 (constantI S_ 32 0#32)))
    (addi (broadcastInDim S1x1024x1 ![1] bcast_S1024_S1x1024x1_1 (iotaInDim S1024 32 0)) (broadcastInDim S1x1024x1 ![] bcast_S_S1x1024x1 (constantI S_ 32 1024#32)))
    (broadcastInDim S1x1024x1 ![1] bcast_S1024_S1x1024x1_1 (iotaInDim S1024 32 0))

/-- The columns' numbers, wrapped as an index into an axis of 1024. -/
def colWords (A : IVec S4x1024x16 32) : IVec S4x1024x16 32 :=
  select (cmpi .slt A (broadcastInDim S4x1024x16 ![] bcast_S_S4x1024x16 (constantI S_ 32 0#32)))
    (addi A (broadcastInDim S4x1024x16 ![] bcast_S_S4x1024x16 (constantI S_ 32 1024#32))) A

/-- The scatter's index words. -/
def words (A : IVec S4x1024x16 32) : IVec S4x1024x16x3 32 :=
  concatenate S4x1024x16x3 3
    [⟨S4x1024x16x1, broadcastInDim S4x1024x16x1 ![0, 1, 2] bcast_S4x1024x16_S4x1024x16x1_0_1_2 (broadcastInDim S4x1024x16 ![0, 1, 2] bcast_S4x1x1_S4x1024x16_0_1_2 batchWords)⟩,
     ⟨S4x1024x16x1, broadcastInDim S4x1024x16x1 ![0, 1, 2] bcast_S4x1024x16_S4x1024x16x1_0_1_2 (broadcastInDim S4x1024x16 ![0, 1, 2] bcast_S1x1024x1_S4x1024x16_0_1_2 rowWords)⟩,
     ⟨S4x1024x16x1, broadcastInDim S4x1024x16x1 ![0, 1, 2] bcast_S4x1024x16_S4x1024x16x1_0_1_2 (colWords A)⟩]
    concatenates_S4x1024x16x1_S4x1024x16x1_S4x1024x16x1_S4x1024x16x3_d3

/-- The reference's result of column numbers `A` and biases `V`. -/
def out (A : IVec S4x1024x16 32) (V : S4x1024x128.Idx → Elt F .f32) : S4x8x1024x1024.Idx → Elt F .f32 :=
  transpose S4x8x1024x1024 [0, 3, 1, 2]
    (Host.scatter dims (fun _ v => v) (broadcastInDim S4x1024x1024x8 ![] bcast_S_S4x1024x1024x8 (constant (F := F) S_ .f32 0x00000000#32)) (words A)
      (shapeCast S4x1024x16x8 V shapeCasts_S4x1024x128_S4x1024x16x8))
    transposes_S4x1024x1024x8_S4x8x1024x1024_0_3_1_2

variable (A : IVec S4x1024x16 32) (b : Fin 4) (r : Fin 1024) (k : Fin 16)

theorem toInt_small {x : BitVec 32} (h : x.toNat < 2 ^ 31) : x.toInt = x.toNat := by
  rw [BitVec.toInt_eq_toNat_of_lt (by omega)]

theorem iota_small {n : ℕ} (h : n < 1024) : (BitVec.ofNat 32 n).toNat = n := by
  rw [BitVec.toNat_ofNat]; exact Nat.mod_eq_of_lt (by omega)

theorem words_0 : (words A (ix4 b r k 0)).toInt = (b.val : Int) := by
  have hb := b.isLt
  have e : words A (ix4 b r k 0) = BitVec.ofNat 32 b.val := by
    unfold words batchWords
    pointwise
    exact Routing.wrap_of_lt _ _ (by rw [iota_small (by omega)]; omega)
  rw [e, toInt_small (by rw [iota_small (by omega)]; omega), iota_small (by omega)]

theorem words_1 : (words A (ix4 b r k 1)).toInt = (r.val : Int) := by
  have hr := r.isLt
  have e : words A (ix4 b r k 1) = BitVec.ofNat 32 r.val := by
    unfold words rowWords
    pointwise
    exact Routing.wrap_of_lt _ _ (by rw [iota_small (by omega)]; omega)
  rw [e, toInt_small (by rw [iota_small (by omega)]; omega), iota_small (by omega)]

theorem words_2 (hA : ∀ j, (A j).toNat < 1024) : (words A (ix4 b r k 2)).toInt = ((A (ix3 b r k)).toNat : Int) := by
  have h := hA (ix3 b r k)
  have e : words A (ix4 b r k 2) = A (ix3 b r k) := by
    unfold words colWords
    pointwise
    exact Routing.wrap_of_lt _ _ (by omega)
  rw [e, toInt_small (by omega)]

/-- Channel `h` of neighbour `k`. -/
def lane (h : Fin 8) (k : Fin 16) : Fin 128 := ⟨8 * k.val + h.val, by omega⟩

/-- The reference's result at an entry: the last of the row's neighbours there, or zero. -/
theorem out_at (V : S4x1024x128.Idx → Elt F .f32) (hA : ∀ j, (A j).toNat < 1024) (h : Fin 8) (c : Fin 1024) :
    out A V (ix4 b h r c)
      = last (fun k => (A (ix3 b r k)).toNat) (fun k => V (ix3 b r (lane h k))) c.val (Scalar.ofBits .f32 0x00000000#32) := by
  unfold out
  rw [transpose_apply [0, 3, 1, 2] _ _ (ix4 b h r c) (ix4 b r c h) (fun a => by match a with | ⟨0, _⟩ => rfl | ⟨1, _⟩ => rfl | ⟨2, _⟩ => rfl | ⟨3, _⟩ => rfl)]
  rw [scatter_last _ _ _ (words_0 A) (words_1 A) b r c h _ (fun k => words_2 A b r k hA)]
  refine congrArg₂ (fun q x => last _ q c.val x) (funext fun k => ?_) ?_
  · refine shapeCast_apply _ _ _ _ ?_
    rw [Shape.rowMajor_val_four, Shape.rowMajor_val_three]
    show (b.val * 1024 + r.val) * 128 + (8 * k.val + h.val) = ((b.val * 1024 + r.val) * 16 + k.val) * 8 + h.val
    omega
  · rfl

end Cert.Proof.Ref
-- ==== Proof.ProgIdeal.lean ====
/-
  The tile's program, said once per row instead of once per printed statement.

  The printed kernel unrolls 32 rows of each fill and of each clear.  Here one row of a fill (`fillRow`), one row of a
  clear (`clearRow`), the repetition of either (`fillRows`, `clearRows`), a whole fill (`fill`) and the loop's trip
  (`trip`) are programs of their own, and `body_eq` says that the printed body is that program.
-/
module

public import proofs.«01_k».proof.Defs
public import Idealize.ShloMosaic.Lib.SparseCore.Quiescent
public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.FillIdeal

open Cert.KernelIdeal Cert.KernelIdeal.Gen
open Idealize.ShloMosaic Idealize.SL.Sem

variable {F : FTy → Type} [FloatOps F]

/-- Programs of the tile at grid coordinates `i`. -/
abbrev TProg (F : FTy → Type) (i : grid0.Coords) (α : Type) : Type 1 :=
  Prog (TpuEff nD τ sig (Elt F) Λ₀ (.scVector ((i 0).castLE hcore0) ((i 1).castLE hsub0))) α

abbrev F32M : Type := Memref sig .scVector .vmem S32768 .f32
abbrev I512M : Type := Memref sig .scVector .vmem S512 .i32
abbrev F4096M : Type := Memref sig .scVector .vmem S4096 .f32

/-- The sixteen positions of row `r` in a chunk buffer: the row's sixteen column numbers plus `1024 r`. -/
def rowPos (v : Vec F S16 .i32) (r : ℕ) : IVec S16 32 := addi v (broadcast S16 (BitVec.ofNat 32 (1024 * r)))

/-- The sixteen positions of row `r` in the bias chunk: lane `k` at `g k + 128 r`. -/
def biasPos (g : IVec S16 32) (r : ℕ) : IVec S16 32 := addi g (broadcast S16 (BitVec.ofNat 32 (128 * r)))

/-- Sixteen words that are positions of a chunk buffer. -/
def InBuf (v : IVec S16 32) : Prop := ∀ a x, ((![v] : Fin 1 → IVec S16 32) a x).toNat < S32768.size a
instance InBuf.dec (v : IVec S16 32) : Decidable (InBuf v) := decidable_of_iff' _ (Iff.of_eq (InBuf.eq_1 v))

/-- Sixteen words that are positions of the bias chunk. -/
def InBias (v : IVec S16 32) : Prop := ∀ a x, ((![v] : Fin 1 → IVec S16 32) a x).toNat < S4096.size a
instance InBias.dec (v : IVec S16 32) : Decidable (InBias v) := decidable_of_iff' _ (Iff.of_eq (InBias.eq_1 v))

theorem row_inb {r : ℕ} (h : r < 32) : ∀ a, (![16 * r] : Fin 1 → ℕ) a + S16.size a ≤ S512.size a := by
  intro a; fin_cases a; show 16 * r + 16 ≤ 512; omega

variable {i : grid0.Coords}

/-- One row of a fill, then `k`: read the row's column numbers, gather the row's biases, store them. -/
def fillRow (g : IVec S16 32) (buf : F32M) (ix : I512M) (bv : F4096M) (r : ℕ) (hr : r < 32) (k : TProg F i PUnit) : TProg F i PUnit :=
  Prog.op (.load ix (Rect.unit (s := S512) ![16 * r] S16.size (row_inb hr)).toLoadRect (View.loadsAt_vmem h_S16)) fun v =>
  Prog.op (.assume (InBuf (rowPos v r)) (InBuf.dec _)) fun h₁ =>
  Prog.op (.assume (InBias (biasPos g r)) (InBias.dec _)) fun h₂ =>
  SparseCore.vectorLoadIdx bv ![biasPos g r] h₂.down (View.loads_vmem h_S4096) >>= fun w =>
  SparseCore.vectorStoreIdx buf ![rowPos v r] w (fun _ => 1#1) false h₁.down (View.stores_vmem_bits_univ h_S32768 rfl) >>= fun _ => k

/-- The last `n` rows of a fill, then `k`. -/
def fillRows (g : IVec S16 32) (buf : F32M) (ix : I512M) (bv : F4096M) : (n : ℕ) → n ≤ 32 → TProg F i PUnit → TProg F i PUnit
  | 0, _, k => k
  | n + 1, h, k => fillRow g buf ix bv (31 - n) (by omega) (fillRows g buf ix bv n (by omega) k)

/-- One row of a clear, then `k`: read the row's column numbers, store zeros there. -/
def clearRow (z : FVec F S16 .f32) (buf : F32M) (ix : I512M) (r : ℕ) (hr : r < 32) (k : TProg F i PUnit) : TProg F i PUnit :=
  Prog.op (.load ix (Rect.unit (s := S512) ![16 * r] S16.size (row_inb hr)).toLoadRect (View.loadsAt_vmem h_S16)) fun v =>
  Prog.op (.assume (InBuf (rowPos v r)) (InBuf.dec _)) fun h₁ =>
  SparseCore.vectorStoreIdx buf ![rowPos v r] z (fun _ => 1#1) false h₁.down (View.stores_vmem_bits_univ h_S32768 rfl) >>= fun _ => k

/-- The last `n` rows of a clear, then `k`. -/
def clearRows (z : FVec F S16 .f32) (buf : F32M) (ix : I512M) : (n : ℕ) → n ≤ 32 → TProg F i PUnit → TProg F i PUnit
  | 0, _, k => k
  | n + 1, h, k => clearRow z buf ix (31 - n) (by omega) (clearRows z buf ix n (by omega) k)

-- the arrays and the scratch as the printed call passes them
abbrev iW : Memref sig .scVector .hbm S65536 .i32 := Memref.whole main_v0_scv
abbrev bW : Memref sig .scVector .hbm S524288 .f32 := Memref.whole main_v1_scv
abbrev zW : Memref sig .scVector .hbm S32768 .f32 := Memref.whole main_v2_scv
abbrev oW : Memref sig .scVector .hbm S33554432 .f32 := Memref.whole main_v3_scv
abbrev bufA : Memref sig .scVector .vmem S32768 .f32 := Memref.whole cc0_scratch0
abbrev bufB : Memref sig .scVector .vmem S32768 .f32 := Memref.whole cc0_scratch1
abbrev ixA : Memref sig .scVector .vmem S512 .i32 := Memref.whole cc0_scratch2
abbrev ixB : Memref sig .scVector .vmem S512 .i32 := Memref.whole cc0_scratch3
abbrev biasV : Memref sig .scVector .vmem S4096 .f32 := Memref.whole cc0_scratch4

/-- Copy all of the zeros array into a chunk buffer, wait, then `k`. -/
def zeroFetch (buf : F32M) (hb : buf.IsWhole) (s : DmaSem sig) (k : TProg F i PUnit) : TProg F i PUnit :=
  Prog.op (.enqueueDma zW (.here buf) (.dma s) (Memref.isWhole_whole _).wordExact hb.wordExact ⟨Or.inl rfl, trivial⟩) fun _ =>
  Prog.op (.waitDma2 s zW buf (Memref.isWhole_whole _).wordExact hb.wordExact) fun _ => k

/-- Fetch a chunk's column numbers (at offset `oi` of the index array), then its biases (at `ob`), each waited for; store its 32 rows;
    start the buffer's copy to the result's chunk (at `oo`), which is not waited for; then `k`. -/
def fill (g : IVec S16 32) (buf : F32M) (hbuf : buf.IsWhole) (ix : I512M) (hix : ix.IsWhole) (si sb so : DmaSem sig)
    (oi : Fin 1 → ℕ) (hi : ∀ a, oi a + S512.size a ≤ S65536.size a) (ob : Fin 1 → ℕ) (hb : ∀ a, ob a + S4096.size a ≤ S524288.size a)
    (oo : Fin 1 → ℕ) (ho : ∀ a, oo a + S32768.size a ≤ S33554432.size a) (k : TProg F i PUnit) : TProg F i PUnit :=
  Prog.op (.enqueueDma (iW.slice (Rect.unit (s := S65536) oi S512.size hi) (fun _ => rfl)) (.here ix) (.dma si) (View.wordExact_bits rfl) hix.wordExact ⟨Or.inl rfl, trivial⟩) fun _ =>
  Prog.op (.waitDma2 si (iW.slice (Rect.unit (s := S65536) oi S512.size hi) (fun _ => rfl)) ix (View.wordExact_bits rfl) hix.wordExact) fun _ =>
  Prog.op (.enqueueDma (bW.slice (Rect.unit (s := S524288) ob S4096.size hb) (fun _ => rfl)) (.here biasV) (.dma sb) (View.wordExact_bits rfl) (Memref.isWhole_whole _).wordExact ⟨Or.inl rfl, trivial⟩) fun _ =>
  Prog.op (.waitDma2 sb (bW.slice (Rect.unit (s := S524288) ob S4096.size hb) (fun _ => rfl)) biasV (View.wordExact_bits rfl) (Memref.isWhole_whole _).wordExact) fun _ =>
  fillRows g buf ix biasV 32 le_rfl <|
  Prog.op (.enqueueDma buf (.here (oW.slice (Rect.unit (s := S33554432) oo S32768.size ho) (fun _ => rfl))) (.dma so) hbuf.wordExact (View.wordExact_bits rfl) ⟨Or.inl rfl, trivial⟩) fun _ => k

/-- Wait for a buffer's copy to the result (the wait names a chunk of the same size at `oo`), then `k`. -/
def drain (buf : F32M) (hbuf : buf.IsWhole) (so : DmaSem sig)
    (oo : Fin 1 → ℕ) (ho : ∀ a, oo a + S32768.size a ≤ S33554432.size a) (k : TProg F i PUnit) : TProg F i PUnit :=
  Prog.op (.waitDma2 so buf (oW.slice (Rect.unit (s := S33554432) oo S32768.size ho) (fun _ => rfl)) hbuf.wordExact (View.wordExact_bits rfl)) fun _ => k

/-- A trip of the loop: each buffer drained, cleared, filled with its next chunk and sent. -/
def trip (i : grid0.Coords) (t : Fin k0_t1_loop.trips) (_ : BitVec 32) : TProg F i (BitVec 32) :=
  (drain bufA (Memref.isWhole_whole _) cc0_scratch5.sem (k0_off7 i) (k0_off7_inb i) <|
   clearRows k0_pay194 bufA ixA 32 le_rfl <|
   fill (k0_pay193 i) bufA (Memref.isWhole_whole _) ixA (Memref.isWhole_whole _) cc0_scoped6.sem cc0_scoped7.sem cc0_scratch5.sem
     (k0_off8 i t) (k0_off8_inb i t) (k0_off9 i t) (k0_off9_inb i t) (k0_off10 i t) (k0_off10_inb i t) <|
   drain bufB (Memref.isWhole_whole _) cc0_scratch6.sem (k0_off11 i) (k0_off11_inb i) <|
   clearRows k0_pay194 bufB ixB 32 le_rfl <|
   fill (k0_pay193 i) bufB (Memref.isWhole_whole _) ixB (Memref.isWhole_whole _) cc0_scoped8.sem cc0_scoped9.sem cc0_scratch6.sem
     (k0_off12 i t) (k0_off12_inb i t) (k0_off13 i t) (k0_off13_inb i t) (k0_off14 i t) (k0_off14_inb i t) (.ret ⟨⟩)) >>= fun _ => .ret 0#32

/-- The body: both buffers zeroed, filled with the first two chunks and sent; the loop; the last two copies waited for. -/
def body (i : grid0.Coords) : TProg F i PUnit :=
  zeroFetch bufA (Memref.isWhole_whole _) cc0_scoped0.sem <|
  zeroFetch bufB (Memref.isWhole_whole _) cc0_scoped1.sem <|
  fill (k0_pay193 i) bufA (Memref.isWhole_whole _) ixA (Memref.isWhole_whole _) cc0_scoped2.sem cc0_scoped3.sem cc0_scratch5.sem
    (k0_off1 i) (k0_off1_inb i) (k0_off2 i) (k0_off2_inb i) (k0_off3 i) (k0_off3_inb i) <|
  fill (k0_pay193 i) bufB (Memref.isWhole_whole _) ixB (Memref.isWhole_whole _) cc0_scoped4.sem cc0_scoped5.sem cc0_scratch6.sem
    (k0_off4 i) (k0_off4_inb i) (k0_off5 i) (k0_off5_inb i) (k0_off6 i) (k0_off6_inb i) <|
  Scf.Loop.for k0_t1_loop k0_t1_ok 0#32 (trip i) >>= fun _ =>
  drain bufA (Memref.isWhole_whole _) cc0_scratch5.sem (k0_off15 i) (k0_off15_inb i) <|
  drain bufB (Memref.isWhole_whole _) cc0_scratch6.sem (k0_off15 i) (k0_off15_inb i) (.ret ⟨⟩)

/-- The printed body at the call's arrays and scratch. -/
abbrev printed (i : grid0.Coords) : TProg F i PUnit :=
  cc0_k i iW (Memref.isWhole_whole _) bW (Memref.isWhole_whole _) zW (Memref.isWhole_whole _) oW (Memref.isWhole_whole _)
    bufA (Memref.isWhole_whole _) bufB (Memref.isWhole_whole _) ixA (Memref.isWhole_whole _) ixB (Memref.isWhole_whole _)
    biasV (Memref.isWhole_whole _) cc0_scratch5 cc0_scratch6 cc0_scoped0 cc0_scoped1 cc0_scoped2 cc0_scoped3 cc0_scoped4
    cc0_scoped5 cc0_scoped6 cc0_scoped7 cc0_scoped8 cc0_scoped9

set_option maxRecDepth 100000 in
set_option maxHeartbeats 4000000 in
theorem trip_eq (v414 : IVec S16 32) (hw : k0_chk122 v414) (v1 v18 : BitVec 32) :
    k0_t1_body i iW (Memref.isWhole_whole _) bW (Memref.isWhole_whole _) zW (Memref.isWhole_whole _) oW (Memref.isWhole_whole _)
      bufA (Memref.isWhole_whole _) bufB (Memref.isWhole_whole _) ixA (Memref.isWhole_whole _) ixB (Memref.isWhole_whole _)
      biasV (Memref.isWhole_whole _) cc0_scratch5 cc0_scratch6 cc0_scoped0 cc0_scoped1 cc0_scoped2 cc0_scoped3 cc0_scoped4
      cc0_scoped5 cc0_scoped6 cc0_scoped7 cc0_scoped8 cc0_scoped9 v1 v18 (k0_pay193 i) (k0_pay194 (F := F)) v414 hw = trip i := by
  funext t acc
  rfl

set_option maxRecDepth 100000 in
set_option maxHeartbeats 4000000 in
theorem body_eq : printed (F := F) i = body i := by
  unfold printed
  rw [cc0_k_eq_skeleton, cc0_k_skel]
  simp only [k0_part37_eq_skeleton, k0_part37_skel, Prog.bind_assoc, Prog.bind_ret, Prog.pure_eq_ret, trip_eq]
  rfl

end Cert.Proof.FillIdeal

end
-- ==== Proof.BaseIdeal.lean ====
/-
  The launch as the proof sees it — its configuration, its ghost state, a tile's thread — and what it means for a tile to
  hold a memref's contents.
-/
module

public import proofs.«01_k».proof.Proof.ProgIdeal
public import proofs.«01_k».proof.Proof.Put
public import Idealize.ShloMosaic.Lib.StableHlo.Run
public import Idealize.ShloMosaic.Lib.Pipeline.Kit

@[expose] public section

noncomputable section

namespace Cert.Proof.FillIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Put

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's ghost state: the handshakes' rounds beside the copies' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A tile -/

abbrev cV (i : grid0.Coords) : Fin τ.nSC := (i 0).castLE hcore0
abbrev jV (i : grid0.Coords) : Fin τ.nSub := (i 1).castLE hsub0
/-- The thread of the tile at `i`. -/
abbrev thr (d : Dev nD) (i : grid0.Coords) : Thread nD τ := V d (cV i) (jV i)

variable (d : Dev nD) (i : grid0.Coords)

/-- The tile runs `p` to `Q`. -/
abbrev Runs [FloatOps F] {α : Type} (p : TProg F i α) (Q : α → sProp 𝕄) : sProp 𝕄 :=
  wp frame (wpE (defs₀ (F := F)) 𝒱₀ (thr d i) none) Set.univ p Q

/-- The tile holds the memref's whole buffer, which reads `x`. -/
def Holds {sp : Space} {s : Shape} {e : EltTy} (m : Memref sig .scVector sp s e) (x : s.Idx → Elt F e) : sProp 𝕄 :=
  iprop(∃ f : Buf (Elt F) (m.view.loc (thr d i)), ⌜m.view.read (Elt F) f = x⌝ ∗ (m.view.loc (thr d i) ↦{fullShare} f))

/-- The tile still owes the launch `O`; of its waits only those recorded in `W` or of no handshake are on record. -/
def Owing (O : CellTallies nD τ sig (HIx 1)) (W : Waits sig (HIx 1)) : sProp 𝕄 :=
  iprop(∃ W', ⌜∀ p ∈ W', p ∈ W ∨ p.2 = none⌝ ∗ owes (thr d i) O W')

variable [FloatOps F]
variable {α : Type}

/-! ## Reading and storing through a held memref -/

/-- A load of a rectangle of a held memref. -/
theorem runs_load {s : Shape} {e : EltTy} {m : Memref sig .scVector .vmem s e} {x : s.Idx → Elt F e} {r : Rect s}
    {hl : m.view.LoadsAt r} {k : (r.shape.Idx → Elt F e) → TProg F i α} {Q : α → sProp 𝕄} :
    Holds d i m x ⊢ iprop((Holds d i m x -∗ Runs d i (k fun y => x (r.emb y)) Q) -∗ Runs d i (.op (.load m r hl) k) Q) := by
  unfold Holds
  iintro ⟨%f, %hf, H⟩ Hk
  iapply (wp_load_rect (defs := defs₀ (F := F)) 𝒱₀ (thr d i) none Set.univ (Q := Q) (m := m) (r := r) (hl := hl) (k := k)
    (q := fullShare) (f := f) (Finset.subset_univ _)) $$ H
  iintro H
  have e : (m.access r).read (Elt F) f = fun y => x (r.emb y) := by rw [← hf]; rfl
  rw [e]
  iapply Hk
  iexists f
  isplitr; · ipureintro; exact hf
  iexact H

/-- A gather from a held memref. -/
theorem runs_gather {s t : Shape} {e : EltTy} {m : Memref sig .scVector .vmem s e} {x : s.Idx → Elt F e}
    {idxs : Fin s.rank → IVec t 32} {h : ∀ a x, (idxs a x).toNat < s.size a} {hl : m.view.Loads} {k : Vec F t e → TProg F i α} {Q : α → sProp 𝕄} :
    Holds d i m x ⊢ iprop((Holds d i m x -∗ Runs d i (k (loadIdx x idxs h)) Q)
      -∗ Runs d i (SparseCore.vectorLoadIdx m idxs h hl >>= k) Q) := by
  unfold Holds
  iintro ⟨%f, %hf, H⟩ Hk
  iapply (SparseCore.wp_vectorLoadIdx (defs := defs₀ (F := F)) 𝒱₀ (thr d i) none Set.univ (Q := Q) (base := m) (idxs := idxs) (h := h) (hl := hl) (k := k)
    (q := fullShare) (f := f) (Finset.subset_univ _)) $$ H
  iintro H
  have e : (m.access (.whole s)).read (Elt F) f = x := by
    rw [← hf]; funext y
    show m.view.read (Elt F) f ((Rect.whole s).emb y) = _
    rw [Rect.emb_whole_apply]
  rw [e]
  iapply Hk
  iexists f
  isplitr; · ipureintro; exact hf
  iexact H

/-- A scatter into a held memref that is the whole of its buffer. -/
theorem runs_scatter {s : Shape} {e : EltTy} {dd : Fin 1 → ℕ} {m : Memref sig .scVector .vmem s e} (hm : m.IsWhole) {x : s.Idx → Elt F e}
    {idxs : Fin s.rank → IVec ⟨1, dd⟩ 32} {v : Vec F ⟨1, dd⟩ e} {mask : IVec ⟨1, dd⟩ 1} {add : Bool}
    {h : ∀ a x, (idxs a x).toNat < s.size a} {hs : (m.access (.whole s)).Stores Finset.univ} {k : PUnit → TProg F i α} {Q : α → sProp 𝕄} :
    Holds d i m x ⊢ iprop((Holds d i m (storeIdx x idxs v mask add h) -∗ Runs d i (k ⟨⟩) Q)
      -∗ Runs d i (SparseCore.vectorStoreIdx m idxs v mask add h hs >>= k) Q) := by
  unfold Holds
  have hset : (m.access (.whole s)).set = Finset.univ := by
    show (m.view.slice (.whole s)).set = _
    rw [View.set_slice, Rect.set_whole]; exact hm.set_eq_univ
  iintro ⟨%f, %hf, H⟩ Hk
  ihave H := (Entails.of_eq (show (m.view.loc (thr d i) ↦{fullShare} f : sProp 𝕄)
    = ((m.access (.whole s)).loc (thr d i) ↦[(m.access (.whole s)).set]{fullShare} f) by rw [hset])) $$ H
  iapply (SparseCore.wp_vectorStoreIdx (defs := defs₀ (F := F)) 𝒱₀ (thr d i) none Set.univ (Q := Q) (base := m) (idxs := idxs) (v := v) (mask := mask) (add := add)
    (h := h) (hs := hs) (k := k) (f := f)) $$ H
  iintro H
  have rd : ∀ g, m.view.read (Elt F) g = (m.access (.whole s)).read (Elt F) g := fun g => by
    funext y
    show _ = m.view.read (Elt F) g ((Rect.whole s).emb y)
    rw [Rect.emb_whole_apply]
  iapply Hk
  iexists ((m.access (.whole s)).write (Elt F) f (storeIdx ((m.access (.whole s)).read (Elt F) f) idxs v mask add h) Finset.univ)
  isplitr
  · ipureintro
    rw [rd, View.read_write_univ, ← rd, hf]
  rw [hset]
  iexact H

end Cert.Proof.FillIdeal

end
-- ==== Proof.RowsIdeal.lean ====
/-
  A fill and a clear of a chunk buffer: one row each, then all 32 by induction.
-/
module

public import proofs.«01_k».proof.Proof.BaseIdeal

@[expose] public section

noncomputable section

namespace Cert.Proof.FillIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Put

variable {F : FTy → Type} [FloatOps F]

local notation "𝕄" => MT nD τ sig (HIx 1) (Elt F) ℕ UU ℕ

variable (d : Dev nD) (i : grid0.Coords)

/-- The columns that a chunk's index words name: lane `k` of row `r`. -/
def cols (fi : S512.Idx → Elt F .i32) (r : ℕ) (k : Fin 16) : ℕ := BitVec.toNat (rd (N := 512) fi (16 * r + k.val) : BitVec 32)

/-- The biases that go there, for head `h`. -/
def vals (fb : S4096.Idx → Elt F .f32) (h : ℕ) (r : ℕ) (k : Fin 16) : Elt F .f32 := rd (N := 4096) fb (128 * r + (8 * k.val + h))

/-- The sixteen index words of row `r`. -/
def rowOf (fi : S512.Idx → Elt F .i32) (r : ℕ) (hr : r < 32) : Vec F S16 .i32 :=
  fun y => fi ((Rect.unit (s := S512) ![16 * r] S16.size (row_inb hr)).emb y)

theorem rd_rowOf (fi : S512.Idx → Elt F .i32) (r : ℕ) (hr : r < 32) (k : Fin 16) :
    rd (N := 16) (rowOf fi r hr) k.val = rd (N := 512) fi (16 * r + k.val) := by
  have hk : (ix 16 k.val 0).val = k.val := ix_val k.isLt
  refine rd_of_val (N := 512) fi ((Rect.unit (s := S512) ![16 * r] S16.size (row_inb hr)).emb (ix 16 k.val)) ?_
  show 16 * r + 1 * (ix 16 k.val 0).val = _
  rw [hk]; omega

theorem rd_rowPos (fi : S512.Idx → Elt F .i32) (r : ℕ) (hr : r < 32) (k : Fin 16) (h : cols fi r k < 1024) :
    (rd (N := 16) (rowPos (F := F) (rowOf fi r hr) r) k.val).toNat = 1024 * r + cols fi r k := by
  have e : (rd (N := 16) (rowPos (F := F) (rowOf fi r hr) r) k.val)
      = (rd (N := 16) (rowOf fi r hr) k.val : BitVec 32) + BitVec.ofNat 32 (1024 * r) := rfl
  rw [e, rd_rowOf]
  unfold cols at h ⊢
  rw [BitVec.toNat_add, BitVec.toNat_ofNat]
  omega

theorem rd_biasPos (g : IVec S16 32) (r : ℕ) (hr : r < 32) (h : ℕ) (hh : h < 8) (k : Fin 16) (hg : (rd (N := 16) g k.val).toNat = 8 * k.val + h) :
    (rd (N := 16) (biasPos g r) k.val).toNat = 128 * r + (8 * k.val + h) := by
  have e : (rd (N := 16) (biasPos g r) k.val) = rd (N := 16) g k.val + BitVec.ofNat 32 (128 * r) := rfl
  rw [e, BitVec.toNat_add, BitVec.toNat_ofNat, hg]
  omega

theorem inBuf_of (fi : S512.Idx → Elt F .i32) (r : ℕ) (hr : r < 32) (h : ∀ r k, cols fi r k < 1024) : InBuf (rowPos (F := F) (rowOf fi r hr) r) := by
  intro a x
  fin_cases a
  show (rowPos (F := F) (rowOf fi r hr) r x).toNat < 32768
  have hx := lt_size (N := 16) x
  rw [← rd_self (N := 16) (rowPos (F := F) (rowOf fi r hr) r) x, rd_rowPos fi r hr ⟨(x 0).val, hx⟩ (h _ _)]
  have := h r ⟨(x 0).val, hx⟩
  omega

theorem inBias_of (g : IVec S16 32) (r : ℕ) (hr : r < 32) (h : ℕ) (hh : h < 8) (hg : ∀ k : Fin 16, (rd (N := 16) g k.val).toNat = 8 * k.val + h) :
    InBias (biasPos g r) := by
  intro a x
  fin_cases a
  show (biasPos g r x).toNat < 4096
  have hx := lt_size (N := 16) x
  rw [← rd_self (N := 16) (biasPos g r) x, rd_biasPos g r hr h hh ⟨(x 0).val, hx⟩ (hg _)]
  show 128 * r + (8 * (x 0).val + h) < 4096
  omega

theorem rd_gather (fb : S4096.Idx → Elt F .f32) (g : IVec S16 32) (r : ℕ) (hr : r < 32) (h : ℕ) (hh : h < 8)
    (hg : ∀ k : Fin 16, (rd (N := 16) g k.val).toNat = 8 * k.val + h) (hb : InBias (biasPos g r)) (k : Fin 16) :
    rd (N := 16) (loadIdx (s := S4096) (t := S16) fb ![biasPos g r] hb) k.val = vals fb h r k := by
  unfold vals
  show fb (idxAt ![biasPos g r] hb (ix 16 k.val)) = _
  refine rd_of_val (N := 4096) fb _ ?_
  exact rd_biasPos g r hr h hh k (hg k)

variable {buf : F32M} {ixm : I512M} {bv : F4096M}

/-- One row of a fill. -/
theorem runs_fillRow (hbuf : buf.IsWhole) {Q : PUnit → sProp 𝕄} (g : IVec S16 32) (h : ℕ) (hh : h < 8) (hg : ∀ k : Fin 16, (rd (N := 16) g k.val).toNat = 8 * k.val + h)
    (fi : S512.Idx → Elt F .i32) (hfi : ∀ r k, cols fi r k < 1024) (fb : S4096.Idx → Elt F .f32) (x : S32768.Idx → Elt F .f32)
    (r : ℕ) (hr : r < 32) (k : TProg F i PUnit) :
    iprop(Holds d i ixm fi ∗ Holds d i bv fb ∗ Holds d i buf (put (cols fi) (vals fb h) r x))
      ⊢ iprop((iprop(Holds d i ixm fi ∗ Holds d i bv fb ∗ Holds d i buf (put (cols fi) (vals fb h) (r + 1) x)) -∗ Runs d i k Q)
        -∗ Runs d i (fillRow g buf ixm bv r hr k) Q) := by
  unfold fillRow
  iintro ⟨Hi, Hb, Hx⟩ Hk
  iapply (runs_load d i) $$ Hi
  iintro Hi
  iapply (wp_assume 𝒱₀ (thr d i) none Set.univ (inBuf_of fi r hr hfi))
  iapply (wp_assume 𝒱₀ (thr d i) none Set.univ (inBias_of g r hr h hh hg))
  iapply (runs_gather d i) $$ Hb
  iintro Hb
  iapply (runs_scatter d i hbuf) $$ Hx
  iintro Hx
  iapply Hk
  isplitl [Hi]; · iexact Hi
  isplitl [Hb]; · iexact Hb
  iapply (Entails.of_eq (congrArg (Holds d i buf) (storeIdx_put (F := F) (e := .f32) (cols fi) (vals fb h) r x
    (rowPos (F := F) (rowOf fi r hr) r) (loadIdx (s := S4096) (t := S16) fb ![biasPos g r] (inBias_of g r hr h hh hg)) (inBuf_of fi r hr hfi) (hfi r)
    (fun k => rd_rowPos fi r hr k (hfi r k)) (fun k => rd_gather fb g r hr h hh hg _ k))))
  iexact Hx

/-- One row of a clear. -/
theorem runs_clearRow (hbuf : buf.IsWhole) {Q : PUnit → sProp 𝕄} (z : Elt F .f32) (zv : FVec F S16 .f32) (hz : ∀ y, zv y = z)
    (fi : S512.Idx → Elt F .i32) (hfi : ∀ r k, cols fi r k < 1024) (x : S32768.Idx → Elt F .f32)
    (r : ℕ) (hr : r < 32) (k : TProg F i PUnit) :
    iprop(Holds d i ixm fi ∗ Holds d i buf (put (cols fi) (fun _ _ => z) r x))
      ⊢ iprop((iprop(Holds d i ixm fi ∗ Holds d i buf (put (cols fi) (fun _ _ => z) (r + 1) x)) -∗ Runs d i k Q)
        -∗ Runs d i (clearRow zv buf ixm r hr k) Q) := by
  unfold clearRow
  iintro ⟨Hi, Hx⟩ Hk
  iapply (runs_load d i) $$ Hi
  iintro Hi
  iapply (wp_assume 𝒱₀ (thr d i) none Set.univ (inBuf_of fi r hr hfi))
  iapply (runs_scatter d i hbuf) $$ Hx
  iintro Hx
  iapply Hk
  isplitl [Hi]; · iexact Hi
  iapply (Entails.of_eq (congrArg (Holds d i buf) (storeIdx_put (F := F) (e := .f32) (cols fi) (fun _ _ => z) r x
    (rowPos (F := F) (rowOf fi r hr) r) zv (inBuf_of fi r hr hfi) (hfi r)
    (fun k => rd_rowPos fi r hr k (hfi r k)) (fun k => hz _))))
  iexact Hx

/-- The last `n` rows of a fill. -/
theorem runs_fillRows (hbuf : buf.IsWhole) {Q : PUnit → sProp 𝕄} (g : IVec S16 32) (h : ℕ) (hh : h < 8) (hg : ∀ k : Fin 16, (rd (N := 16) g k.val).toNat = 8 * k.val + h)
    (fi : S512.Idx → Elt F .i32) (hfi : ∀ r k, cols fi r k < 1024) (fb : S4096.Idx → Elt F .f32) (x : S32768.Idx → Elt F .f32)
    (k : TProg F i PUnit) : ∀ (n : ℕ) (hn : n ≤ 32),
    iprop(Holds d i ixm fi ∗ Holds d i bv fb ∗ Holds d i buf (put (cols fi) (vals fb h) (32 - n) x))
      ⊢ iprop((iprop(Holds d i ixm fi ∗ Holds d i bv fb ∗ Holds d i buf (put (cols fi) (vals fb h) 32 x)) -∗ Runs d i k Q)
        -∗ Runs d i (fillRows g buf ixm bv n hn k) Q)
  | 0, _ => by
    iintro H Hk
    iapply Hk; iexact H
  | n + 1, hn => by
    have e : 32 - (n + 1) = 31 - n := by omega
    rw [e]
    iintro H Hk
    iapply (runs_fillRow d i hbuf g h hh hg fi hfi fb x (31 - n) (by omega) (fillRows g buf ixm bv n (by omega) k)) $$ H
    have e' : 31 - n + 1 = 32 - n := by omega
    rw [e']
    iintro H
    iapply (runs_fillRows hbuf g h hh hg fi hfi fb x k n _) $$ H
    iexact Hk

/-- The last `n` rows of a clear. -/
theorem runs_clearRows (hbuf : buf.IsWhole) {Q : PUnit → sProp 𝕄} (z : Elt F .f32) (zv : FVec F S16 .f32) (hz : ∀ y, zv y = z)
    (fi : S512.Idx → Elt F .i32) (hfi : ∀ r k, cols fi r k < 1024) (x : S32768.Idx → Elt F .f32)
    (k : TProg F i PUnit) : ∀ (n : ℕ) (hn : n ≤ 32),
    iprop(Holds d i ixm fi ∗ Holds d i buf (put (cols fi) (fun _ _ => z) (32 - n) x))
      ⊢ iprop((iprop(Holds d i ixm fi ∗ Holds d i buf (put (cols fi) (fun _ _ => z) 32 x)) -∗ Runs d i k Q)
        -∗ Runs d i (clearRows zv buf ixm n hn k) Q)
  | 0, _ => by
    iintro H Hk
    iapply Hk; iexact H
  | n + 1, hn => by
    have e : 32 - (n + 1) = 31 - n := by omega
    rw [e]
    iintro H Hk
    iapply (runs_clearRow d i hbuf z zv hz fi hfi x (31 - n) (by omega) (clearRows zv buf ixm n (by omega) k)) $$ H
    have e' : 31 - n + 1 = 32 - n := by omega
    rw [e']
    iintro H
    iapply (runs_clearRows hbuf z zv hz fi hfi x k n _) $$ H
    iexact Hk

end Cert.Proof.FillIdeal

end
-- ==== Proof.OffsetsIdeal.lean ====
/-
  Where a tile's copies start, in closed form: the tile at SparseCore `i 0`, subcore `i 1` has number
  `2 (i 1) + (i 0) = 8 b + h`; it reads batch `b`'s rows and writes plane `(b, h)` of the result, 32 rows at a time.
-/
module

public import proofs.«01_k».proof.Proof.ProgIdeal
public import proofs.«01_k».proof.Proof.Put

@[expose] public section

namespace Cert.Proof.FillIdeal

open Cert.KernelIdeal Cert.KernelIdeal.Gen
open Idealize.ShloMosaic
open Cert.Proof.Put

/-- The tile's number. -/
abbrev wid (i : grid0.Coords) : ℕ := 2 * (i 1).val + (i 0).val

theorem off1_eq (i : grid0.Coords) : k0_off1 i = ![16 * (1024 * (wid i / 8))] := by
  unfold k0_off1 wid; generalize i 0 = c; generalize i 1 = s; revert c s; decide +kernel
theorem off2_eq (i : grid0.Coords) : k0_off2 i = ![128 * (1024 * (wid i / 8))] := by
  unfold k0_off2 wid; generalize i 0 = c; generalize i 1 = s; revert c s; decide +kernel
theorem off4_eq (i : grid0.Coords) : k0_off4 i = ![16 * (1024 * (wid i / 8) + 32)] := by
  unfold k0_off4 wid; generalize i 0 = c; generalize i 1 = s; revert c s; decide +kernel
theorem off5_eq (i : grid0.Coords) : k0_off5 i = ![128 * (1024 * (wid i / 8) + 32)] := by
  unfold k0_off5 wid; generalize i 0 = c; generalize i 1 = s; revert c s; decide +kernel
theorem off8_eq (i : grid0.Coords) (t : Fin k0_t1_loop.trips) : k0_off8 i t = ![16 * (1024 * (wid i / 8) + 32 * (2 * t.val + 2))] := by
  unfold k0_off8 wid; generalize i 0 = c; generalize i 1 = s; revert c s t; decide +kernel
theorem off9_eq (i : grid0.Coords) (t : Fin k0_t1_loop.trips) : k0_off9 i t = ![128 * (1024 * (wid i / 8) + 32 * (2 * t.val + 2))] := by
  unfold k0_off9 wid; generalize i 0 = c; generalize i 1 = s; revert c s t; decide +kernel
theorem off12_eq (i : grid0.Coords) (t : Fin k0_t1_loop.trips) : k0_off12 i t = ![16 * (1024 * (wid i / 8) + 32 * (2 * t.val + 3))] := by
  unfold k0_off12 wid; generalize i 0 = c; generalize i 1 = s; revert c s t; decide +kernel
theorem off13_eq (i : grid0.Coords) (t : Fin k0_t1_loop.trips) : k0_off13 i t = ![128 * (1024 * (wid i / 8) + 32 * (2 * t.val + 3))] := by
  unfold k0_off13 wid; generalize i 0 = c; generalize i 1 = s; revert c s t; decide +kernel

/-- The lanes' offsets into a row of biases: lane `k` reads position `8 k + h`. -/
theorem pay193_eq (i : grid0.Coords) (k : Fin 16) : (rd (k0_pay193 i) k.val).toNat = 8 * k.val + wid i % 8 := by
  unfold k0_pay193 wid; generalize i 0 = c; generalize i 1 = s; revert c s k; decide +kernel

end Cert.Proof.FillIdeal

end
-- ==== Proof.CopiesIdeal.lean ====
/-
  A tile's copies: a fetch that is waited for at once; a chunk buffer zeroed; a chunk fetched, filled and sent; the wait for
  a chunk that was sent.
-/
module

public import proofs.«01_k».proof.Proof.RowsIdeal
public import proofs.«01_k».proof.Proof.OffsetsIdeal

@[expose] public section

noncomputable section

namespace Cert.Proof.FillIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Put

variable {F : FTy → Type} [FloatOps F]

local notation "𝕄" => MT nD τ sig (HIx 1) (Elt F) ℕ UU ℕ

variable (d : Dev nD) (i : grid0.Coords)

/-! ## What a tile's chunks hold -/

/-- The result at flat position `n`: plane `n / 1048576 = 8 b + h`, row `n / 1024 mod 1024`, column `n mod 1024`; the bias
    of the row's last neighbour at that column, or `z`. -/
def outAt (I : S65536.Idx → Elt F .i32) (B : S524288.Idx → Elt F .f32) (z : Elt F .f32) (n : ℕ) : Elt F .f32 :=
  last (fun k => BitVec.toNat (rd (N := 65536) I (16 * (1024 * (n / 8388608) + n / 1024 % 1024) + k.val) : BitVec 32))
    (fun k => rd (N := 524288) B (128 * (1024 * (n / 8388608) + n / 1024 % 1024) + (8 * k.val + n / 1048576 % 8))) (n % 1024) z

/-- The result's buffer. -/
def outVal (I : S65536.Idx → Elt F .i32) (B : S524288.Idx → Elt F .f32) (z : Elt F .f32) : S33554432.Idx → Elt F .f32 :=
  fun j => outAt I B z (j 0).val

/-- Chunk `c` of plane `w`: the result's 32768 words there. -/
def chunkVal (I : S65536.Idx → Elt F .i32) (B : S524288.Idx → Elt F .f32) (z : Elt F .f32) (w c : ℕ) : S32768.Idx → Elt F .f32 :=
  fun j => outAt I B z (1048576 * w + 32768 * c + (j 0).val)

/-- The column numbers of 32 rows from row `R` on. -/
def idxChunk (I : S65536.Idx → Elt F .i32) (R : ℕ) : S512.Idx → Elt F .i32 := fun y => rd (N := 65536) I (16 * R + (y 0).val)

/-- The biases of 32 rows from row `R` on. -/
def biasChunk (B : S524288.Idx → Elt F .f32) (R : ℕ) : S4096.Idx → Elt F .f32 := fun y => rd (N := 524288) B (128 * R + (y 0).val)

/-- All column numbers are columns. -/
def IdxOK (I : S65536.Idx → Elt F .i32) : Prop := ∀ j, BitVec.toNat (I j : BitVec 32) < 1024

theorem cols_lt {I : S65536.Idx → Elt F .i32} (hI : IdxOK I) (R r : ℕ) (k : Fin 16) : cols (idxChunk I R) r k < 1024 := hI _

/-- Row `R`'s first row in a batch: chunk `c` of plane `w` starts there. -/
abbrev row0 (w c : ℕ) : ℕ := 1024 * (w / 8) + 32 * c

/-- A zeroed buffer filled with a chunk's rows holds that chunk of the result. -/
theorem fill_eq (I : S65536.Idx → Elt F .i32) (B : S524288.Idx → Elt F .f32) (z : Elt F .f32) (w c : ℕ) (hc : c < 32) :
    put (cols (idxChunk I (row0 w c))) (vals (biasChunk B (row0 w c)) (w % 8)) 32 (fun _ => z) = chunkVal I B z w c := by
  funext j
  have hj := lt_size (N := 32768) j
  rw [put_all]
  unfold chunkVal outAt
  have e1 : (1048576 * w + 32768 * c + (j 0).val) % 1024 = (j 0).val % 1024 := by omega
  have e2 : 1024 * ((1048576 * w + 32768 * c + (j 0).val) / 8388608) + (1048576 * w + 32768 * c + (j 0).val) / 1024 % 1024
      = row0 w c + (j 0).val / 1024 := by unfold row0; omega
  have e3 : (1048576 * w + 32768 * c + (j 0).val) / 1048576 % 8 = w % 8 := by omega
  rw [e1, e2, e3]
  have a1 : ∀ k : Fin 16, cols (idxChunk I (row0 w c)) ((j 0).val / 1024) k
      = BitVec.toNat (rd (N := 65536) I (16 * (row0 w c + (j 0).val / 1024) + k.val) : BitVec 32) := fun k => by
    unfold cols
    rw [rd]
    show BitVec.toNat (rd (N := 65536) I (16 * row0 w c + (ix 512 (16 * ((j 0).val / 1024) + k.val) 0).val) : BitVec 32) = _
    rw [ix_val (by omega)]
    have e : 16 * row0 w c + (16 * ((j 0).val / 1024) + k.val) = 16 * (row0 w c + (j 0).val / 1024) + k.val := by omega
    rw [e]
  have a2 : ∀ k : Fin 16, vals (biasChunk B (row0 w c)) (w % 8) ((j 0).val / 1024) k
      = rd (N := 524288) B (128 * (row0 w c + (j 0).val / 1024) + (8 * k.val + w % 8)) := fun k => by
    unfold vals
    rw [rd]
    show rd (N := 524288) B (128 * row0 w c + (ix 4096 (128 * ((j 0).val / 1024) + (8 * k.val + w % 8)) 0).val) = _
    rw [ix_val (by omega)]
    have e : 128 * row0 w c + (128 * ((j 0).val / 1024) + (8 * k.val + w % 8)) = 128 * (row0 w c + (j 0).val / 1024) + (8 * k.val + w % 8) := by omega
    rw [e]
  rw [funext a1, funext a2]

/-- A chunk's buffer cleared at the chunk's columns is zeroed. -/
theorem clear_eq (I : S65536.Idx → Elt F .i32) (B : S524288.Idx → Elt F .f32) (z : Elt F .f32) (w c : ℕ) (hc : c < 32) :
    put (cols (idxChunk I (row0 w c))) (fun _ _ => z) 32 (chunkVal I B z w c) = fun _ => z := by
  rw [← fill_eq I B z w c hc, clear_fill]

/-! ## Segments of the result's buffer -/

/-- Positions `a` to `b` of the result's buffer. -/
def seg (a b : ℕ) : Finset S33554432.Idx := Finset.univ.filter fun j => a ≤ (j 0).val ∧ (j 0).val < b

theorem mem_seg {a b : ℕ} {j : S33554432.Idx} : j ∈ seg a b ↔ a ≤ (j 0).val ∧ (j 0).val < b := by simp [seg]

theorem seg_union {a b c : ℕ} (h : a ≤ b) (h' : b ≤ c) : seg a b ∪ seg b c = seg a c := by
  ext j; simp only [Finset.mem_union, mem_seg]; omega

theorem seg_disjoint {a b c : ℕ} : Disjoint (seg a b) (seg b c) := by
  rw [Finset.disjoint_left]; intro j; simp only [mem_seg]; omega

abbrev oChunk (o : Fin 1 → ℕ) (ho : ∀ a, o a + S32768.size a ≤ S33554432.size a) : Memref sig .scVector .hbm S32768 .f32 :=
  Memref.slice oW (Rect.unit (s := S33554432) o S32768.size ho) (fun _ => rfl)

theorem emb_oChunk (o : Fin 1 → ℕ) (ho : ∀ a, o a + S32768.size a ≤ S33554432.size a) (j : S32768.Idx) :
    (((oChunk o ho).view.emb j : S33554432.Idx) 0).val = o 0 + (j 0).val := by
  show o 0 + 1 * (j 0).val = _
  omega

theorem set_oChunk (o : Fin 1 → ℕ) (ho : ∀ a, o a + S32768.size a ≤ S33554432.size a) :
    (oChunk o ho).view.set = seg (o 0) (o 0 + 32768) := by
  ext j
  rw [mem_seg]
  constructor
  · intro h
    obtain ⟨y, -, rfl⟩ := Finset.mem_map.mp h
    have hy := lt_size (N := 32768) y
    have e := emb_oChunk o ho y
    constructor
    · show o 0 ≤ (((oChunk o ho).view.emb y : S33554432.Idx) 0).val; omega
    · show (((oChunk o ho).view.emb y : S33554432.Idx) 0).val < _; omega
  · rintro ⟨h1, h2⟩
    refine Finset.mem_map.mpr ⟨ix 32768 ((j 0).val - o 0), Finset.mem_univ _, idx_ext (N := 33554432) ?_⟩
    have := emb_oChunk o ho (ix 32768 ((j 0).val - o 0))
    rw [ix_val (by omega)] at this
    refine this.trans ?_
    omega

/-! ## Copies -/

variable {α : Type}

/-- The tile's record of waits after one more of no handshake. -/
theorem owing_insert {O : CellTallies nD τ sig (HIx 1)} {W W' : Waits sig (HIx 1)} (hW : ∀ p ∈ W', p ∈ W ∨ p.2 = none) (s : SemLoc sig) :
    (owes (thr d i) O (insert (s, (default : HIx 1)) W') : sProp 𝕄) ⊢ Owing d i O W := by
  unfold Owing
  iintro HO
  iexists _
  isplitr
  swap; · iexact HO
  ipureintro
  intro p hp
  rcases Finset.mem_insert.mp hp with hp | hp
  · exact .inr (hp ▸ rfl)
  · exact hW p hp

/-- A copy into a whole buffer of the tile's, waited for at once: the buffer reads what the source read. -/
theorem runs_fetch {s : Shape} {e : EltTy} {sp : Space} {src : Memref sig .scVector sp s e} {dst : Memref sig .scVector .vmem s e} (hdw : dst.IsWhole)
    {sm : DmaSem sig} {hsrc hsrc' : src.view.WordExact} {hdst hdst' : dst.view.WordExact} {hsem : (DmaTarget.here dst : DmaTarget nD τ sig (.scVector (cV i) (jV i)) .vmem s e).Typed sp (.dma sm)}
    (hs : 0 < s.numel) {S : Finset (Idx (src.view.loc (thr d i)))} {q : PosShare TreeShare} {fs : Buf (Elt F) (src.view.loc (thr d i))}
    (hS : src.view.set ⊆ S) {O : CellTallies nD τ sig (HIx 1)} {W : Waits sig (HIx 1)} {k : TProg F i α} {Q : α → sProp 𝕄} :
    iprop(Transfers.MayWaits (thr d i) (default : HIx 1) O ∗ (src.view.loc (thr d i) ↦[S]{q} fs) ∗ (∃ x, Holds (F := F) d i dst x) ∗ semVal (thr d i, .dma sm) 0 ∗ Owing d i O W)
      ⊢ iprop((iprop((src.view.loc (thr d i) ↦[S]{q} fs) ∗ Holds d i dst (src.view.read (Elt F) fs) ∗ semVal (thr d i, .dma sm) 0 ∗ Owing d i O W) -∗ Runs d i k Q)
        -∗ Runs d i (.op (.enqueueDma src (.here dst) (.dma sm) hsrc hdst hsem) fun _ => .op (.waitDma2 sm src dst hsrc' hdst') fun _ => k) Q) := by
  unfold Holds
  conv_lhs => unfold Owing
  iintro ⟨Hmw, Hs, ⟨%x, %fd, -, Hd⟩, Hv, %W', %hW', HO⟩ Hk
  ihave Hs := (pointsTo_split_subset (q := q) (f := fs) hS).1 $$ Hs
  icases Hs with ⟨Hs, Hr⟩
  iapply (Transfers.wp_dmaLocal (defs := defs₀ (F := F)) countersEmb 𝒱₀ (thr d i) none (Q := Q) (src := src) (via := .same) (dst := dst) (sm := .dma sm)
    (q := q) (fs := fs) (Sd := Finset.univ) (fd := fd) (default : HIx 1) dst.view.dmaCredit rfl (View.amount_pos _ (.dma sm) hs) (Finset.subset_univ _)) $$ [Hs Hd Hv]
  · isplitl [Hs]; · iexact Hs
    isplitl [Hd]; · iexact Hd
    iexact Hv
  iintro Hfl
  iapply (Transfers.wp_waitLocalO countersEmb 𝒱₀ (thr d i) none (default : HIx 1) (rfl : dst.view.dmaCredit = _)) $$ [Hfl HO Hmw]
  · isplitl [Hfl]; · iexact Hfl
    isplitl [HO]; · iexact HO
    iapply (Transfers.MayWaits.elim (SemLoc.dma sm)) $$ Hmw
  iintro ⟨⟨Hd, Hs⟩, Hv, HO⟩
  iapply Hk
  isplitl [Hs Hr]
  · iapply (pointsTo_split_subset (q := q) (f := fs) hS).2
    isplitl [Hs]; · iexact Hs
    iexact Hr
  isplitl [Hd]
  · iexists _
    isplitr
    swap; · iexact Hd
    ipureintro
    exact View.read_write_univ _ _
  isplitl [Hv]; · iexact Hv
  iapply (owing_insert d i hW' (SemLoc.dma sm)); iexact HO

/-- The result's buffer. -/
abbrev oLoc (d : Dev nD) : Loc nD τ sig := (SparseCore.T d).loc main_v3
/-- The column numbers, the biases and the zeros. -/
abbrev iLoc (d : Dev nD) : Loc nD τ sig := (SparseCore.T d).loc main_v0
abbrev bLoc (d : Dev nD) : Loc nD τ sig := (SparseCore.T d).loc main_v1
abbrev zLoc (d : Dev nD) : Loc nD τ sig := (SparseCore.T d).loc main_v2

/-- What a wait for a chunk that was sent counts. -/
abbrev credit : ℕ := (main_v3_scv : Ref sig .scVector).dmaCredit S32768 .f32

/-- A chunk under way from `buf`, which reads `x`, to positions `a` on of the result: at its wait the result there holds
    `fo` and the buffer is back. -/
def Sent (sm : DmaSem sig) (buf : F32M) (x : S32768.Idx → Elt F .f32) (a : ℕ) (fo : S33554432.Idx → Elt F .f32) : sProp 𝕄 :=
  Transfers.Flight countersEmb (thr d i) (.dma sm) (default : HIx 1) credit
    iprop((oLoc d ↦[seg a (a + 32768)]{fullShare} fo) ∗ Holds d i buf x)

/-- The wait for a chunk that was sent. -/
theorem runs_drain {Q : PUnit → sProp 𝕄} {buf : F32M} {hbuf : buf.IsWhole} {sm : DmaSem sig} {x : S32768.Idx → Elt F .f32} {a : ℕ} {fo : S33554432.Idx → Elt F .f32}
    {oo : Fin 1 → ℕ} {ho : ∀ a, oo a + S32768.size a ≤ S33554432.size a}
    {O : CellTallies nD τ sig (HIx 1)} {W : Waits sig (HIx 1)} {k : TProg F i PUnit} :
    iprop(Transfers.MayWaits (thr d i) (default : HIx 1) O ∗ Sent d i sm buf x a fo ∗ Owing d i O W)
      ⊢ iprop((iprop((oLoc d ↦[seg a (a + 32768)]{fullShare} fo) ∗ Holds d i buf x ∗ semVal (thr d i, .dma sm) 0 ∗ Owing d i O W) -∗ Runs d i k Q)
        -∗ Runs d i (drain buf hbuf sm oo ho k) Q) := by
  unfold Sent drain
  conv_lhs => unfold Owing
  iintro ⟨Hmw, Hfl, %W', %hW', HO⟩ Hk
  iapply (Transfers.wp_waitLocalO countersEmb 𝒱₀ (thr d i) none (default : HIx 1) (rfl : (oChunk oo ho).view.dmaCredit = credit)) $$ [Hfl HO Hmw]
  · isplitl [Hfl]; · iexact Hfl
    isplitl [HO]; · iexact HO
    iapply (Transfers.MayWaits.elim (SemLoc.dma sm)) $$ Hmw
  iintro ⟨⟨Hd, Hs⟩, Hv, HO⟩
  iapply Hk
  isplitl [Hd]; · iexact Hd
  isplitl [Hs]; · iexact Hs
  isplitl [Hv]; · iexact Hv
  iapply (owing_insert d i hW' (SemLoc.dma sm)); iexact HO

/-- A chunk sent. -/
theorem runs_send {Q : PUnit → sProp 𝕄} {buf : F32M} (hbuf : buf.IsWhole) {sm : DmaSem sig} {x : S32768.Idx → Elt F .f32} {a : ℕ} {f fo : S33554432.Idx → Elt F .f32}
    {oo : Fin 1 → ℕ} {ho : ∀ a, oo a + S32768.size a ≤ S33554432.size a} (hoo : oo = ![a])
    (hfo : ∀ j : S33554432.Idx, ∀ y : S32768.Idx, (j 0).val = a + (y 0).val → fo j = x y)
    {hsrc : buf.view.WordExact} {hdst : (oChunk oo ho).view.WordExact}
    {hsem : (DmaTarget.here (oChunk oo ho) : DmaTarget nD τ sig (.scVector (cV i) (jV i)) .hbm S32768 .f32).Typed .vmem (.dma sm)} {k : TProg F i PUnit} :
    iprop(Holds d i buf x ∗ (oLoc d ↦[seg a (a + 32768)]{fullShare} f) ∗ semVal (thr d i, .dma sm) 0)
      ⊢ iprop((Sent d i sm buf x a fo -∗ Runs d i k Q)
        -∗ Runs d i (.op (.enqueueDma buf (.here (oChunk oo ho)) (.dma sm) hsrc hdst hsem) fun _ => k) Q) := by
  subst hoo
  conv_lhs => unfold Holds
  iintro ⟨⟨%fs, %hfs, Hs⟩, Hd, Hv⟩ Hk
  ihave Hs := (Entails.of_eq (show (buf.view.loc (thr d i) ↦{fullShare} fs : sProp 𝕄)
    = (buf.view.loc (thr d i) ↦[buf.view.set]{fullShare} fs) by rw [hbuf.set_eq_univ])) $$ Hs
  iapply (Transfers.wp_dmaLocal (defs := defs₀ (F := F)) countersEmb 𝒱₀ (thr d i) none (Q := Q) (src := buf) (via := .same) (dst := oChunk ![a] ho) (sm := .dma sm)
    (q := fullShare) (fs := fs) (Sd := seg a (a + 32768)) (fd := f) (default : HIx 1) credit rfl (View.amount_pos (oChunk ![a] ho).view (.dma sm) (by decide))
    (by rw [set_oChunk]; exact subset_rfl)) $$ [Hs Hd Hv]
  · isplitl [Hs]; · iexact Hs
    isplitl [Hd]; · iexact Hd
    iexact Hv
  iintro Hfl
  iapply Hk
  unfold Sent
  have e : ∀ j ∈ seg a (a + 32768), (oChunk ![a] ho).view.write (Elt F) f (buf.view.read (Elt F) fs) Finset.univ j = fo j := by
    intro j hj
    rw [mem_seg] at hj
    obtain ⟨y, rfl⟩ : ∃ y, (oChunk ![a] ho).view.emb y = j := by
      refine ⟨ix 32768 ((j 0).val - a), idx_ext (N := 33554432) ?_⟩
      refine (emb_oChunk ![a] ho _).trans ?_
      rw [ix_val (by omega)]
      show a + _ = _
      omega
    rw [hfs]
    refine (View.write_emb_of_mem (v := (oChunk ![a] ho).view) f x (Finset.mem_univ y)).trans ?_
    exact (hfo _ y (emb_oChunk ![a] ho y)).symm
  have e' : (oLoc d ↦[seg a (a + 32768)]{fullShare} (oChunk ![a] ho).view.write (Elt F) f (buf.view.read (Elt F) fs) Finset.univ : sProp 𝕄)
      = (oLoc d ↦[seg a (a + 32768)]{fullShare} fo) := pointsTo_congr e
  iapply (Transfers.Flight_mono countersEmb (thr d i) ?_) $$ Hfl
  iintro ⟨Hd, Hs⟩
  isplitl [Hd]
  · iapply (Entails.of_eq e'); iexact Hd
  · unfold Holds
    iexists fs
    isplitr; · ipureintro; exact hfs
    rw [hbuf.set_eq_univ]
    iexact Hs

/-- A chunk buffer zeroed. -/
theorem runs_zeroFetch {Q : PUnit → sProp 𝕄} {buf : F32M} {hbuf : buf.IsWhole} {sm : DmaSem sig} {q : PosShare TreeShare} {Z : S32768.Idx → Elt F .f32}
    {O : CellTallies nD τ sig (HIx 1)} {W : Waits sig (HIx 1)} {k : TProg F i PUnit} :
    iprop(Transfers.MayWaits (thr d i) (default : HIx 1) O ∗ (zLoc d ↦{q} Z) ∗ (∃ x, Holds (F := F) d i buf x) ∗ semVal (thr d i, .dma sm) 0 ∗ Owing d i O W)
      ⊢ iprop((iprop((zLoc d ↦{q} Z) ∗ Holds d i buf Z ∗ semVal (thr d i, .dma sm) 0 ∗ Owing d i O W) -∗ Runs d i k Q)
        -∗ Runs d i (zeroFetch buf hbuf sm k) Q) :=
  runs_fetch d i (src := zW) hbuf (by decide) (Finset.subset_univ _)

/-- A chunk fetched, filled and sent. -/
theorem runs_fill {Q : PUnit → sProp 𝕄} {buf : F32M} {hbuf : buf.IsWhole} {ixm : I512M} {hix : ixm.IsWhole} {si sb so : DmaSem sig}
    {oi : Fin 1 → ℕ} {hi : ∀ a, oi a + S512.size a ≤ S65536.size a} {ob : Fin 1 → ℕ} {hb : ∀ a, ob a + S4096.size a ≤ S524288.size a}
    {oo : Fin 1 → ℕ} {ho : ∀ a, oo a + S32768.size a ≤ S33554432.size a} {g : IVec S16 32}
    {w c : ℕ} (hc : c < 32) (hg : ∀ k : Fin 16, (rd (N := 16) g k.val).toNat = 8 * k.val + w % 8)
    (hoi : oi = ![16 * row0 w c]) (hob : ob = ![128 * row0 w c]) (hoo : oo = ![1048576 * w + 32768 * c])
    {I : S65536.Idx → Elt F .i32} (hI : IdxOK I) {B : S524288.Idx → Elt F .f32} {z : Elt F .f32} {qi qb : PosShare TreeShare} {f : S33554432.Idx → Elt F .f32}
    {O : CellTallies nD τ sig (HIx 1)} {W : Waits sig (HIx 1)} {k : TProg F i PUnit} :
    iprop(Transfers.MayWaits (thr d i) (default : HIx 1) O ∗ (iLoc d ↦{qi} I) ∗ (bLoc d ↦{qb} B) ∗ (∃ x, Holds (F := F) d i ixm x) ∗ (∃ x, Holds (F := F) d i biasV x)
        ∗ Holds d i buf (fun _ => z) ∗ (oLoc d ↦[seg (1048576 * w + 32768 * c) (1048576 * w + 32768 * c + 32768)]{fullShare} f)
        ∗ semVal (thr d i, .dma si) 0 ∗ semVal (thr d i, .dma sb) 0 ∗ semVal (thr d i, .dma so) 0 ∗ Owing d i O W)
      ⊢ iprop((iprop((iLoc d ↦{qi} I) ∗ (bLoc d ↦{qb} B) ∗ Holds d i ixm (idxChunk I (row0 w c)) ∗ (∃ x, Holds (F := F) d i biasV x)
            ∗ Sent d i so buf (chunkVal I B z w c) (1048576 * w + 32768 * c) (outVal I B z)
            ∗ semVal (thr d i, .dma si) 0 ∗ semVal (thr d i, .dma sb) 0 ∗ Owing d i O W) -∗ Runs d i k Q)
        -∗ Runs d i (fill g buf hbuf ixm hix si sb so oi hi ob hb oo ho k) Q) := by
  subst hoi hob
  unfold fill
  iintro ⟨#Hmw, HI, HB, Hix, Hbv, Hbuf, Ho, Hsi, Hsb, Hso, HO⟩ Hk
  iapply (runs_fetch d i (src := Memref.slice iW (Rect.unit (s := S65536) ![16 * row0 w c] S512.size hi) (fun _ => rfl)) hix (show 0 < S512.numel by decide) (q := qi) (fs := I)
    (S := Finset.univ) (Finset.subset_univ _)) $$ [HI Hix Hsi HO]
  · isplitr; · iexact Hmw
    isplitl [HI]; · iexact HI
    isplitl [Hix]; · iexact Hix
    isplitl [Hsi]; · iexact Hsi
    iexact HO
  iintro ⟨HI, Hix, Hsi, HO⟩
  iapply (runs_fetch d i (src := Memref.slice bW (Rect.unit (s := S524288) ![128 * row0 w c] S4096.size hb) (fun _ => rfl)) (dst := biasV) (Memref.isWhole_whole _) (show 0 < S4096.numel by decide)
    (q := qb) (fs := B) (S := Finset.univ) (Finset.subset_univ _)) $$ [HB Hbv Hsb HO]
  · isplitr; · iexact Hmw
    isplitl [HB]; · iexact HB
    isplitl [Hbv]; · iexact Hbv
    isplitl [Hsb]; · iexact Hsb
    iexact HO
  iintro ⟨HB, Hbv, Hsb, HO⟩
  have e1 : (Memref.slice iW (Rect.unit (s := S65536) ![16 * row0 w c] S512.size hi) (fun _ => rfl)).view.read (Elt F) I = idxChunk I (row0 w c) := by
    funext y
    refine rd_of_val (N := 65536) I ((Rect.unit (s := S65536) ![16 * row0 w c] S512.size hi).emb y) ?_
    show 16 * row0 w c + 1 * (y 0).val = _
    omega
  have e2 : (Memref.slice bW (Rect.unit (s := S524288) ![128 * row0 w c] S4096.size hb) (fun _ => rfl)).view.read (Elt F) B = biasChunk B (row0 w c) := by
    funext y
    refine rd_of_val (N := 524288) B ((Rect.unit (s := S524288) ![128 * row0 w c] S4096.size hb).emb y) ?_
    show 128 * row0 w c + 1 * (y 0).val = _
    omega
  rw [e1, e2]
  iapply (runs_fillRows d i hbuf g (w % 8) (by omega) hg (idxChunk I (row0 w c)) (cols_lt hI _) (biasChunk B (row0 w c)) (fun _ => z) _ 32 le_rfl) $$ [Hix Hbv Hbuf]
  · isplitl [Hix]; · iexact Hix
    isplitl [Hbv]; · iexact Hbv
    rw [Nat.sub_self, put_zero]
    iexact Hbuf
  iintro ⟨Hix, Hbv, Hbuf⟩
  rw [fill_eq I B z w c hc]
  iapply (runs_send d i hbuf (x := chunkVal I B z w c) (a := 1048576 * w + 32768 * c) (f := f) (fo := outVal I B z) hoo
    (fun j y h => by unfold outVal chunkVal; rw [h])) $$ [Hbuf Ho Hso]
  · isplitl [Hbuf]; · iexact Hbuf
    isplitl [Ho]; · iexact Ho
    iexact Hso
  iintro Hsent
  iapply Hk
  isplitl [HI]; · iexact HI
  isplitl [HB]; · iexact HB
  isplitl [Hix]; · iexact Hix
  isplitl [Hbv]; · iexists _; iexact Hbv
  isplitl [Hsent]; · iexact Hsent
  isplitl [Hsi]; · iexact Hsi
  isplitl [Hsb]; · iexact Hsb
  iexact HO

end Cert.Proof.FillIdeal

end
-- ==== Proof.TileIdeal.lean ====
/-
  A tile's whole task: from its share of the column numbers, biases and zeros and its plane of the result at any contents,
  to the same with the plane at the result's values.
-/
module

public import proofs.«01_k».proof.Proof.CopiesIdeal

@[expose] public section

noncomputable section

namespace Cert.Proof.FillIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Put

variable {F : FTy → Type} [FloatOps F]

local notation "𝕄" => MT nD τ sig (HIx 1) (Elt F) ℕ UU ℕ

variable (d : Dev nD) (i : grid0.Coords)

/-- The tile's semaphore at zero. -/
abbrev At0 (s : DmaSem sig) : sProp 𝕄 := semVal (thr d i, .dma s) 0

/-- Part of the result's buffer. -/
abbrev Part (a b : ℕ) (f : S33554432.Idx → Elt F .f32) : sProp 𝕄 := oLoc d ↦[seg a b]{fullShare} f

theorem part_split {a b c : ℕ} (h : a ≤ b) (h' : b ≤ c) (f : S33554432.Idx → Elt F .f32) :
    (Part (F := F) d a c f) = iprop(Part (F := F) d a b f ∗ Part (F := F) d b c f) := by
  unfold Part
  rw [← seg_union h h']
  exact BI.Entails.antisymm (pointsTo_union seg_disjoint).1 (pointsTo_union seg_disjoint).2

/-- Before trip `t` of the loop chunks `2 t` and `2 t + 1` are under way, those before are done and those after untouched. -/
def inv (I : S65536.Idx → Elt F .i32) (B : S524288.Idx → Elt F .f32) (z : Elt F .f32) (qi qb : PosShare TreeShare) (f : S33554432.Idx → Elt F .f32)
    (O : CellTallies nD τ sig (HIx 1)) (W : Waits sig (HIx 1)) (t : ℕ) (_ : BitVec 32) : sProp 𝕄 :=
  iprop(Transfers.MayWaits (thr d i) (default : HIx 1) O ∗ (iLoc d ↦{qi} I) ∗ (bLoc d ↦{qb} B)
    ∗ Holds d i ixA (idxChunk I (row0 (wid i) (2 * t))) ∗ Holds d i ixB (idxChunk I (row0 (wid i) (2 * t + 1))) ∗ (∃ x, Holds (F := F) d i biasV x)
    ∗ Sent d i cc0_scratch5.sem bufA (chunkVal I B z (wid i) (2 * t)) (1048576 * wid i + 32768 * (2 * t)) (outVal I B z)
    ∗ Sent d i cc0_scratch6.sem bufB (chunkVal I B z (wid i) (2 * t + 1)) (1048576 * wid i + 32768 * (2 * t + 1)) (outVal I B z)
    ∗ Part (F := F) d (1048576 * wid i) (1048576 * wid i + 32768 * (2 * t)) (outVal I B z)
    ∗ Part (F := F) d (1048576 * wid i + 32768 * (2 * t + 2)) (1048576 * wid i + 1048576) f
    ∗ At0 (F := F) d i cc0_scoped6.sem ∗ At0 (F := F) d i cc0_scoped7.sem ∗ At0 (F := F) d i cc0_scoped8.sem ∗ At0 (F := F) d i cc0_scoped9.sem
    ∗ Owing d i O W)

/-- The place of an even chunk of the loop in the result, -/
theorem at_even (a b t : ℕ) : 2097152 * a + 1048576 * b + 65536 * t + 65536 = 1048576 * (2 * a + b) + 32768 * (2 * t + 2) := by ring
/-- and of an odd one. -/
theorem at_odd (a b t : ℕ) : 2097152 * a + 1048576 * b + 65536 * t + 98304 = 1048576 * (2 * a + b) + 32768 * (2 * t + 3) := by ring

/-- The loop, by an invariant. -/
theorem runs_for {σ β : Type} (J : ℕ → σ → sProp 𝕄) (p : Fin k0_t1_loop.trips → σ → TProg F i σ) (a : σ)
    (h : ∀ (t : Fin k0_t1_loop.trips) (a : σ), J t.val a ⊢ Runs d i (p t a) (J (t.val + 1))) {kk : σ → TProg F i β} {Q : β → sProp 𝕄} :
    J 0 a ⊢ iprop((∀ a, J k0_t1_loop.trips a -∗ Runs d i (kk a) Q) -∗ Runs d i (Scf.Loop.for k0_t1_loop k0_t1_ok a p >>= kk) Q) :=
  Scf.wp_for_bind frame (wpE (defs₀ (F := F)) 𝒱₀ (thr d i) none) Set.univ _ _ _ k0_t1_ok a p J h

theorem trips_eq : k0_t1_loop.trips = 15 := by decide

variable {I : S65536.Idx → Elt F .i32} (hI : IdxOK I) {B : S524288.Idx → Elt F .f32} {z : Elt F .f32} (hz : ∀ y, k0_pay194 (F := F) y = z)
  {qi qb : PosShare TreeShare} {f : S33554432.Idx → Elt F .f32} {O : CellTallies nD τ sig (HIx 1)} {W : Waits sig (HIx 1)}

include hI hz in
/-- A trip of the loop. -/
theorem runs_trip (t : Fin k0_t1_loop.trips) (acc : BitVec 32) :
    inv d i I B z qi qb f O W t.val acc ⊢ Runs d i (trip i t acc) (inv d i I B z qi qb f O W (t.val + 1)) := by
  have ht : t.val < 15 := trips_eq ▸ t.isLt
  have hg : ∀ k : Fin 16, (rd (N := 16) (k0_pay193 i) k.val).toNat = 8 * k.val + wid i % 8 := pay193_eq i
  have o8 : k0_off8 i t = ![16 * row0 (wid i) (2 * t.val + 2)] := by rw [off8_eq]
  have o9 : k0_off9 i t = ![128 * row0 (wid i) (2 * t.val + 2)] := by rw [off9_eq]
  have o12 : k0_off12 i t = ![16 * row0 (wid i) (2 * t.val + 3)] := by rw [off12_eq]
  have o13 : k0_off13 i t = ![128 * row0 (wid i) (2 * t.val + 3)] := by rw [off13_eq]
  have o10 : k0_off10 i t = ![1048576 * wid i + 32768 * (2 * t.val + 2)] := by
    rw [k0_off10_eq]; exact congrArg (fun n => ![n]) (at_even _ _ _)
  have o14 : k0_off14 i t = ![1048576 * wid i + 32768 * (2 * t.val + 3)] := by
    rw [k0_off14_eq]; exact congrArg (fun n => ![n]) (at_odd _ _ _)
  unfold trip Runs
  rw [wp_bind]
  unfold inv
  iintro ⟨#Hmw, HI, HB, HixA, HixB, Hbv, HsA, HsB, Hdone, Hrest, H6, H7, H8, H9, HO⟩
  -- the first buffer: drained, cleared, filled with chunk `2 t + 2`, sent
  iapply (runs_drain d i) $$ [HsA HO]
  · isplitr; · iexact Hmw
    isplitl [HsA]; · iexact HsA
    iexact HO
  iintro ⟨HpA, HbA, HsA, HO⟩
  iapply (runs_clearRows d i (Memref.isWhole_whole _) z _ hz (idxChunk I (row0 (wid i) (2 * t.val))) (cols_lt hI _) (chunkVal I B z (wid i) (2 * t.val)) _ 32 le_rfl) $$ [HixA HbA]
  · isplitl [HixA]; · iexact HixA
    rw [Nat.sub_self, put_zero]; iexact HbA
  rw [clear_eq I B z (wid i) (2 * t.val) (by omega)]
  iintro ⟨HixA, HbA⟩
  ihave Hr := (Entails.of_eq (part_split (F := F) d (b := 1048576 * wid i + 32768 * (2 * t.val + 2) + 32768) (by omega) (by omega) f)) $$ Hrest
  icases Hr with ⟨Hr1, Hrest⟩
  iapply (runs_fill d i (w := wid i) (c := 2 * t.val + 2) (by omega) hg o8 o9 o10 hI) $$ [HI HB HixA Hbv HbA Hr1 H6 H7 HsA HO]
  · isplitr; · iexact Hmw
    isplitl [HI]; · iexact HI
    isplitl [HB]; · iexact HB
    isplitl [HixA]; · iexists _; iexact HixA
    isplitl [Hbv]; · iexact Hbv
    isplitl [HbA]; · iexact HbA
    isplitl [Hr1]; · iexact Hr1
    isplitl [H6]; · iexact H6
    isplitl [H7]; · iexact H7
    isplitl [HsA]; · iexact HsA
    iexact HO
  iintro ⟨HI, HB, HixA, Hbv, HsA, H6, H7, HO⟩
  -- the second: chunk `2 t + 3`
  iapply (runs_drain d i) $$ [HsB HO]
  · isplitr; · iexact Hmw
    isplitl [HsB]; · iexact HsB
    iexact HO
  iintro ⟨HpB, HbB, HsB, HO⟩
  iapply (runs_clearRows d i (Memref.isWhole_whole _) z _ hz (idxChunk I (row0 (wid i) (2 * t.val + 1))) (cols_lt hI _) (chunkVal I B z (wid i) (2 * t.val + 1)) _ 32 le_rfl) $$ [HixB HbB]
  · isplitl [HixB]; · iexact HixB
    rw [Nat.sub_self, put_zero]; iexact HbB
  rw [clear_eq I B z (wid i) (2 * t.val + 1) (by omega)]
  iintro ⟨HixB, HbB⟩
  have e3 : 1048576 * wid i + 32768 * (2 * t.val + 2) + 32768 = 1048576 * wid i + 32768 * (2 * t.val + 3) := by omega
  rw [e3]
  ihave Hr := (Entails.of_eq (part_split (F := F) d (b := 1048576 * wid i + 32768 * (2 * t.val + 3) + 32768) (by omega) (by omega) f)) $$ Hrest
  icases Hr with ⟨Hr1, Hrest⟩
  iapply (runs_fill d i (w := wid i) (c := 2 * t.val + 3) (by omega) hg o12 o13 o14 hI) $$ [HI HB HixB Hbv HbB Hr1 H8 H9 HsB HO]
  · isplitr; · iexact Hmw
    isplitl [HI]; · iexact HI
    isplitl [HB]; · iexact HB
    isplitl [HixB]; · iexists _; iexact HixB
    isplitl [Hbv]; · iexact Hbv
    isplitl [HbB]; · iexact HbB
    isplitl [Hr1]; · iexact Hr1
    isplitl [H8]; · iexact H8
    isplitl [H9]; · iexact H9
    isplitl [HsB]; · iexact HsB
    iexact HO
  iintro ⟨HI, HB, HixB, Hbv, HsB, H8, H9, HO⟩
  unfold Runs
  simp only [wp_ret]
  have e4 : 2 * (t.val + 1) = 2 * t.val + 2 := by omega
  have e5 : 1048576 * wid i + 32768 * (2 * t.val + 3) + 32768 = 1048576 * wid i + 32768 * (2 * t.val + 2 + 2) := by ring
  rw [e4, e5]
  imodintro
  imodintro
  isplitr; · iexact Hmw
  isplitl [HI]; · iexact HI
  isplitl [HB]; · iexact HB
  isplitl [HixA]; · iexact HixA
  isplitl [HixB]; · iexact HixB
  isplitl [Hbv]; · iexact Hbv
  isplitl [HsA]; · iexact HsA
  isplitl [HsB]; · iexact HsB
  isplitl [Hdone HpA HpB]
  · rw [part_split (F := F) d (a := 1048576 * wid i) (b := 1048576 * wid i + 32768 * (2 * t.val)) (c := 1048576 * wid i + 32768 * (2 * t.val + 2)) (by omega) (by omega)]
    isplitl [Hdone]; · iexact Hdone
    rw [part_split (F := F) d (a := 1048576 * wid i + 32768 * (2 * t.val)) (b := 1048576 * wid i + 32768 * (2 * t.val + 1)) (c := 1048576 * wid i + 32768 * (2 * t.val + 2)) (by omega) (by omega)]
    isplitl [HpA]
    · rw [show 1048576 * wid i + 32768 * (2 * t.val) + 32768 = 1048576 * wid i + 32768 * (2 * t.val + 1) by omega]
      iexact HpA
    have e6 : 1048576 * wid i + 32768 * (2 * t.val + 1) + 32768 = 1048576 * wid i + 32768 * (2 * t.val + 2) := by ring
    rw [e6]
    iexact HpB
  isplitl [Hrest]; · iexact Hrest
  isplitl [H6]; · iexact H6
  isplitl [H7]; · iexact H7
  isplitl [H8]; · iexact H8
  isplitl [H9]; · iexact H9
  iexact HO

variable {qz : PosShare TreeShare}

include hI hz in
/-- The whole task: the tile's plane goes from any contents to the result's values, and all else comes back. -/
theorem runs_body :
    iprop(Transfers.MayWaits (thr d i) (default : HIx 1) O ∗ (iLoc d ↦{qi} I) ∗ (bLoc d ↦{qb} B) ∗ (zLoc d ↦{qz} fun _ => z)
      ∗ Part (F := F) d (1048576 * wid i) (1048576 * wid i + 1048576) f
      ∗ (∃ x, Holds (F := F) d i bufA x) ∗ (∃ x, Holds (F := F) d i bufB x) ∗ (∃ x, Holds (F := F) d i ixA x) ∗ (∃ x, Holds (F := F) d i ixB x) ∗ (∃ x, Holds (F := F) d i biasV x)
      ∗ At0 (F := F) d i cc0_scratch5.sem ∗ At0 (F := F) d i cc0_scratch6.sem ∗ At0 (F := F) d i cc0_scoped0.sem ∗ At0 (F := F) d i cc0_scoped1.sem
      ∗ At0 (F := F) d i cc0_scoped2.sem ∗ At0 (F := F) d i cc0_scoped3.sem ∗ At0 (F := F) d i cc0_scoped4.sem ∗ At0 (F := F) d i cc0_scoped5.sem
      ∗ At0 (F := F) d i cc0_scoped6.sem ∗ At0 (F := F) d i cc0_scoped7.sem ∗ At0 (F := F) d i cc0_scoped8.sem ∗ At0 (F := F) d i cc0_scoped9.sem
      ∗ Owing d i O W)
    ⊢ Runs d i (body (F := F) i) (fun _ =>
    iprop((iLoc d ↦{qi} I) ∗ (bLoc d ↦{qb} B) ∗ (zLoc d ↦{qz} fun _ => z)
      ∗ Part (F := F) d (1048576 * wid i) (1048576 * wid i + 1048576) (outVal I B z)
      ∗ (∃ x, Holds (F := F) d i bufA x) ∗ (∃ x, Holds (F := F) d i bufB x) ∗ (∃ x, Holds (F := F) d i ixA x) ∗ (∃ x, Holds (F := F) d i ixB x) ∗ (∃ x, Holds (F := F) d i biasV x)
      ∗ At0 (F := F) d i cc0_scratch5.sem ∗ At0 (F := F) d i cc0_scratch6.sem ∗ At0 (F := F) d i cc0_scoped0.sem ∗ At0 (F := F) d i cc0_scoped1.sem
      ∗ At0 (F := F) d i cc0_scoped2.sem ∗ At0 (F := F) d i cc0_scoped3.sem ∗ At0 (F := F) d i cc0_scoped4.sem ∗ At0 (F := F) d i cc0_scoped5.sem
      ∗ At0 (F := F) d i cc0_scoped6.sem ∗ At0 (F := F) d i cc0_scoped7.sem ∗ At0 (F := F) d i cc0_scoped8.sem ∗ At0 (F := F) d i cc0_scoped9.sem
      ∗ Owing d i O W)) := by
  have hg : ∀ k : Fin 16, (rd (N := 16) (k0_pay193 i) k.val).toNat = 8 * k.val + wid i % 8 := pay193_eq i
  have o1 : k0_off1 i = ![16 * row0 (wid i) 0] := by rw [off1_eq]; unfold row0; rw [Nat.mul_zero, Nat.add_zero]
  have o2 : k0_off2 i = ![128 * row0 (wid i) 0] := by rw [off2_eq]; unfold row0; rw [Nat.mul_zero, Nat.add_zero]
  have o4 : k0_off4 i = ![16 * row0 (wid i) 1] := by rw [off4_eq]
  have o5 : k0_off5 i = ![128 * row0 (wid i) 1] := by rw [off5_eq]
  have o3 : k0_off3 i = ![1048576 * wid i + 32768 * 0] := by rw [k0_off3_eq]; unfold wid; congr 1; omega
  have o6 : k0_off6 i = ![1048576 * wid i + 32768 * 1] := by rw [k0_off6_eq]; unfold wid; congr 1; omega
  unfold body
  iintro ⟨#Hmw, HI, HB, HZ, Hout, HbA, HbB, HixA, HixB, Hbv, HsA, HsB, H0, H1, H2, H3, H4, H5, H6, H7, H8, H9, HO⟩
  iapply (runs_zeroFetch d i) $$ [HZ HbA H0 HO]
  · isplitr; · iexact Hmw
    isplitl [HZ]; · iexact HZ
    isplitl [HbA]; · iexact HbA
    isplitl [H0]; · iexact H0
    iexact HO
  iintro ⟨HZ, HbA, H0, HO⟩
  iapply (runs_zeroFetch d i) $$ [HZ HbB H1 HO]
  · isplitr; · iexact Hmw
    isplitl [HZ]; · iexact HZ
    isplitl [HbB]; · iexact HbB
    isplitl [H1]; · iexact H1
    iexact HO
  iintro ⟨HZ, HbB, H1, HO⟩
  have e0 : 1048576 * wid i + 32768 * 0 + 32768 = 1048576 * wid i + 32768 * 1 := by omega
  have e1 : 1048576 * wid i + 32768 * 0 = 1048576 * wid i := by omega
  ihave Hr := (Entails.of_eq (part_split (F := F) d (b := 1048576 * wid i + 32768 * 0 + 32768) (by omega) (by omega) f)) $$ Hout
  icases Hr with ⟨Hr1, Hrest⟩
  iapply (runs_fill d i (w := wid i) (c := 0) (by omega) hg o1 o2 o3 hI (z := z) (f := f)) $$ [HI HB HixA Hbv HbA Hr1 H2 H3 HsA HO]
  · isplitr; · iexact Hmw
    isplitl [HI]; · iexact HI
    isplitl [HB]; · iexact HB
    isplitl [HixA]; · iexact HixA
    isplitl [Hbv]; · iexact Hbv
    isplitl [HbA]; · iexact HbA
    isplitl [Hr1]; · rw [e1]; iexact Hr1
    isplitl [H2]; · iexact H2
    isplitl [H3]; · iexact H3
    isplitl [HsA]; · iexact HsA
    iexact HO
  iintro ⟨HI, HB, HixA, Hbv, HsA, H2, H3, HO⟩
  rw [e0]
  ihave Hr := (Entails.of_eq (part_split (F := F) d (b := 1048576 * wid i + 32768 * 1 + 32768) (by omega) (by omega) f)) $$ Hrest
  icases Hr with ⟨Hr1, Hrest⟩
  iapply (runs_fill d i (w := wid i) (c := 1) (by omega) hg o4 o5 o6 hI (z := z) (f := f)) $$ [HI HB HixB Hbv HbB Hr1 H4 H5 HsB HO]
  · isplitr; · iexact Hmw
    isplitl [HI]; · iexact HI
    isplitl [HB]; · iexact HB
    isplitl [HixB]; · iexact HixB
    isplitl [Hbv]; · iexact Hbv
    isplitl [HbB]; · iexact HbB
    isplitl [Hr1]; · iexact Hr1
    isplitl [H4]; · iexact H4
    isplitl [H5]; · iexact H5
    isplitl [HsB]; · iexact HsB
    iexact HO
  iintro ⟨HI, HB, HixB, Hbv, HsB, H4, H5, HO⟩
  iapply (runs_for d i (inv d i I B z qi qb f O W) (trip i) 0#32 (runs_trip d i hI hz)) $$ [HI HB HixA HixB Hbv HsA HsB Hrest H6 H7 H8 H9 HO]
  · unfold inv
    isplitr; · iexact Hmw
    isplitl [HI]; · iexact HI
    isplitl [HB]; · iexact HB
    isplitl [HixA]; · iexact HixA
    isplitl [HixB]; · iexact HixB
    isplitl [Hbv]; · iexact Hbv
    isplitl [HsA]; · iexact HsA
    isplitl [HsB]; · iexact HsB
    isplitr
    · unfold Part
      rw [show seg (1048576 * wid i) (1048576 * wid i + 32768 * (2 * 0)) = ∅ from Finset.eq_empty_of_forall_notMem fun x hx => by
        rw [mem_seg] at hx; omega, pointsTo_empty]
      iempintro
    isplitl [Hrest]; · iexact Hrest
    isplitl [H6]; · iexact H6
    isplitl [H7]; · iexact H7
    isplitl [H8]; · iexact H8
    isplitl [H9]; · iexact H9
    iexact HO
  iintro %acc Hinv
  rw [trips_eq]
  unfold inv
  icases Hinv with ⟨-, HI, HB, HixA, HixB, Hbv, HsA, HsB, Hdone, Hrest, H6, H7, H8, H9, HO⟩
  iapply (runs_drain d i) $$ [HsA HO]
  · isplitr; · iexact Hmw
    isplitl [HsA]; · iexact HsA
    iexact HO
  iintro ⟨HpA, HbA, HsA, HO⟩
  iapply (runs_drain d i) $$ [HsB HO]
  · isplitr; · iexact Hmw
    isplitl [HsB]; · iexact HsB
    iexact HO
  iintro ⟨HpB, HbB, HsB, HO⟩
  unfold Runs
  rw [wp_ret]
  imodintro
  isplitl [HI]; · iexact HI
  isplitl [HB]; · iexact HB
  isplitl [HZ]; · iexact HZ
  isplitl [Hdone HpA HpB Hrest]
  · rw [part_split (F := F) d (a := 1048576 * wid i) (b := 1048576 * wid i + 32768 * (2 * 15)) (c := 1048576 * wid i + 1048576) (by omega) (by omega)]
    isplitl [Hdone]; · iexact Hdone
    rw [part_split (F := F) d (a := 1048576 * wid i + 32768 * (2 * 15)) (b := 1048576 * wid i + 32768 * (2 * 15) + 32768) (c := 1048576 * wid i + 1048576) (by omega) (by omega)]
    isplitl [HpA]; · iexact HpA
    have e7 : 1048576 * wid i + 32768 * (2 * 15 + 1) = 1048576 * wid i + 32768 * (2 * 15) + 32768 := by omega
    have e8 : 1048576 * wid i + 32768 * (2 * 15) + 32768 + 32768 = 1048576 * wid i + 1048576 := by omega
    rw [e7, e8]
    iexact HpB
  isplitl [HbA]; · iexists _; iexact HbA
  isplitl [HbB]; · iexists _; iexact HbB
  isplitl [HixA]; · iexists _; iexact HixA
  isplitl [HixB]; · iexists _; iexact HixB
  isplitl [Hbv]; · iexact Hbv
  isplitl [HsA]; · iexact HsA
  isplitl [HsB]; · iexact HsB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HO

end Cert.Proof.FillIdeal

end
-- ==== Proof.TaskIdeal.lean ====
/-
  What the launch hands a tile and takes back, and the tile's task from the one to the other.
-/
module

public import proofs.«01_k».proof.Proof.TileIdeal
public import Idealize.ShloMosaic.Lib.SparseCore.Quiescent
public import Idealize.ShloMosaic.Lib.Tactic

@[expose] public section

noncomputable section

namespace Cert.Proof.FillIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Put

variable {F : FTy → Type} [FloatOps F]

local notation "𝕄" => MT nD τ sig (HIx 1) (Elt F) ℕ UU ℕ

/-! ## What the launch hands over -/

/-- The values at the call: the column numbers, the biases, and what the result's buffer held before. -/
structure Given (F : FTy → Type) where
  I : Dev nD → S65536.Idx → Elt F .i32
  B : Dev nD → S524288.Idx → Elt F .f32
  f : Dev nD → S33554432.Idx → Elt F .f32

/-- The word of zeros. -/
def zw : Elt F .f32 := Scalar.ofBits .f32 0x00000000#32

/-- What the call leaves in the result's buffer. -/
def Given.out (G : Given F) (d : Dev nD) : S33554432.Idx → Elt F .f32 := outVal (G.I d) (G.B d) zw

/-- SparseCore `c`'s share of the arrays that all tiles read, -/
def shC (c : Fin 2) : PosShare TreeShare := Transfers.dealOf fullShare Finset.univ c
/-- and tile `s`'s share of that. -/
def shT (c : Fin 2) (s : Fin 16) : PosShare TreeShare := Transfers.dealOf (shC c) Finset.univ s

/-- The three arrays that all tiles read, at a share. -/
def Reads (G : Given F) (d : Dev nD) (q : PosShare TreeShare) : sProp 𝕄 :=
  iprop((iLoc d ↦{q} G.I d) ∗ (bLoc d ↦{q} G.B d) ∗ (zLoc d ↦{q} fun _ => (zw : Elt F .f32)))

/-- The plane of the result that tile `s` of SparseCore `c` writes. -/
def plane (c : Fin 2) (s : Fin 16) : Finset S33554432.Idx :=
  seg (1048576 * (2 * s.val + c.val)) (1048576 * (2 * s.val + c.val) + 1048576)

def Plane (d : Dev nD) (f : S33554432.Idx → Elt F .f32) (c : Fin 2) (s : Fin 16) : sProp 𝕄 := oLoc d ↦[plane c s]{fullShare} f

/-- What one tile holds, and what one SparseCore holds, with `f` in the result. -/
def TileHas (G : Given F) (f : Dev nD → S33554432.Idx → Elt F .f32) (d : Dev nD) (c : Fin 2) (s : Fin 16) : sProp 𝕄 :=
  iprop(Reads G d (shT c s) ∗ Plane d (f d) c s)
def CoreHas (G : Given F) (f : Dev nD → S33554432.Idx → Elt F .f32) (d : Dev nD) (c : Fin 2) : sProp 𝕄 :=
  iprop(Reads G d (shC c) ∗ bigSep Finset.univ fun s => Plane d (f d) c s)

/-- The call hands each SparseCore its share and its planes, and each tile its part of these; back come the planes filled. -/
def P (G : Given F) : (K (F := F)).Pay (nD := nD) (Val := Elt F) (Name := ℕ) (U := UU) where
  st := fun q d c => match q with | 0 => CoreHas G G.f d (Fin.cast nCore_zero c)
  dn := fun q d c => match q with | 0 => CoreHas G G.out d (Fin.cast nCore_zero c)
  go := fun q d c i => match q with | 0 => TileHas G G.f d (Fin.cast nCore_zero c) (Fin.cast nSub_zero i)
  td := fun q d c i => match q with | 0 => TileHas G G.out d (Fin.cast nCore_zero c) (Fin.cast nSub_zero i)
  x := fun _ _ => iprop(emp)

instance (G : Given F) (f : Dev nD → S33554432.Idx → Elt F .f32) (d : Dev nD) (c : Fin 2) :
    BI.Storable (upEmb : UEmb _ 𝕄) (CoreHas G f d c) := by unfold CoreHas Reads Plane; infer_instance
instance (G : Given F) (f : Dev nD → S33554432.Idx → Elt F .f32) (d : Dev nD) (c : Fin 2) (s : Fin 16) :
    BI.Storable (upEmb : UEmb _ 𝕄) (TileHas G f d c s) := by unfold TileHas Reads Plane; infer_instance

instance P_storable (G : Given F) : (P G).IsStorable where
  st q d c := match q with | 0 => (inferInstance : BI.Storable (upEmb : UEmb _ 𝕄) (CoreHas G G.f d (Fin.cast nCore_zero c)))
  dn q d c := match q with | 0 => (inferInstance : BI.Storable (upEmb : UEmb _ 𝕄) (CoreHas G G.out d (Fin.cast nCore_zero c)))
  go q d c i := match q with | 0 => (inferInstance : BI.Storable (upEmb : UEmb _ 𝕄) (TileHas G G.f d (Fin.cast nCore_zero c) (Fin.cast nSub_zero i)))
  td q d c i := match q with | 0 => (inferInstance : BI.Storable (upEmb : UEmb _ 𝕄) (TileHas G G.out d (Fin.cast nCore_zero c) (Fin.cast nSub_zero i)))

/-- Every column number lies in a row. -/
def Given.OK (G : Given F) : Prop := ∀ d, IdxOK (G.I d)

/-! ## A tile's own semaphores and buffers -/

section Own

variable (d : Dev nD) (i : grid0.Coords)

/-- The semaphores that the task uses, and its buffers. -/
abbrev taskSems : Finset (DmaSem sig) :=
  {cc0_scratch5.sem, cc0_scratch6.sem, cc0_scoped0.sem, cc0_scoped1.sem, cc0_scoped2.sem, cc0_scoped3.sem, cc0_scoped4.sem, cc0_scoped5.sem,
    cc0_scoped6.sem, cc0_scoped7.sem, cc0_scoped8.sem, cc0_scoped9.sem}
abbrev taskBufs : Finset (Ref sig .scVector) := {cc0_scratch0, cc0_scratch1, cc0_scratch2, cc0_scratch3, cc0_scratch4}

theorem taskSems_scoped : ∀ s ∈ taskSems, (SemLoc.dma s : SemLoc sig).isScoped .scVector = true := by decide

def semsRest : sProp 𝕄 := bigSep (ownCells (thr d i) \ taskSems.image fun s => (thr d i, SemLoc.dma s)) fun g => semVal g 0

theorem ownSems0_V :
    (ownSems0 (thr d i) : sProp 𝕄) = iprop((bigSep taskSems fun s => At0 (F := F) d i s) ∗ semsRest d i) := by
  unfold SparseCore.Cfg.ownSems0 semsRest
  rw [SparseCore.bigSep_sdiff_split' (t := taskSems.image fun s => (thr d i, SemLoc.dma s)) (fun g hg => by
    obtain ⟨s, hs, rfl⟩ := Finset.mem_image.mp hg
    exact mem_ownCells.mpr ⟨rfl, taskSems_scoped s hs⟩),
    BI.bigSep_image_of_injOn (fun a _ b _ e => by simpa using e)]

theorem taskSems_split (Φ : DmaSem sig → sProp 𝕄) :
    bigSep taskSems Φ = iprop(Φ cc0_scratch5.sem ∗ Φ cc0_scratch6.sem ∗ Φ cc0_scoped0.sem ∗ Φ cc0_scoped1.sem ∗ Φ cc0_scoped2.sem ∗ Φ cc0_scoped3.sem
      ∗ Φ cc0_scoped4.sem ∗ Φ cc0_scoped5.sem ∗ Φ cc0_scoped6.sem ∗ Φ cc0_scoped7.sem ∗ Φ cc0_scoped8.sem ∗ Φ cc0_scoped9.sem) := by
  unfold taskSems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

def bufsRest : sProp 𝕄 :=
  bigSep (ownRefs (τ := τ) (sig := sig) (thr d i).2 \ taskBufs.image fun b => (thr d i).2.devRef b) fun b => iprop(∃ f, ((d, b) : Loc nD τ sig) ↦{fullShare} f)

theorem ownBufs_V :
    (ownBufs (thr d i) : sProp 𝕄) = iprop((bigSep taskBufs fun b => iprop(∃ f, (thr d i).loc b ↦{fullShare} f)) ∗ bufsRest d i) := by
  unfold SparseCore.Cfg.ownBufs bufsRest
  rw [SparseCore.bigSep_sdiff_split' (t := taskBufs.image fun b => (thr d i).2.devRef b) (fun g hg => by
    obtain ⟨s, hs, rfl⟩ := Finset.mem_image.mp hg
    refine SparseCore.Cfg.mem_ownRefs_of_owner ?_
    revert s; simp only [Finset.mem_insert, Finset.mem_singleton]
    rintro s (rfl | rfl | rfl | rfl | rfl) _ <;> rfl),
    BI.bigSep_image_of_injOn (fun a _ b _ e => Proc.devRef_injective _ e)]

theorem taskBufs_split (Φ : Ref sig .scVector → sProp 𝕄) :
    bigSep taskBufs Φ = iprop(Φ cc0_scratch0 ∗ Φ cc0_scratch1 ∗ Φ cc0_scratch2 ∗ Φ cc0_scratch3 ∗ Φ cc0_scratch4) := by
  unfold taskBufs
  rw [SparseCore.bigSep_insert' (by decide), SparseCore.bigSep_insert' (by decide), SparseCore.bigSep_insert' (by decide), SparseCore.bigSep_insert' (by decide), bigSep_singleton]

/-- A whole buffer at some contents is a memref that holds something. -/
theorem some_holds (b : Ref sig .scVector) :
    (iprop(∃ f, (thr d i).loc b ↦{fullShare} f) : sProp 𝕄) = iprop(∃ x, Holds (F := F) d i (Memref.whole b) x) := by
  refine BI.Entails.antisymm ?_ ?_
  · show (iprop(∃ f, (thr d i).loc b ↦{fullShare} f) : sProp 𝕄) ⊢ _
    iintro ⟨%f, H⟩
    iexists _
    unfold Holds
    iexists f
    isplitr; · ipureintro; rfl
    iexact H
  · show _ ⊢ (iprop(∃ f, (thr d i).loc b ↦{fullShare} f) : sProp 𝕄)
    unfold Holds
    iintro ⟨%x, %f, -, H⟩
    iexists f
    iexact H

/-! ## The task -/

abbrev cI (i : grid0.Coords) : Fin 2 := ⟨(i 0).val, (i 0).isLt⟩
abbrev sI (i : grid0.Coords) : Fin 16 := ⟨(i 1).val, (i 1).isLt⟩

theorem pay194_eq (y : S16.Idx) : k0_pay194 (F := F) y = zw := rfl

theorem plane_eq (f : S33554432.Idx → Elt F .f32) :
    (Plane d f (cI i) (sI i) : sProp 𝕄) = Part d (1048576 * wid i) (1048576 * wid i + 1048576) f := rfl

/-- The task of the tile at `i`. -/
theorem tile_body (G : Given F) (hG : G.OK) (O : CellTallies nD τ sig (HIx 1)) (W : Waits sig (HIx 1)) (hO : ∀ g, O g none = 0) :
    iprop(levAts (K (F := F)).L (K (F := F)).lev ∗ emp ∗ TileHas G G.f d (cI i) (sI i)
        ∗ scopedBufs (thr d i) ∗ scopedSems0 (thr d i) ∗ owes (thr d i) O W)
      ⊢ Runs d i (printed (F := F) i) (fun _ => iprop(TileHas G G.out d (cI i) (sI i)
          ∗ scopedBufs (thr d i) ∗ scopedSems0 (thr d i) ∗ ∃ W', ⌜∀ p ∈ W', p ∈ W ∨ p.2 = none⌝ ∗ owes (thr d i) O W')) := by
  rw [body_eq, (K (F := F)).scopedBufs_V facts d (cV i) (jV i), SparseCore.Cfg.scopedSems0_V (Val := Elt F) d (cV i) (jV i),
    ownSems0_V, ownBufs_V, taskSems_split, taskBufs_split, some_holds, some_holds, some_holds, some_holds, some_holds]
  unfold TileHas Reads
  rw [plane_eq, plane_eq]
  iintro ⟨#Hlv, -, ⟨⟨HI, HB, HZ⟩, Hp⟩, ⟨⟨HbA, HbB, HixA, HixB, Hbv⟩, Hbr⟩, ⟨⟨HsA, HsB, H0, H1, H2, H3, H4, H5, H6, H7, H8, H9⟩, Hsr⟩, HO⟩
  ihave Hmw := (show levAts (K (F := F)).L (K (F := F)).lev ⊢ Transfers.MayWaits (thr d i) (default : HIx 1) O from
    (K (F := F)).mayWaits_none (thr := thr d i) hO) $$ Hlv
  iapply (wp_wand_r frame (wpE (defs₀ (F := F)) 𝒱₀ (thr d i) none) Set.univ)
  isplitl [Hmw HI HB HZ Hp HbA HbB HixA HixB Hbv HsA HsB H0 H1 H2 H3 H4 H5 H6 H7 H8 H9 HO]
  · iapply (runs_body d i (hG d) pay194_eq (B := G.B d) (f := G.f d) (O := O) (W := W))
    isplitl [Hmw]; · iexact Hmw
    isplitl [HI]; · iexact HI
    isplitl [HB]; · iexact HB
    isplitl [HZ]; · iexact HZ
    isplitl [Hp]; · iexact Hp
    isplitl [HbA]; · iexact HbA
    isplitl [HbB]; · iexact HbB
    isplitl [HixA]; · iexact HixA
    isplitl [HixB]; · iexact HixB
    isplitl [Hbv]; · iexact Hbv
    isplitl [HsA]; · iexact HsA
    isplitl [HsB]; · iexact HsB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold Owing
    iexists W
    isplitr; · ipureintro; exact fun p hp => Or.inl hp
    iexact HO
  iintro %_ ⟨HI, HB, HZ, Hp, HbA, HbB, HixA, HixB, Hbv, HsA, HsB, H0, H1, H2, H3, H4, H5, H6, H7, H8, H9, HO⟩
  isplitl [HI HB HZ Hp]
  · isplitr [Hp]
    · isplitl [HI]; · iexact HI
      isplitl [HB]; · iexact HB
      iexact HZ
    iexact Hp
  isplitl [HbA HbB HixA HixB Hbv Hbr]
  · isplitr [Hbr]
    · isplitl [HbA]; · iexact HbA
      isplitl [HbB]; · iexact HbB
      isplitl [HixA]; · iexact HixA
      isplitl [HixB]; · iexact HixB
      iexact Hbv
    iexact Hbr
  isplitr [HO]
  · isplitr [Hsr]
    · isplitl [HsA]; · iexact HsA
      isplitl [HsB]; · iexact HsB
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hsr
  unfold Owing
  iexact HO

end Own

/-! ## The launch's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => printed (F := F) (coordsV c s)) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (G : Given F) (hG : G.OK) : (K (F := F)).TileObl (D (F := F)) 𝒱 (P G) v₀ 0 := by
  intro d c i O W hO _ _
  simp only [show (P G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) G hG O W hO).trans (wp_mono frame _ _ fun _ => obl_post)

end Cert.Proof.FillIdeal

end
-- ==== Proof.LaunchIdeal.lean ====
/-
  The whole program: the result is dealt to the tiles and gathered again, the host's reshapes stand before and after the
  call, and every run ends with the result's buffer at one stated value.
-/
module

public import proofs.«01_k».proof.Proof.TaskIdeal

@[expose] public section

noncomputable section

namespace Cert.Proof.FillIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within nullary_result_ne nullary_result unary_result unary_result_ne reshape_result reshape_result_ne)
open Idealize.ShloMosaic.Tactic
open Cert.Proof.Put

variable {F : FTy → Type} [FloatOps F]

local notation "𝕄" => MT nD τ sig (HIx 1) (Elt F) ℕ UU ℕ

/-! ## The parts make the whole -/

section Deal

variable (G : Given F) (f : Dev nD → S33554432.Idx → Elt F .f32) (d : Dev nD)

theorem reads_deal {n : ℕ} [NeZero n] (q : PosShare TreeShare) :
    (Reads G d q : sProp 𝕄) = bigSep Finset.univ fun i : Fin n => Reads G d (Transfers.dealOf q Finset.univ i) := by
  unfold Reads
  rw [bigSep_sep', bigSep_sep', ← Transfers.pointsTo_deal Finset.univ ⟨0, Finset.mem_univ _⟩ q, ← Transfers.pointsTo_deal Finset.univ ⟨0, Finset.mem_univ _⟩ q,
    ← Transfers.pointsTo_deal Finset.univ ⟨0, Finset.mem_univ _⟩ q]

theorem core_deal (c : Fin 2) : (CoreHas G f d c : sProp 𝕄) = bigSep Finset.univ fun s => TileHas G f d c s := by
  unfold CoreHas TileHas
  rw [reads_deal (n := 16), bigSep_sep']; rfl

theorem planes_disjoint : ∀ x ∈ (Finset.univ : Finset (Fin 2 × Fin 16)), ∀ y ∈ (Finset.univ : Finset (Fin 2 × Fin 16)), x ≠ y →
    Disjoint (plane x.1 x.2) (plane y.1 y.2) := by
  rintro ⟨c, s⟩ - ⟨c', s'⟩ - h
  rw [Finset.disjoint_left]
  intro j h1 h2
  unfold plane at h1 h2
  rw [mem_seg] at h1 h2
  dsimp only at h1 h2
  have hc := c.isLt; have hc' := c'.isLt
  exact h (Prod.ext (Fin.ext (by show c.val = c'.val; omega)) (Fin.ext (by show s.val = s'.val; omega)))

theorem planes_cover : (Finset.univ : Finset (Fin 2 × Fin 16)).biUnion (fun x => plane x.1 x.2) = Finset.univ := by
  refine Finset.eq_univ_of_forall fun j => Finset.mem_biUnion.mpr ?_
  have hj : (j 0).val < 33554432 := (j 0).isLt
  have hw : (j 0).val / 1048576 < 32 := by omega
  generalize hn : (j 0).val = n at hj hw
  refine ⟨(⟨n / 1048576 % 2, by omega⟩, ⟨n / 1048576 / 2, by omega⟩), Finset.mem_univ _, ?_⟩
  unfold plane
  rw [mem_seg, hn]
  show 1048576 * (2 * (n / 1048576 / 2) + n / 1048576 % 2) ≤ n ∧ n < 1048576 * (2 * (n / 1048576 / 2) + n / 1048576 % 2) + 1048576
  omega

theorem whole_planes (g : S33554432.Idx → Elt F .f32) :
    (oLoc d ↦{fullShare} g : sProp 𝕄) = bigSep Finset.univ fun c : Fin 2 => bigSep Finset.univ fun s : Fin 16 => Plane d g c s := by
  refine Eq.trans ?_ (bigSep_univ_prod (fun x : Fin 2 × Fin 16 => (Plane d g x.1 x.2 : sProp 𝕄)))
  unfold Plane
  rw [← pointsTo_biUnion Finset.univ (ℓ := oLoc d) (fun x : Fin 2 × Fin 16 => plane x.1 x.2) planes_disjoint, planes_cover]

theorem whole_deal :
    (iprop(Reads G d fullShare ∗ oLoc d ↦{fullShare} f d) : sProp 𝕄) = bigSep Finset.univ fun c : Fin 2 => CoreHas G f d c := by
  unfold CoreHas
  rw [whole_planes, reads_deal (n := 2), bigSep_sep']; rfl

end Deal

theorem tasks_cast (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (G : Given F) : (K (F := F)).VecSplit' (P G) 0 := by
  intro d c
  show CoreHas G G.f d (Fin.cast nCore_zero c) ⊢ |={Set.univ}=> iprop(
      (bigSep Finset.univ fun i : Fin ((K (F := F)).nSub 0) => TileHas G G.f d (Fin.cast nCore_zero c) (Fin.cast nSub_zero i))
      ∗ ((bigSep Finset.univ fun i : Fin ((K (F := F)).nSub 0) => TileHas G G.out d (Fin.cast nCore_zero c) (Fin.cast nSub_zero i))
          -∗ CoreHas G G.out d (Fin.cast nCore_zero c)))
  rw [tasks_cast (F := F) (fun i => TileHas G G.f d (Fin.cast nCore_zero c) i), tasks_cast (F := F) (fun i => TileHas G G.out d (Fin.cast nCore_zero c) i),
    ← core_deal, ← core_deal]
  iintro H; imodintro
  isplitl [H]; · iexact H
  iintro H; iexact H

/-! ## The ghost state at launch -/

def u₀ : UU := (initOf (K (F := F)).hsCells (K (F := F)).hsToks, 1)

theorem bigSep_emp' {J : Type} (s : Finset J) : (bigSep s fun _ => iprop(emp)) = (iprop(emp) : sProp 𝕄) := bigSep_emp_const s

theorem hu₀ (G : Given F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P G).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P G).x q thr) = bigSep Finset.univ fun _ => iprop(emp) from
    bigSep_congr fun _ _ => bigSep_univ_of_subsingleton (0 : Fin 1), bigSep_emp']
  iempintro

/-! ## The host code around the call -/

variable (m : (ℓ : Loc nD τ sig) → Buf (Elt F) ℓ) (ρ : Dev nD → PrngReg)

abbrev dr (b : Ref sig .tc) : DevRef τ sig := Proc.devRef .tc b

abbrev opI : HloOp τ sig (Elt F) := StableHlo.reshape main_arg0 main_v0 (rfl : (.i32 : EltTy) = .i32) shapeCasts_S4x1024x16_S65536
abbrev opB : HloOp τ sig (Elt F) := StableHlo.reshape main_arg1 main_v1 (rfl : (.f32 : EltTy) = .f32) shapeCasts_S4x1024x128_S524288
abbrev opC : HloOp τ sig (Elt F) := StableHlo.nullary main_cst (constant S_ .f32 0x00000000#32)
abbrev opZ : HloOp τ sig (Elt F) :=
  StableHlo.unary main_cst main_v2 (broadcastInDim S32768 ![] bcast_S_S32768 : (⟨S_, .f32⟩ : BufTy).Contents (Elt F) → (⟨S32768, .f32⟩ : BufTy).Contents (Elt F))
abbrev opO : HloOp τ sig (Elt F) := StableHlo.reshape main_v3 main_v4 (rfl : (.f32 : EltTy) = .f32) shapeCasts_S33554432_S4x8x1024x1024

/-- The column numbers and the biases in one row, and the result's buffer as the launch finds it. -/
def given : Given F where
  I d := shapeCast S65536 (m (d, dr main_arg0)) shapeCasts_S4x1024x16_S65536
  B d := shapeCast S524288 (m (d, dr main_arg1)) shapeCasts_S4x1024x128_S524288
  f d := m (d, dr main_v3)

/-- The program's result. -/
def result (d : Dev nD) : S4x8x1024x1024.Idx → Elt F .f32 := shapeCast S4x8x1024x1024 ((given m).out d) shapeCasts_S33554432_S4x8x1024x1024

def V0 (d : Dev nD) : Valuation τ sig (Elt F) := fun b => m (d, b)
/-- The arrays before the call, -/
def V4 (d : Dev nD) : Valuation τ sig (Elt F) := (opZ (F := F)).result ((opC (F := F)).result ((opB (F := F)).result ((opI (F := F)).result (V0 m d))))
/-- after it, -/
def V5 (d : Dev nD) : Valuation τ sig (Elt F) := Function.update (V4 m d) (dr main_v3) ((given m).out d)
/-- and at the end. -/
def V6 (d : Dev nD) : Valuation τ sig (Elt F) := (opO (F := F)).result (V5 m d)

theorem V4_arg0 (d : Dev nD) : V4 m d (dr main_arg0) = m (d, dr main_arg0) := by
  unfold V4 opZ opC opB opI
  rw [unary_result_ne (h := by decide), nullary_result_ne (h := by decide), reshape_result_ne (h := by decide), reshape_result_ne (h := by decide)]; rfl
theorem V4_arg1 (d : Dev nD) : V4 m d (dr main_arg1) = m (d, dr main_arg1) := by
  unfold V4 opZ opC opB opI
  rw [unary_result_ne (h := by decide), nullary_result_ne (h := by decide), reshape_result_ne (h := by decide), reshape_result_ne (h := by decide)]; rfl
theorem V4_v0 (d : Dev nD) : V4 m d (dr main_v0) = (given m).I d := by
  unfold V4 opZ opC opB opI
  rw [unary_result_ne (h := by decide), nullary_result_ne (h := by decide), reshape_result_ne (h := by decide), reshape_result]; rfl
theorem V4_v1 (d : Dev nD) : V4 m d (dr main_v1) = (given m).B d := by
  unfold V4 opZ opC opB opI
  rw [unary_result_ne (h := by decide), nullary_result_ne (h := by decide), reshape_result, reshape_result_ne (h := by decide)]; rfl
theorem V4_v2 (d : Dev nD) : V4 m d (dr main_v2) = fun _ => (zw : Elt F .f32) := by
  unfold V4 opZ opC opB opI
  rw [unary_result, nullary_result]; rfl
theorem V4_v3 (d : Dev nD) : V4 m d (dr main_v3) = (given m).f d := by
  unfold V4 opZ opC opB opI
  rw [unary_result_ne (h := by decide), nullary_result_ne (h := by decide), reshape_result_ne (h := by decide), reshape_result_ne (h := by decide)]; rfl

theorem V5_v3 (d : Dev nD) : V5 m d (dr main_v3) = (given m).out d := Function.update_self _ _ _
theorem V5_ne (d : Dev nD) {b : DevRef τ sig} (h : b ≠ dr main_v3) : V5 m d b = V4 m d b := Function.update_of_ne h _ _

theorem V6_arg0 (d : Dev nD) : V6 m d (dr main_arg0) = m (d, dr main_arg0) := by
  unfold V6 opO
  rw [reshape_result_ne (h := by decide), V5_ne m d (by decide), V4_arg0]
theorem V6_arg1 (d : Dev nD) : V6 m d (dr main_arg1) = m (d, dr main_arg1) := by
  unfold V6 opO
  rw [reshape_result_ne (h := by decide), V5_ne m d (by decide), V4_arg1]
theorem V6_v4 (d : Dev nD) : V6 m d (dr main_v4) = result m d := by
  unfold V6 opO
  rw [reshape_result, V5_v3]; rfl

/-- The arrays of the host code. -/
abbrev arrays : Finset (DevRef τ sig) :=
  {dr main_v0, dr main_v1, dr main_v2, dr main_v3, dr main_arg0, dr main_arg1, dr main_v4, dr main_cst}
abbrev others : Finset (DevRef τ sig) := {dr main_arg0, dr main_arg1, dr main_v4, dr main_cst}

theorem held_arrays (d : Dev nD) (W : Valuation τ sig (Elt F)) :
    (held (T d) arrays W : sProp 𝕄) = iprop((iLoc d ↦{fullShare} W (dr main_v0)) ∗ (bLoc d ↦{fullShare} W (dr main_v1)) ∗ (zLoc d ↦{fullShare} W (dr main_v2))
      ∗ (oLoc d ↦{fullShare} W (dr main_v3)) ∗ held (T d) others W) := by
  unfold held arrays
  rw [SparseCore.bigSep_insert' (by decide), SparseCore.bigSep_insert' (by decide), SparseCore.bigSep_insert' (by decide), SparseCore.bigSep_insert' (by decide)]

theorem held_others (d : Dev nD) (W : Valuation τ sig (Elt F)) :
    (held (T d) others W : sProp 𝕄) = iprop(((SparseCore.T d).loc main_arg0 ↦{fullShare} W (dr main_arg0)) ∗ ((SparseCore.T d).loc main_arg1 ↦{fullShare} W (dr main_arg1))
      ∗ ((SparseCore.T d).loc main_v4 ↦{fullShare} W (dr main_v4)) ∗ ((SparseCore.T d).loc main_cst ↦{fullShare} W (dr main_cst))) := by
  unfold held others
  rw [SparseCore.bigSep_insert' (by decide), SparseCore.bigSep_insert' (by decide), SparseCore.bigSep_insert' (by decide), bigSep_singleton]

theorem held_V5 (d : Dev nD) :
    (held (T d) arrays (V5 m d) : sProp 𝕄) = iprop((iLoc d ↦{fullShare} (given m).I d) ∗ (bLoc d ↦{fullShare} (given m).B d) ∗ (zLoc d ↦{fullShare} fun _ => (zw : Elt F .f32))
      ∗ (oLoc d ↦{fullShare} (given m).out d) ∗ held (T d) others (V4 m d)) := by
  rw [held_arrays, held_others, held_others, V5_v3, V5_ne m d (b := dr main_v0) (by decide), V5_ne m d (b := dr main_v1) (by decide),
    V5_ne m d (b := dr main_v2) (by decide), V5_ne m d (b := dr main_arg0) (by decide), V5_ne m d (b := dr main_arg1) (by decide),
    V5_ne m d (b := dr main_v4) (by decide), V5_ne m d (b := dr main_cst) (by decide), V4_v0, V4_v1, V4_v2]

theorem unscoped_held (d : Dev nD) : (unscopedBufs d (fun b => m ((SparseCore.T d).loc b)) : sProp 𝕄) = held (T d) arrays (V0 m d) := by
  rw [held_arrays, held_others]
  unfold unscopedBufs
  rw [show (Finset.univ.filter fun b : Ref sig .tc => ¬ b.isScoped) = {main_v0, main_v1, main_v2, main_v3, main_arg0, main_arg1, main_v4, main_cst} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem within : (opI (F := F)).bufs ⊆ arrays ∧ (opB (F := F)).bufs ⊆ arrays ∧ (opC (F := F)).bufs ⊆ arrays ∧ (opZ (F := F)).bufs ⊆ arrays
    ∧ (opO (F := F)).bufs ⊆ arrays :=
  ⟨by rw [StableHlo.reshape_bufs]; decide, by rw [StableHlo.reshape_bufs]; decide, by rw [StableHlo.nullary_bufs]; decide,
    by rw [StableHlo.unary_bufs]; decide, by rw [StableHlo.reshape_bufs]; decide⟩

/-- What the call takes, and what it brings back. -/
theorem st0_eq (G : Given F) (d : Dev nD) :
    (bigSep Finset.univ fun c : Fin ((K (F := F)).nCore 0) => (P G).st 0 d c) = iprop(Reads G d fullShare ∗ oLoc d ↦{fullShare} G.f d) := by
  rw [whole_deal G G.f]
  show (bigSep (Finset.univ : Finset (Fin 2)) fun c => CoreHas G G.f d (Fin.cast nCore_zero c)) = _
  rfl
theorem dn0_eq (G : Given F) (d : Dev nD) :
    (bigSep Finset.univ fun c : Fin ((K (F := F)).nCore 0) => (P G).dn 0 d c) = iprop(Reads G d fullShare ∗ oLoc d ↦{fullShare} G.out d) := by
  rw [whole_deal G G.out]
  show (bigSep (Finset.univ : Finset (Fin 2)) fun c => CoreHas G G.out d (Fin.cast nCore_zero c)) = _
  rfl

/-- What the program leaves: its arguments as they were, and its result. -/
def FIN (d : Dev nD) : sProp 𝕄 :=
  iprop(((SparseCore.T d).loc main_arg0 ↦{fullShare} m (d, dr main_arg0)) ∗ ((SparseCore.T d).loc main_arg1 ↦{fullShare} m (d, dr main_arg1))
    ∗ ((SparseCore.T d).loc main_v4 ↦{fullShare} result m d))

/-- The program on the TensorCore. -/
theorem hmain (κ : GSem nD τ sig → ℕ) (d : Dev nD) :
    iprop((K (F := F)).ctx EH (P (given m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := arrays) within.1 (V := V0 m d)) $$ [Hb Hheld]
  · isplitl [Hb] <;> iassumption
  iintro ⟨Hb, Hheld⟩
  rw [wp_ret]; imodintro
  iapply (wp_hlo_within 𝒱 (SparseCore.T d) none Set.univ (op := opB) (S := arrays) within.2.1) $$ [Hb Hheld]
  · isplitl [Hb] <;> iassumption
  iintro ⟨Hb, Hheld⟩
  rw [wp_ret]; imodintro
  iapply (wp_hlo_within 𝒱 (SparseCore.T d) none Set.univ (op := opC) (S := arrays) within.2.2.1) $$ [Hb Hheld]
  · isplitl [Hb] <;> iassumption
  iintro ⟨Hb, Hheld⟩
  rw [wp_ret]; imodintro
  iapply (wp_hlo_within 𝒱 (SparseCore.T d) none Set.univ (op := opZ) (S := arrays) within.2.2.2.1) $$ [Hb Hheld]
  · isplitl [Hb] <;> iassumption
  iintro ⟨Hb, Hheld⟩
  rw [wp_ret]; imodintro
  rw [show (opZ (F := F)).result ((opC (F := F)).result ((opB (F := F)).result ((opI (F := F)).result (V0 m d)))) = V4 m d from rfl]
  ihave Hh := (Entails.of_eq (held_arrays (F := F) d (V4 m d))) $$ Hheld
  rw [V4_v0, V4_v1, V4_v2, V4_v3]
  icases Hh with ⟨HI, HB, HZ, HO, Hr⟩
  iapply ((K (F := F)).wp_run (D (F := F)) 𝒱 (EH := EH) (P := P (given m)) κ d 0) $$ [Hst HI HB HZ HO Hr Hb Hts]
  isplitr; · iexact Hctx
  isplitl [Hst]; · iexact Hst
  isplitl [HI HB HZ HO]
  · rw [st0_eq]
    unfold Reads
    isplitr [HO]
    · isplitl [HI]; · iexact HI
      isplitl [HB]; · iexact HB
      iexact HZ
    iexact HO
  iintro ⟨Hst, Hdn⟩
  ihave Hdn' := (Entails.of_eq (dn0_eq (given m) d)) $$ Hdn
  unfold Reads
  icases Hdn' with ⟨⟨HI, HB, HZ⟩, HO⟩
  iapply (wp_hlo_within 𝒱 (SparseCore.T d) none Set.univ (op := opO) (S := arrays) within.2.2.2.2 (V := V5 m d)) $$ [Hb HI HB HZ HO Hr]
  · isplitl [Hb]; · iexact Hb
    rw [held_V5]
    isplitl [HI]; · iexact HI
    isplitl [HB]; · iexact HB
    isplitl [HZ]; · iexact HZ
    isplitl [HO]; · iexact HO
    iexact Hr
  iintro ⟨Hb, Hheld⟩
  rw [show (opO (F := F)).result (V5 m d) = V6 m d from rfl]
  ihave Hh := (Entails.of_eq (held_arrays (F := F) d (V6 m d))) $$ Hheld
  rw [held_others, V6_arg0, V6_arg1, V6_v4]
  icases Hh with ⟨-, -, -, -, H0, H1, H4, -⟩
  rw [wp_ret]; imodintro; imodintro
  isplitl [Hst]; · iexact Hst
  isplitr [Hb Hts]
  · unfold FIN
    isplitl [H0]; · iexact H0
    isplitl [H1]; · iexact H1
    iexact H4
  isplitl [Hb] <;> iassumption

/-- What the final state says of one device. -/
def fq (d : Dev nD) (s' : Phys nD τ sig (Elt F)) : Prop :=
  s'.mem.mem (d, dr main_arg0) = m (d, dr main_arg0) ∧ s'.mem.mem (d, dr main_arg1) = m (d, dr main_arg1) ∧ s'.mem.mem (d, dr main_v4) = result m d

theorem hfin (d : Dev nD) (s' : Phys nD τ sig (Elt F)) : iprop(FIN m d ∗ SI s') ⊢ (⌜fq m d s'⌝ : sProp 𝕄) := by
  unfold FIN
  iintro ⟨⟨H0, H1, H4⟩, HSI⟩
  ihave H := (persistent_entails_right (SI_pointsTo_agree (st := s') (ℓ := (SparseCore.T d).loc main_arg0) (I := Finset.univ) (q := fullShare) (f := m (d, dr main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m (d, dr main_arg1)))) $$ [HSI H1]
  · isplitl [HSI] <;> iassumption
  icases H with ⟨%h1, HSI, -⟩
  ihave H := (SI_pointsTo_agree (st := s') (ℓ := (SparseCore.T d).loc main_v4) (I := Finset.univ) (q := fullShare) (f := result m d)) $$ [HSI H4]
  · isplitl [HSI] <;> iassumption
  icases H with %h4
  ipureintro
  exact ⟨funext fun i => h0 i (Finset.mem_univ i), funext fun i => h1 i (Finset.mem_univ i), funext fun i => h4 i (Finset.mem_univ i)⟩

/-! ## The run -/

def QC : PUnit × MemSt nD τ sig (Elt F) → Prop := fun r =>
  (∀ c : Dev nD, r.2.mem (c, dr main_arg0) = m (c, dr main_arg0) ∧ r.2.mem (c, dr main_arg1) = m (c, dr main_arg1) ∧ r.2.mem (c, dr main_v4) = result m c)
    ∧ r.2.sem = fun _ => 0

/-- Every run ends, its arguments unchanged, its result at the stated value. -/
theorem run_main [∀ e, Nonempty (Elt F e)] (hG : (given m).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (given m)) (A := ∅) facts v₀
    (fun q hq => match q with | 0 => nomatch hq)
    (fun q _ => match q with | 0 => tileObl (given m) hG)
    (fun q _ => match q with | 0 => SparseCore.Cfg.VecSplit.of_plain (vecSplit (given m)))
    m ρ main (fun _ => iprop(emp)) (FIN m) (u₀ (F := F)) (sep_elim_left.trans (hu₀ (given m))) (hmain m ρ) (fq m) (hfin m) (QC m) (fun _ h hz => ⟨h, hz⟩)

end Cert.Proof.FillIdeal

end
-- ==== Proof.ValueIdeal.lean ====
/-
  The program's result read at one entry, and the condition on the column numbers in the shape they are given in.
-/
module

public import proofs.«01_k».proof.Proof.LaunchIdeal
public import proofs.«01_k».proof.Proof.RefValue

@[expose] public section

noncomputable section

namespace Cert.Proof.FillIdeal

open Cert.KernelIdeal Cert.KernelIdeal.Gen
open Idealize.ShloMosaic
open Cert.Proof.Put

variable {F : FTy → Type} [FloatOps F]

variable (m : (ℓ : Loc nD τ sig) → Buf (Elt F) ℓ) (d : Dev nD)

/-- The column numbers as given. -/
abbrev cols0 : S4x1024x16.Idx → BitVec 32 := m (d, dr main_arg0)

/-- The biases as given. -/
abbrev biases0 : S4x1024x128.Idx → Elt F .f32 := m (d, dr main_arg1)

/-- Column numbers that are columns as given are columns in one row. -/
theorem given_ok (h : ∀ (d : Dev nD) j, (cols0 m d j).toNat < 1024) : (given m).OK := fun d _ => h d _

theorem rd_cols (b : Fin 4) (r : Fin 1024) (k : Fin 16) :
    rd (N := 65536) ((given m).I d) (16 * (1024 * b.val + r.val) + k.val) = cols0 m d (ix3 b r k) := by
  refine shapeCast_apply (s := S4x1024x16) (t := S65536) (cols0 m d) _ _ (ix3 b r k) ?_
  rw [Shape.rowMajor_val_three, Shape.rowMajor_val_one, ix_val (by omega)]
  show (b.val * 1024 + r.val) * 16 + k.val = _
  omega

theorem rd_biases (b : Fin 4) (r : Fin 1024) (h : Fin 8) (k : Fin 16) :
    rd (N := 524288) ((given m).B d) (128 * (1024 * b.val + r.val) + (8 * k.val + h.val)) = biases0 m d (ix3 b r (Ref.lane h k)) := by
  refine shapeCast_apply (s := S4x1024x128) (t := S524288) (biases0 m d) _ _ (ix3 b r (Ref.lane h k)) ?_
  rw [Shape.rowMajor_val_three, Shape.rowMajor_val_one, ix_val (by omega)]
  show (b.val * 1024 + r.val) * 128 + (8 * k.val + h.val) = _
  omega

/-- The program's result at an entry: the last of the row's neighbours there, or zero. -/
theorem result_at (b : Fin 4) (h : Fin 8) (r c : Fin 1024) :
    result m d (ix4 b h r c)
      = last (fun k => (cols0 m d (ix3 b r k)).toNat) (fun k => biases0 m d (ix3 b r (Ref.lane h k))) c.val (Scalar.ofBits .f32 0x00000000#32) := by
  have hb := b.isLt; have hh := h.isLt; have hr := r.isLt; have hc := c.isLt
  unfold result
  rw [shapeCast_apply _ _ (ix4 b h r c) (ix 33554432 (((b.val * 8 + h.val) * 1024 + r.val) * 1024 + c.val)) (by
    rw [Shape.rowMajor_val_four, Shape.rowMajor_val_one, ix_val (by omega)]; rfl)]
  show outAt ((given m).I d) ((given m).B d) zw (ix 33554432 (((b.val * 8 + h.val) * 1024 + r.val) * 1024 + c.val) 0).val = _
  rw [ix_val (by omega)]
  unfold outAt
  have e1 : (((b.val * 8 + h.val) * 1024 + r.val) * 1024 + c.val) / 8388608 = b.val := by omega
  have e2 : (((b.val * 8 + h.val) * 1024 + r.val) * 1024 + c.val) / 1024 % 1024 = r.val := by omega
  have e3 : (((b.val * 8 + h.val) * 1024 + r.val) * 1024 + c.val) / 1048576 % 8 = h.val := by omega
  have e4 : (((b.val * 8 + h.val) * 1024 + r.val) * 1024 + c.val) % 1024 = c.val := by omega
  rw [e1, e2, e3, e4]
  have f1 : (fun k : Fin 16 => BitVec.toNat (rd (N := 65536) ((given m).I d) (16 * (1024 * b.val + r.val) + k.val) : BitVec 32))
      = fun k => (cols0 m d (ix3 b r k)).toNat := funext fun k => congrArg BitVec.toNat (rd_cols m d b r k)
  have f2 : (fun k : Fin 16 => rd (N := 524288) ((given m).B d) (128 * (1024 * b.val + r.val) + (8 * k.val + h.val)))
      = fun k => biases0 m d (ix3 b r (Ref.lane h k)) := funext fun k => rd_biases m d b r h k
  rw [f1, f2]; rfl

/-- The program's result is the reference's. -/
theorem result_eq (h : ∀ (d : Dev nD) j, (cols0 m d j).toNat < 1024) : result m d = Ref.out (cols0 m d) (biases0 m d) := by
  funext j
  obtain ⟨b, g, r, c, rfl⟩ : ∃ (b : Fin 4) (g : Fin 8) (r c : Fin 1024), j = ix4 b g r c := ⟨_, _, _, _, eq_ix4 _⟩
  rw [result_at, Ref.out_at _ _ _ _ (h d)]

end Cert.Proof.FillIdeal
-- ==== Proof.TcBody.lean ====
/-
  What the body of the TensorCore call leaves in its two staging buffers, as one function of its blocks: the sixteen
  unrolled rounds are one round applied sixteen times.
-/
module

public import proofs.«01_k».proof.Proof.Gen.TcKernelIdeal.Frame
public import Idealize.ShloMosaic.Lib.WholeRead
public import Idealize.ShloMosaic.Lib.PointwiseCore

@[expose] public section

set_option maxRecDepth 16384

noncomputable section

namespace Cert.Proof.Tc

open Cert.TcKernelIdeal Cert.TcKernelIdeal.Gen Idealize.ShloMosaic

variable {F : FTy → Type} [FloatOps F]

/-- The column numbers along a block's rows. -/
def cols : IVec S256x1024 32 := iota .tc S256x1024 32 [1] iota_S256x1024_d1_w32

/-- The distances after `k` rounds, each of which puts infinity in place of every row's nearest entry. -/
def acc (D : FVec F S256x1024 .f32) : ℕ → FVec F S256x1024 .f32
  | 0 => D
  | k + 1 => k0_pay8 (acc D k) cols

/-- Each row's nearest column in distances `A`. -/
def near (A : FVec F S256x1024 .f32) : IVec S256x1 32 := k0_pay6 A cols

/-- One where a row's nearest column is, zero elsewhere. -/
def hot (A : FVec F S256x1024 .f32) : FVec F S256x1024 .f32 :=
  sitofp .f32 (extui 32 (cmpi .eq cols (broadcastTo S256x1024 (near A) broadcasts_S256x1_S256x1024)) natLt_1_32)

/-- The difference between each row's point and its nearest. -/
def rel (P : FVec F S1024x9 .f32) (X : FVec F S256x3 .f32) (A : FVec F S256x1024 .f32) : FVec F S256x3 .f32 :=
  subf X (addf (addf
    (extractStridedSlice S256x3 ![0, 0] (matmul dot_S256x1024_S1024x9_S256x9_1_0_0_1_n_n none (hot A) P (constant S256x9 .f32 0x00000000#32)) slices_S256x9_o0_0_S256x3)
    (extractStridedSlice S256x3 ![0, 3] (matmul dot_S256x1024_S1024x9_S256x9_1_0_0_1_n_n none (hot A) P (constant S256x9 .f32 0x00000000#32)) slices_S256x9_o0_3_S256x3))
    (extractStridedSlice S256x3 ![0, 6] (matmul dot_S256x1024_S1024x9_S256x9_1_0_0_1_n_n none (hot A) P (constant S256x9 .f32 0x00000000#32)) slices_S256x9_o0_6_S256x3))

/-- The hidden layer on the differences. -/
def hidden (w1 : Vec F S3x64 .f32) (b1 : FVec F S1x64 .f32) (r : FVec F S256x3 .f32) : FVec F S256x64 .f32 :=
  maximumf (addf (addf (addf
      (mulf (broadcastTo S256x64 (extractStridedSlice S256x1 ![0, 0] r slices_S256x3_o0_0_S256x1) broadcasts_S256x1_S256x64)
        (broadcastTo S256x64 (extractStridedSlice S1x64 ![0, 0] w1 slices_S3x64_o0_0_S1x64) broadcasts_S1x64_S256x64))
      (mulf (broadcastTo S256x64 (extractStridedSlice S256x1 ![0, 1] r slices_S256x3_o0_1_S256x1) broadcasts_S256x1_S256x64)
        (broadcastTo S256x64 (extractStridedSlice S1x64 ![1, 0] w1 slices_S3x64_o1_0_S1x64) broadcasts_S1x64_S256x64)))
      (mulf (broadcastTo S256x64 (extractStridedSlice S256x1 ![0, 2] r slices_S256x3_o0_2_S256x1) broadcasts_S256x1_S256x64)
        (broadcastTo S256x64 (extractStridedSlice S1x64 ![2, 0] w1 slices_S3x64_o2_0_S1x64) broadcasts_S1x64_S256x64)))
      (broadcastTo S256x64 b1 broadcasts_S1x64_S256x64))
    (broadcast S256x64 (Scalar.ofBits .f32 0x00000000#32))

/-- The biases of each row's nearest column. -/
def lift (P : FVec F S1024x9 .f32) (X : FVec F S256x3 .f32) (w1 : Vec F S3x64 .f32) (b1 : FVec F S1x64 .f32) (w2 : Vec F S64x8 .f32)
    (b2 : FVec F S1x8 .f32) (A : FVec F S256x1024 .f32) : FVec F S256x8 .f32 :=
  addf (matmul dot_S256x64_S64x8_S256x8_1_0_0_1_n_n none (hidden w1 b1 (rel P X A)) w2 (constant S256x8 .f32 0x00000000#32))
    (broadcastTo S256x8 b2 broadcasts_S1x8_S256x8)

variable (c : Dev nD) (i : grid0.Coords) (arg2 : Memref sig .tc .vmem S1x3x1024 .f32) (harg2 : arg2.IsWhole) (arg3 : Memref sig .tc .vmem S1x1024x9 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S64x8 .f32) (harg6 : arg6.IsWhole) (arg7 : Memref sig .tc .vmem S1x8 .f32) (harg7 : arg7.IsWhole) (arg8 : Memref sig .tc .vmem S1x256x16 .i32) (harg8 : arg8.IsWhole) (arg9 : Memref sig .tc .vmem S1x256x128 .f32) (harg9 : arg9.IsWhole)
    (x0 : Vec F S1x3x1024 .f32) (x1 : Vec F S1x1024x9 .f32) (x2 : Vec F S3x64 .f32) (x3 : Vec F S1x64 .f32) (x4 : Vec F S64x8 .f32) (x5 : Vec F S1x8 .f32)

/-- The biases that round `k` stores: those of the nearest columns once `k` rounds have taken theirs. -/
def lifted (k : ℕ) : FVec F S256x8 .f32 :=
  lift (kernelRun0_A.sl.r c arg3 harg3 x1) (kernelRun0_A.sl.r_1 c i arg3 harg3 x1) (kernelRun0_A.sl.r_3 c arg4 harg4 x2)
    (kernelRun0_A.sl.r_4 c arg5 harg5 x3) (kernelRun0_A.sl.r_5 c arg6 harg6 x4) (kernelRun0_A.sl.r_6 c arg7 harg7 x5)
    (acc (kernelRun0_A.sl.r_2 c i arg2 harg2 arg3 harg3 x0 x1) k)

set_option maxHeartbeats 4000000 in
theorem pieces6 : (kernelRun0_A c i arg2 harg2 arg3 harg3 arg4 harg4 arg5 harg5 arg6 harg6 arg7 harg7 arg8 harg8 arg9 harg9 x0 x1 x2 x3 x4 x5).1 = [
  ⟨Rect.unit ![0, 0, 15] ![1, 256, 1] inb_S1x256x16_S1x256x1_0_0_15, shapeCast S1x256x1 (near (acc (kernelRun0_A.sl.r_2 c i arg2 harg2 arg3 harg3 x0 x1) 15)) shapeCasts_S256x1_S1x256x1⟩,
  ⟨Rect.unit ![0, 0, 14] ![1, 256, 1] inb_S1x256x16_S1x256x1_0_0_14, shapeCast S1x256x1 (near (acc (kernelRun0_A.sl.r_2 c i arg2 harg2 arg3 harg3 x0 x1) 14)) shapeCasts_S256x1_S1x256x1⟩,
  ⟨Rect.unit ![0, 0, 13] ![1, 256, 1] inb_S1x256x16_S1x256x1_0_0_13, shapeCast S1x256x1 (near (acc (kernelRun0_A.sl.r_2 c i arg2 harg2 arg3 harg3 x0 x1) 13)) shapeCasts_S256x1_S1x256x1⟩,
  ⟨Rect.unit ![0, 0, 12] ![1, 256, 1] inb_S1x256x16_S1x256x1_0_0_12, shapeCast S1x256x1 (near (acc (kernelRun0_A.sl.r_2 c i arg2 harg2 arg3 harg3 x0 x1) 12)) shapeCasts_S256x1_S1x256x1⟩,
  ⟨Rect.unit ![0, 0, 11] ![1, 256, 1] inb_S1x256x16_S1x256x1_0_0_11, shapeCast S1x256x1 (near (acc (kernelRun0_A.sl.r_2 c i arg2 harg2 arg3 harg3 x0 x1) 11)) shapeCasts_S256x1_S1x256x1⟩,
  ⟨Rect.unit ![0, 0, 10] ![1, 256, 1] inb_S1x256x16_S1x256x1_0_0_10, shapeCast S1x256x1 (near (acc (kernelRun0_A.sl.r_2 c i arg2 harg2 arg3 harg3 x0 x1) 10)) shapeCasts_S256x1_S1x256x1⟩,
  ⟨Rect.unit ![0, 0, 9] ![1, 256, 1] inb_S1x256x16_S1x256x1_0_0_9, shapeCast S1x256x1 (near (acc (kernelRun0_A.sl.r_2 c i arg2 harg2 arg3 harg3 x0 x1) 9)) shapeCasts_S256x1_S1x256x1⟩,
  ⟨Rect.unit ![0, 0, 8] ![1, 256, 1] inb_S1x256x16_S1x256x1_0_0_8, shapeCast S1x256x1 (near (acc (kernelRun0_A.sl.r_2 c i arg2 harg2 arg3 harg3 x0 x1) 8)) shapeCasts_S256x1_S1x256x1⟩,
  ⟨Rect.unit ![0, 0, 7] ![1, 256, 1] inb_S1x256x16_S1x256x1_0_0_7, shapeCast S1x256x1 (near (acc (kernelRun0_A.sl.r_2 c i arg2 harg2 arg3 harg3 x0 x1) 7)) shapeCasts_S256x1_S1x256x1⟩,
  ⟨Rect.unit ![0, 0, 6] ![1, 256, 1] inb_S1x256x16_S1x256x1_0_0_6, shapeCast S1x256x1 (near (acc (kernelRun0_A.sl.r_2 c i arg2 harg2 arg3 harg3 x0 x1) 6)) shapeCasts_S256x1_S1x256x1⟩,
  ⟨Rect.unit ![0, 0, 5] ![1, 256, 1] inb_S1x256x16_S1x256x1_0_0_5, shapeCast S1x256x1 (near (acc (kernelRun0_A.sl.r_2 c i arg2 harg2 arg3 harg3 x0 x1) 5)) shapeCasts_S256x1_S1x256x1⟩,
  ⟨Rect.unit ![0, 0, 4] ![1, 256, 1] inb_S1x256x16_S1x256x1_0_0_4, shapeCast S1x256x1 (near (acc (kernelRun0_A.sl.r_2 c i arg2 harg2 arg3 harg3 x0 x1) 4)) shapeCasts_S256x1_S1x256x1⟩,
  ⟨Rect.unit ![0, 0, 3] ![1, 256, 1] inb_S1x256x16_S1x256x1_0_0_3, shapeCast S1x256x1 (near (acc (kernelRun0_A.sl.r_2 c i arg2 harg2 arg3 harg3 x0 x1) 3)) shapeCasts_S256x1_S1x256x1⟩,
  ⟨Rect.unit ![0, 0, 2] ![1, 256, 1] inb_S1x256x16_S1x256x1_0_0_2, shapeCast S1x256x1 (near (acc (kernelRun0_A.sl.r_2 c i arg2 harg2 arg3 harg3 x0 x1) 2)) shapeCasts_S256x1_S1x256x1⟩,
  ⟨Rect.unit ![0, 0, 1] ![1, 256, 1] inb_S1x256x16_S1x256x1_0_0_1, shapeCast S1x256x1 (near (acc (kernelRun0_A.sl.r_2 c i arg2 harg2 arg3 harg3 x0 x1) 1)) shapeCasts_S256x1_S1x256x1⟩,
  ⟨Rect.unit ![0, 0, 0] ![1, 256, 1] inb_S1x256x16_S1x256x1_0_0_0, shapeCast S1x256x1 (near (acc (kernelRun0_A.sl.r_2 c i arg2 harg2 arg3 harg3 x0 x1) 0)) shapeCasts_S256x1_S1x256x1⟩] := rfl

set_option maxHeartbeats 4000000 in
theorem pieces7 : (kernelRun0_A c i arg2 harg2 arg3 harg3 arg4 harg4 arg5 harg5 arg6 harg6 arg7 harg7 arg8 harg8 arg9 harg9 x0 x1 x2 x3 x4 x5).2.1 = [
  ⟨Rect.unit ![0, 0, 120] ![1, 256, 8] inb_S1x256x128_S1x256x8_0_0_120, shapeCast S1x256x8 (lifted c i arg2 harg2 arg3 harg3 arg4 harg4 arg5 harg5 arg6 harg6 arg7 harg7 x0 x1 x2 x3 x4 x5 15) shapeCasts_S256x8_S1x256x8⟩,
  ⟨Rect.unit ![0, 0, 112] ![1, 256, 8] inb_S1x256x128_S1x256x8_0_0_112, shapeCast S1x256x8 (lifted c i arg2 harg2 arg3 harg3 arg4 harg4 arg5 harg5 arg6 harg6 arg7 harg7 x0 x1 x2 x3 x4 x5 14) shapeCasts_S256x8_S1x256x8⟩,
  ⟨Rect.unit ![0, 0, 104] ![1, 256, 8] inb_S1x256x128_S1x256x8_0_0_104, shapeCast S1x256x8 (lifted c i arg2 harg2 arg3 harg3 arg4 harg4 arg5 harg5 arg6 harg6 arg7 harg7 x0 x1 x2 x3 x4 x5 13) shapeCasts_S256x8_S1x256x8⟩,
  ⟨Rect.unit ![0, 0, 96] ![1, 256, 8] inb_S1x256x128_S1x256x8_0_0_96, shapeCast S1x256x8 (lifted c i arg2 harg2 arg3 harg3 arg4 harg4 arg5 harg5 arg6 harg6 arg7 harg7 x0 x1 x2 x3 x4 x5 12) shapeCasts_S256x8_S1x256x8⟩,
  ⟨Rect.unit ![0, 0, 88] ![1, 256, 8] inb_S1x256x128_S1x256x8_0_0_88, shapeCast S1x256x8 (lifted c i arg2 harg2 arg3 harg3 arg4 harg4 arg5 harg5 arg6 harg6 arg7 harg7 x0 x1 x2 x3 x4 x5 11) shapeCasts_S256x8_S1x256x8⟩,
  ⟨Rect.unit ![0, 0, 80] ![1, 256, 8] inb_S1x256x128_S1x256x8_0_0_80, shapeCast S1x256x8 (lifted c i arg2 harg2 arg3 harg3 arg4 harg4 arg5 harg5 arg6 harg6 arg7 harg7 x0 x1 x2 x3 x4 x5 10) shapeCasts_S256x8_S1x256x8⟩,
  ⟨Rect.unit ![0, 0, 72] ![1, 256, 8] inb_S1x256x128_S1x256x8_0_0_72, shapeCast S1x256x8 (lifted c i arg2 harg2 arg3 harg3 arg4 harg4 arg5 harg5 arg6 harg6 arg7 harg7 x0 x1 x2 x3 x4 x5 9) shapeCasts_S256x8_S1x256x8⟩,
  ⟨Rect.unit ![0, 0, 64] ![1, 256, 8] inb_S1x256x128_S1x256x8_0_0_64, shapeCast S1x256x8 (lifted c i arg2 harg2 arg3 harg3 arg4 harg4 arg5 harg5 arg6 harg6 arg7 harg7 x0 x1 x2 x3 x4 x5 8) shapeCasts_S256x8_S1x256x8⟩,
  ⟨Rect.unit ![0, 0, 56] ![1, 256, 8] inb_S1x256x128_S1x256x8_0_0_56, shapeCast S1x256x8 (lifted c i arg2 harg2 arg3 harg3 arg4 harg4 arg5 harg5 arg6 harg6 arg7 harg7 x0 x1 x2 x3 x4 x5 7) shapeCasts_S256x8_S1x256x8⟩,
  ⟨Rect.unit ![0, 0, 48] ![1, 256, 8] inb_S1x256x128_S1x256x8_0_0_48, shapeCast S1x256x8 (lifted c i arg2 harg2 arg3 harg3 arg4 harg4 arg5 harg5 arg6 harg6 arg7 harg7 x0 x1 x2 x3 x4 x5 6) shapeCasts_S256x8_S1x256x8⟩,
  ⟨Rect.unit ![0, 0, 40] ![1, 256, 8] inb_S1x256x128_S1x256x8_0_0_40, shapeCast S1x256x8 (lifted c i arg2 harg2 arg3 harg3 arg4 harg4 arg5 harg5 arg6 harg6 arg7 harg7 x0 x1 x2 x3 x4 x5 5) shapeCasts_S256x8_S1x256x8⟩,
  ⟨Rect.unit ![0, 0, 32] ![1, 256, 8] inb_S1x256x128_S1x256x8_0_0_32, shapeCast S1x256x8 (lifted c i arg2 harg2 arg3 harg3 arg4 harg4 arg5 harg5 arg6 harg6 arg7 harg7 x0 x1 x2 x3 x4 x5 4) shapeCasts_S256x8_S1x256x8⟩,
  ⟨Rect.unit ![0, 0, 24] ![1, 256, 8] inb_S1x256x128_S1x256x8_0_0_24, shapeCast S1x256x8 (lifted c i arg2 harg2 arg3 harg3 arg4 harg4 arg5 harg5 arg6 harg6 arg7 harg7 x0 x1 x2 x3 x4 x5 3) shapeCasts_S256x8_S1x256x8⟩,
  ⟨Rect.unit ![0, 0, 16] ![1, 256, 8] inb_S1x256x128_S1x256x8_0_0_16, shapeCast S1x256x8 (lifted c i arg2 harg2 arg3 harg3 arg4 harg4 arg5 harg5 arg6 harg6 arg7 harg7 x0 x1 x2 x3 x4 x5 2) shapeCasts_S256x8_S1x256x8⟩,
  ⟨Rect.unit ![0, 0, 8] ![1, 256, 8] inb_S1x256x128_S1x256x8_0_0_8, shapeCast S1x256x8 (lifted c i arg2 harg2 arg3 harg3 arg4 harg4 arg5 harg5 arg6 harg6 arg7 harg7 x0 x1 x2 x3 x4 x5 1) shapeCasts_S256x8_S1x256x8⟩,
  ⟨Rect.unit ![0, 0, 0] ![1, 256, 8] inb_S1x256x128_S1x256x8_0_0_0, shapeCast S1x256x8 (lifted c i arg2 harg2 arg3 harg3 arg4 harg4 arg5 harg5 arg6 harg6 arg7 harg7 x0 x1 x2 x3 x4 x5 0) shapeCasts_S256x8_S1x256x8⟩] := rfl

theorem inb6 (k : ℕ) (hk : k < 16) : ∀ a : Fin 3, (![0, 0, k] : Fin 3 → ℕ) a + (![1, 256, 1] : Fin 3 → ℕ) a ≤ S1x256x16.size a := by
  intro a
  match a with
  | 0 => exact Nat.le_refl _
  | 1 => exact Nat.le_refl _
  | 2 => exact hk

theorem inb7 (k : ℕ) (hk : k < 16) : ∀ a : Fin 3, (![0, 0, 8 * k] : Fin 3 → ℕ) a + (![1, 256, 8] : Fin 3 → ℕ) a ≤ S1x256x128.size a := by
  intro a
  match a with
  | 0 => exact Nat.le_refl _
  | 1 => exact Nat.le_refl _
  | 2 => show 8 * k + 8 ≤ 128; omega

/-- Column `k` of the index block, as round `k` stores it. -/
def column (N : ℕ → IVec S256x1 32) (k : ℕ) (hk : k < 16) : View.Piece (Elt F) S1x256x16 .i32 :=
  ⟨Rect.unit ![0, 0, k] ![1, 256, 1] (inb6 k hk), shapeCast S1x256x1 (N k) shapeCasts_S256x1_S1x256x1⟩

/-- Columns `8k` to `8k + 7` of the bias block, as round `k` stores them. -/
def columns (L : ℕ → FVec F S256x8 .f32) (k : ℕ) (hk : k < 16) : View.Piece (Elt F) S1x256x128 .f32 :=
  ⟨Rect.unit ![0, 0, 8 * k] ![1, 256, 8] (inb7 k hk), shapeCast S1x256x8 (L k) shapeCasts_S256x8_S1x256x8⟩

theorem mem_pieces6 (p) (hp : p ∈ (kernelRun0_A c i arg2 harg2 arg3 harg3 arg4 harg4 arg5 harg5 arg6 harg6 arg7 harg7 arg8 harg8 arg9 harg9 x0 x1 x2 x3 x4 x5).1) :
    ∃ k hk, p = column (fun k => near (acc (kernelRun0_A.sl.r_2 c i arg2 harg2 arg3 harg3 x0 x1) k)) k hk := by
  rw [pieces6] at hp
  simp only [List.mem_cons, List.not_mem_nil, or_false] at hp
  rcases hp with rfl | rfl | rfl | rfl | rfl | rfl | rfl | rfl | rfl | rfl | rfl | rfl | rfl | rfl | rfl | rfl
  · exact ⟨15, by decide, rfl⟩
  · exact ⟨14, by decide, rfl⟩
  · exact ⟨13, by decide, rfl⟩
  · exact ⟨12, by decide, rfl⟩
  · exact ⟨11, by decide, rfl⟩
  · exact ⟨10, by decide, rfl⟩
  · exact ⟨9, by decide, rfl⟩
  · exact ⟨8, by decide, rfl⟩
  · exact ⟨7, by decide, rfl⟩
  · exact ⟨6, by decide, rfl⟩
  · exact ⟨5, by decide, rfl⟩
  · exact ⟨4, by decide, rfl⟩
  · exact ⟨3, by decide, rfl⟩
  · exact ⟨2, by decide, rfl⟩
  · exact ⟨1, by decide, rfl⟩
  · exact ⟨0, by decide, rfl⟩

theorem mem_pieces7 (p) (hp : p ∈ (kernelRun0_A c i arg2 harg2 arg3 harg3 arg4 harg4 arg5 harg5 arg6 harg6 arg7 harg7 arg8 harg8 arg9 harg9 x0 x1 x2 x3 x4 x5).2.1) :
    ∃ k hk, p = columns (lifted c i arg2 harg2 arg3 harg3 arg4 harg4 arg5 harg5 arg6 harg6 arg7 harg7 x0 x1 x2 x3 x4 x5) k hk := by
  rw [pieces7] at hp
  simp only [List.mem_cons, List.not_mem_nil, or_false] at hp
  rcases hp with rfl | rfl | rfl | rfl | rfl | rfl | rfl | rfl | rfl | rfl | rfl | rfl | rfl | rfl | rfl | rfl
  · exact ⟨15, by decide, rfl⟩
  · exact ⟨14, by decide, rfl⟩
  · exact ⟨13, by decide, rfl⟩
  · exact ⟨12, by decide, rfl⟩
  · exact ⟨11, by decide, rfl⟩
  · exact ⟨10, by decide, rfl⟩
  · exact ⟨9, by decide, rfl⟩
  · exact ⟨8, by decide, rfl⟩
  · exact ⟨7, by decide, rfl⟩
  · exact ⟨6, by decide, rfl⟩
  · exact ⟨5, by decide, rfl⟩
  · exact ⟨4, by decide, rfl⟩
  · exact ⟨3, by decide, rfl⟩
  · exact ⟨2, by decide, rfl⟩
  · exact ⟨1, by decide, rfl⟩
  · exact ⟨0, by decide, rfl⟩

/-- A stored column, read at an index of the block it is stored in. -/
theorem column_at (N : ℕ → IVec S256x1 32) (k : ℕ) (hk : k < 16) (x : (column (F := F) N k hk).1.shape.Idx) :
    (column (F := F) N k hk).2 x = N ((column (F := F) N k hk).1.emb x (2 : Fin 3)).val (ix2 ((column (F := F) N k hk).1.emb x (1 : Fin 3)) 0) := by
  obtain ⟨u, r, w, rfl⟩ : ∃ (u : Fin 1) (r : Fin 256) (w : Fin 1), x = (ix3 u r w : S1x256x1.Idx) := ⟨_, _, _, eq_ix3 (n0 := 1) (n1 := 256) (n2 := 1) x⟩
  have e2 : ((column (F := F) N k hk).1.emb (ix3 u r w) (2 : Fin 3)).val = k := by
    show k + 1 * w.val = k
    omega
  have e1 : (column (F := F) N k hk).1.emb (ix3 u r w) (1 : Fin 3) = r := Fin.ext (by
    show 0 + 1 * r.val = r.val
    omega)
  rw [e2, e1]
  have hc : ∀ N : IVec S256x1 32, shapeCast S1x256x1 N shapeCasts_S256x1_S1x256x1 (ix3 u r w) = N (ix2 r 0) := fun N => by
    refine shapeCast_apply (s := S256x1) (t := S1x256x1) N shapeCasts_S256x1_S1x256x1 (ix3 u r w) (ix2 r 0) ?_
    rw [Shape.rowMajor_val_two, Shape.rowMajor_val_three]
    show r.val * 1 + 0 = (u.val * 256 + r.val) * 1 + w.val
    omega
  exact hc (N k)

/-- Stored columns of biases, read at an index of the block they are stored in. -/
theorem columns_at (L : ℕ → FVec F S256x8 .f32) (k : ℕ) (hk : k < 16) (x : (columns L k hk).1.shape.Idx) :
    (columns L k hk).2 x = L (((columns L k hk).1.emb x (2 : Fin 3)).val / 8)
      (ix2 ((columns L k hk).1.emb x (1 : Fin 3)) ⟨((columns L k hk).1.emb x (2 : Fin 3)).val % 8, Nat.mod_lt _ (by decide)⟩) := by
  obtain ⟨u, r, w, rfl⟩ : ∃ (u : Fin 1) (r : Fin 256) (w : Fin 8), x = (ix3 u r w : S1x256x8.Idx) := ⟨_, _, _, eq_ix3 (n0 := 1) (n1 := 256) (n2 := 8) x⟩
  have e2 : ((columns L k hk).1.emb (ix3 u r w) (2 : Fin 3)).val = 8 * k + w.val := by
    show 8 * k + 1 * w.val = 8 * k + w.val
    omega
  have e1 : (columns L k hk).1.emb (ix3 u r w) (1 : Fin 3) = r := Fin.ext (by
    show 0 + 1 * r.val = r.val
    omega)
  have e3 : (8 * k + w.val) / 8 = k := by omega
  have e4 : (⟨((columns L k hk).1.emb (ix3 u r w) (2 : Fin 3)).val % 8, Nat.mod_lt _ (by decide)⟩ : Fin 8) = w :=
    Fin.ext (by show _ % 8 = w.val; rw [e2]; omega)
  rw [e4, e2, e1, e3]
  refine shapeCast_apply (s := S256x8) (t := S1x256x8) (L k) shapeCasts_S256x8_S1x256x8 (ix3 u r w) (ix2 r w) ?_
  rw [Shape.rowMajor_val_two , Shape.rowMajor_val_three]
  show r.val * 8 + w.val = (u.val * 256 + r.val) * 8 + w.val
  omega

/-- The index block after the body: row `r`, place `k` is the column that round `k` takes in row `r`. -/
theorem out6 (y : S1x256x16.Idx) : out0_A_6 c i arg2 harg2 arg3 harg3 arg4 harg4 arg5 harg5 arg6 harg6 arg7 harg7 arg8 harg8 arg9 harg9 x0 x1 x2 x3 x4 x5 y
    = near (acc (kernelRun0_A.sl.r_2 c i arg2 harg2 arg3 harg3 x0 x1) (y (2 : Fin 3)).val) (ix2 (y (1 : Fin 3)) 0) := by
  unfold out0_A_6
  refine View.read_writes_apply_of_pieces VO0_6 _ (fun y : S1x256x16.Idx =>
    near (acc (kernelRun0_A.sl.r_2 c i arg2 harg2 arg3 harg3 x0 x1) (y (2 : Fin 3)).val) (ix2 (y (1 : Fin 3)) 0)) _ ?_ y
    (cover0_A_6 c i arg2 harg2 arg3 harg3 arg4 harg4 arg5 harg5 arg6 harg6 arg7 harg7 arg8 harg8 arg9 harg9 x0 x1 x2 x3 x4 x5 y)
  intro p hp
  obtain ⟨k, hk, rfl⟩ := mem_pieces6 c i arg2 harg2 arg3 harg3 arg4 harg4 arg5 harg5 arg6 harg6 arg7 harg7 arg8 harg8 arg9 harg9 x0 x1 x2 x3 x4 x5 p hp
  exact column_at (fun k => near (acc (kernelRun0_A.sl.r_2 c i arg2 harg2 arg3 harg3 x0 x1) k)) k hk

/-- The bias block after the body: row `r`, columns `8k` to `8k + 7` are the eight biases of the column that round `k` takes. -/
theorem out7 (y : S1x256x128.Idx) : out0_A_7 c i arg2 harg2 arg3 harg3 arg4 harg4 arg5 harg5 arg6 harg6 arg7 harg7 arg8 harg8 arg9 harg9 x0 x1 x2 x3 x4 x5 y
    = lifted c i arg2 harg2 arg3 harg3 arg4 harg4 arg5 harg5 arg6 harg6 arg7 harg7 x0 x1 x2 x3 x4 x5 ((y (2 : Fin 3)).val / 8) (ix2 (y (1 : Fin 3)) ⟨(y (2 : Fin 3)).val % 8, Nat.mod_lt _ (by decide)⟩) := by
  unfold out0_A_7
  refine View.read_writes_apply_of_pieces VO0_7 _ (fun y : S1x256x128.Idx =>
    lifted c i arg2 harg2 arg3 harg3 arg4 harg4 arg5 harg5 arg6 harg6 arg7 harg7 x0 x1 x2 x3 x4 x5 ((y (2 : Fin 3)).val / 8) (ix2 (y (1 : Fin 3)) ⟨(y (2 : Fin 3)).val % 8, Nat.mod_lt _ (by decide)⟩)) _ ?_ y
    (cover0_A_7 c i arg2 harg2 arg3 harg3 arg4 harg4 arg5 harg5 arg6 harg6 arg7 harg7 arg8 harg8 arg9 harg9 x0 x1 x2 x3 x4 x5 y)
  intro p hp
  obtain ⟨k, hk, rfl⟩ := mem_pieces7 c i arg2 harg2 arg3 harg3 arg4 harg4 arg5 harg5 arg6 harg6 arg7 harg7 arg8 harg8 arg9 harg9 x0 x1 x2 x3 x4 x5 p hp
  exact columns_at _ k hk

end Cert.Proof.Tc
-- ==== Proof.Nearest.lean ====
/-
  A row's nearest entries: what is left after rounds that each take the least entry, the first of equals, and put infinity
  in its place, against the first positions of the stable ascending sort of the row.
-/
module

public import Idealize.ShloMosaic.Lib.SortPrefix
public import Mathlib.Data.EReal.Basic
public import Mathlib.Data.Finset.Max

@[expose] public section

namespace Cert.Proof.Near

open Idealize.ShloMosaic

variable {n : ℕ}

/-! ## A stable sort's ties -/

/-- On a list whose positions ascend, the stable sort by a comparison of keys is the sort by the key and then the
    position: an element is only ever compared with later ones. -/
theorem stableSort_eq_lex (lt : Fin n → Fin n → Bool) (tie : Fin n → Fin n → Prop) [DecidableRel tie] (l : List (Fin n))
    (hl : l.Pairwise (· < ·)) :
    stableSort lt l = stableSort (fun a b => lt a b || (decide (tie a b) && decide (a < b))) l := by
  induction l with
  | nil => rfl
  | cons a l ih =>
    obtain ⟨ha, hl⟩ := List.pairwise_cons.mp hl
    unfold stableSort
    rw [ih hl]
    refine insertBefore_congr _ _ a _ fun b hb => ?_
    have hb' : a < b := ha b ((perm_stableSort _ l).mem_iff.mp hb)
    simp [hb'.le]

/-- So the position a stable sort of a whole row puts at a place is the one the sort by key and then position does. -/
theorem sortedFrom_eq_lex (lt : Fin n → Fin n → Bool) (tie : Fin n → Fin n → Prop) [DecidableRel tie] (k : Fin n) :
    sortedFrom lt k = sortedFrom (fun a b => lt a b || (decide (tie a b) && decide (a < b))) k := by
  unfold sortedFrom
  have e : sortPositions n lt = sortPositions n (fun a b => lt a b || (decide (tie a b) && decide (a < b))) :=
    stableSort_eq_lex lt tie _ (List.pairwise_lt_finRange n)
  simp only [List.get_eq_getElem, Fin.val_cast]
  congr 1

/-! ## Rounds -/

/-- A nonempty row has a least entry. -/
theorem exists_least [NeZero n] (r : Fin n → EReal) : (Finset.univ.filter fun j => ∀ i, r j ≤ r i).Nonempty := by
  obtain ⟨j, -, hj⟩ := Finset.exists_min_image (Finset.univ : Finset (Fin n)) r ⟨0, Finset.mem_univ _⟩
  exact ⟨j, by simpa using fun i => hj i (Finset.mem_univ i)⟩

/-- The first position of a row's least entry. -/
noncomputable def nearest [NeZero n] (r : Fin n → EReal) : Fin n :=
  (Finset.univ.filter fun j => ∀ i, r j ≤ r i).min' (exists_least r)

theorem nearest_le [NeZero n] (r : Fin n → EReal) (i : Fin n) : r (nearest r) ≤ r i :=
  (Finset.mem_filter.mp (Finset.min'_mem _ (exists_least r))).2 i

theorem nearest_lt [NeZero n] (r : Fin n → EReal) (i : Fin n) (h : i < nearest r) : r (nearest r) < r i := by
  by_contra hc
  have hi : i ∈ Finset.univ.filter fun j => ∀ i, r j ≤ r i :=
    Finset.mem_filter.mpr ⟨Finset.mem_univ _, fun i' => (not_lt.mp hc).trans (nearest_le r i')⟩
  exact absurd (Finset.min'_le _ i hi) (not_le.mpr h)

/-- The row after `k` rounds. -/
noncomputable def cleared [NeZero n] (A : Fin n → EReal) : ℕ → Fin n → EReal
  | 0 => A
  | k + 1 => fun j => if j = nearest (cleared A k) then ⊤ else cleared A k j

/-- The position that round `k` takes. -/
noncomputable def pick [NeZero n] (A : Fin n → EReal) (k : ℕ) : Fin n := nearest (cleared A k)

/-- An entry is infinity once its position is taken, and its own before. -/
theorem cleared_apply [NeZero n] (A : Fin n → EReal) (k : ℕ) (j : Fin n) :
    ((∃ i < k, pick A i = j) ∧ cleared A k j = ⊤) ∨ ((∀ i < k, pick A i ≠ j) ∧ cleared A k j = A j) := by
  induction k with
  | zero => exact Or.inr ⟨fun i h => absurd h (Nat.not_lt_zero i), rfl⟩
  | succ k ih =>
    by_cases e : j = nearest (cleared A k)
    · exact Or.inl ⟨⟨k, Nat.lt_succ_self k, e.symm⟩, by simp [cleared, e]⟩
    · have es : cleared A (k + 1) j = cleared A k j := by simp [cleared, e]
      rcases ih with ⟨⟨i, hi, h⟩, ht⟩ | ⟨h, ht⟩
      · exact Or.inl ⟨⟨i, by omega, h⟩, es.trans ht⟩
      · refine Or.inr ⟨fun i hi => ?_, es.trans ht⟩
        rcases Nat.lt_succ_iff_lt_or_eq.mp hi with hi | rfl
        · exact h i hi
        · exact fun h => e h.symm

/-- While fewer rounds have run than the row is long, some position is untaken. -/
theorem exists_free [NeZero n] (A : Fin n → EReal) (k : ℕ) (hk : k < n) : ∃ j, ∀ i < k, pick A i ≠ j := by
  classical
  by_contra hc
  push Not at hc
  have : (Finset.univ : Finset (Fin n)) ⊆ (Finset.range k).image (pick A) := fun j _ => by
    obtain ⟨i, hi, e⟩ := hc j
    exact Finset.mem_image.mpr ⟨i, Finset.mem_range.mpr hi, e⟩
  have h := (Finset.card_le_card this).trans Finset.card_image_le
  simp at h
  omega

/-- A round of a finite row takes an untaken position. -/
theorem pick_fresh [NeZero n] (A : Fin n → EReal) (hA : ∀ j, A j < ⊤) (k : ℕ) (hk : k < n) :
    ∀ i < k, pick A i ≠ pick A k := by
  obtain ⟨j, hj⟩ := exists_free A k hk
  have hlt : cleared A k (pick A k) < ⊤ := by
    refine lt_of_le_of_lt (nearest_le (cleared A k) j) ?_
    rcases cleared_apply A k j with ⟨⟨i, hi, e⟩, -⟩ | ⟨-, e⟩
    · exact absurd e (hj i hi)
    · rw [e]; exact hA j
  rcases cleared_apply A k (pick A k) with ⟨-, e⟩ | ⟨h, -⟩
  · rw [e] at hlt; exact absurd hlt (lt_irrefl _)
  · exact h

/-- Among untaken positions the one a round takes has the least entry, and of equal entries it comes first. -/
theorem pick_le [NeZero n] (A : Fin n → EReal) (hA : ∀ j, A j < ⊤) (k : ℕ) (hk : k < n) (p : Fin n)
    (hp : ∀ i < k, pick A i ≠ p) : A (pick A k) ≤ A p ∧ (A p = A (pick A k) → pick A k ≤ p) := by
  have e1 : cleared A k (pick A k) = A (pick A k) := by
    rcases cleared_apply A k (pick A k) with ⟨⟨i, hi, e⟩, -⟩ | ⟨-, e⟩
    · exact absurd e (pick_fresh A hA k hk i hi)
    · exact e
  have e2 : cleared A k p = A p := by
    rcases cleared_apply A k p with ⟨⟨i, hi, e⟩, -⟩ | ⟨-, e⟩
    · exact absurd e (hp i hi)
    · exact e
  refine ⟨?_, fun e => ?_⟩
  · have := nearest_le (cleared A k) p
    rw [e2] at this
    exact e1 ▸ this
  · by_contra hc
    have := nearest_lt (cleared A k) p (not_le.mp hc)
    rw [e2, e] at this
    exact absurd (e1 ▸ this) (lt_irrefl _)

/-- The rounds of a finite row take the first positions of its stable ascending sort, in order. -/
theorem sortedFrom_eq_pick [NeZero n] (A : Fin n → EReal) (hA : ∀ j, A j < ⊤) (lt : Fin n → Fin n → Bool)
    (hlt : ∀ a b, lt a b = decide (A a < A b)) (k : ℕ) (hk : k < n) : sortedFrom lt ⟨k, hk⟩ = pick A k := by
  obtain rfl : lt = fun a b => decide (A a < A b) := funext fun a => funext fun b => hlt a b
  rw [sortedFrom_eq_lex _ (fun a b => A a = A b)]
  have hB := StrictTotalBefore.of_key_then_position (n := n) (κ := EReal) (fun a b => decide (a < b)) A
    (by simp) (fun a b c h h' => by simp at h h' ⊢; exact h.trans h') (fun a b => by simpa using lt_trichotomy a b)
  have key : ∀ (i : ℕ) (hi : i < n) (p : Fin n), (∀ j < i, pick A j ≠ p) →
      (decide (A p < A (pick A i)) || (decide (A p = A (pick A i)) && decide (p < pick A i))) = false := by
    intro i hi p hp
    obtain ⟨h1, h2⟩ := pick_le A hA i hi p hp
    simp only [Bool.or_eq_false_iff, decide_eq_false_iff_not, not_lt, Bool.and_eq_false_iff]
    refine ⟨h1, ?_⟩
    by_cases e : A p = A (pick A i)
    · exact Or.inr (h2 e)
    · exact Or.inl e
  have h := hB.sortedFrom_eq_of_prefix (k := k + 1) hk (fun i : Fin (k + 1) => pick A i.val)
    (fun i j e => by
      rcases lt_trichotomy i j with h | h | h
      · exact absurd e (pick_fresh A hA j.val (by omega) i.val h)
      · exact h
      · exact absurd e.symm (pick_fresh A hA i.val (by omega) j.val h))
    (fun i j hij => key i.val (by omega) _ fun j' hj' =>
      pick_fresh A hA j.val (by omega) j' (lt_trans hj' hij))
    (fun i p hp => key i.val (by omega) p fun j hj => hp ⟨j, by omega⟩)
    ⟨k, Nat.lt_succ_self k⟩
  exact h

end Cert.Proof.Near
-- ==== Proof.TcRounds.lean ====
/-
  The rounds of the TensorCore call read row by row at the extended reals: a round's column is the first place of the
  row's least entry, and the next round's distances are this one's with infinity in that place.
-/
module

public import proofs.«01_k».proof.Proof.TcBody
public import proofs.«01_k».proof.Proof.Nearest
public import Idealize.ShloMosaic.Lib.Pointwise
public import Idealize.ShloMosaic.PureOps.Ideal.Laws

@[expose] public section

noncomputable section

namespace Cert.Proof.Tc

open Cert.TcKernelIdeal Cert.TcKernelIdeal.Gen Idealize.ShloMosaic
open Cert.Proof.Near

/-- Row `r` of a block of distances. -/
def rowOf (A : FVec Ideal S256x1024 .f32) (r : Fin 256) (j : Fin 1024) : EReal := A (ix2 r j)

theorem infinity : (Scalar.ofBits .f32 0x7F800000#32 : Ideal .f32) = (⊤ : EReal) := by
  show Ideal.ofBits .f32 0x7F800000#32 = ⊤
  simp [Ideal.ofBits, Ideal.ieee]

/-- The least of a row, folded from infinity, is the row at its nearest place. -/
theorem fold_min_row (f : Fin 1024 → EReal) : Finset.fold min (⊤ : EReal) f Finset.univ = f (nearest f) := by
  apply le_antisymm
  · exact Finset.fold_min_le _ |>.mpr (Or.inr ⟨nearest f, Finset.mem_univ _, le_refl _⟩)
  · exact Finset.le_fold_min _ |>.mpr ⟨le_top, fun i _ => nearest_le f i⟩

theorem toInt_minsi (x y : BitVec 32) : (IntOp.minsi x y).toInt = min x.toInt y.toInt := by
  unfold IntOp.minsi
  by_cases h : x.slt y
  · rw [if_pos h]
    have h' : x.toInt < y.toInt := by simpa [BitVec.slt] using h
    omega
  · rw [if_neg h]
    have h' : ¬ x.toInt < y.toInt := by simpa [BitVec.slt] using h
    omega

theorem toInt_fold_minsi (b : BitVec 32) (g : Fin 1024 → BitVec 32) :
    (Finset.fold IntOp.minsi b g Finset.univ).toInt = Finset.fold min b.toInt (fun x => (g x).toInt) Finset.univ :=
  (Finset.fold_hom (op := IntOp.minsi) (op' := min) (m := fun x : BitVec 32 => x.toInt) (fun x y => toInt_minsi x y)).symm

theorem toInt_small (n : ℕ) (h : n < 2147483648) : (BitVec.ofNat 32 n).toInt = n := by
  have e : (BitVec.ofNat 32 n).toNat = n := by
    rw [BitVec.toNat_ofNat]; exact Nat.mod_eq_of_lt (by omega)
  rw [BitVec.toInt_eq_toNat_of_lt (by rw [e]; omega), e]

/-- The least column number among the places of `S`, none of the others mattering, is the first of those places. -/
theorem fold_minsi_first (S : Fin 1024 → Prop) [DecidablePred S] (p : Fin 1024) (hp : S p) (hf : ∀ i, S i → p ≤ i) :
    Finset.fold IntOp.minsi (2147483647#32) (fun x : Fin 1024 => if S x then BitVec.ofNat 32 x.val else 1024#32) Finset.univ
      = BitVec.ofNat 32 p.val := by
  apply BitVec.eq_of_toInt_eq
  rw [toInt_fold_minsi, toInt_small p.val (by omega)]
  apply le_antisymm
  · refine Finset.fold_min_le _ |>.mpr (Or.inr ⟨p, Finset.mem_univ _, ?_⟩)
    rw [if_pos hp, toInt_small p.val (by omega)]
  · refine Finset.le_fold_min _ |>.mpr ⟨?_, fun i _ => ?_⟩
    · show _ ≤ (2147483647 : ℤ)
      omega
    · by_cases h : S i
      · rw [if_pos h, toInt_small i.val (by omega)]
        have := hf i h
        exact_mod_cast this
      · rw [if_neg h]
        show _ ≤ (1024 : ℤ)
        omega

/-- A round's column in a row is the first place of the row's least entry. -/
theorem near_at (A : FVec Ideal S256x1024 .f32) (r : Fin 256) :
    near A (ix2 r 0) = BitVec.ofNat 32 (nearest (rowOf A r)).val := by
  unfold near k0_pay6 cols
  pointwise
  have e : Finset.fold min (Ideal.ofBits FTy.f32 2139095040#32) (fun x => A (ix2 r x)) Finset.univ
      = rowOf A r (nearest (rowOf A r)) := by
    rw [← fold_min_row (rowOf A r)]
    have := infinity
    change Ideal.ofBits FTy.f32 2139095040#32 = ⊤ at this
    rw [this]
    rfl
  rw [e]
  exact fold_minsi_first (fun x => A (ix2 r x) = rowOf A r (nearest (rowOf A r))) (nearest (rowOf A r)) rfl fun i hi => by
    by_contra hc
    exact absurd hi (ne_of_gt (nearest_lt (rowOf A r) i (not_le.mp hc)))

theorem col_eq (j p : Fin 1024) : (BitVec.ofNat 32 j.val = BitVec.ofNat 32 p.val) ↔ j = p := by
  constructor
  · intro h
    have h' := congrArg BitVec.toInt h
    rw [toInt_small _ (by omega), toInt_small _ (by omega)] at h'
    exact Fin.ext (by exact_mod_cast h')
  · rintro rfl; rfl

/-- A round puts infinity in its column. -/
theorem acc_succ (D : FVec Ideal S256x1024 .f32) (r : Fin 256) (k : ℕ) (j : Fin 1024) :
    acc D (k + 1) (ix2 r j) = if j = nearest (rowOf (acc D k) r) then (⊤ : EReal) else acc D k (ix2 r j) := by
  have e : acc D (k + 1) = k0_pay8 (acc D k) cols := rfl
  rw [e]
  unfold k0_pay8 k0_pay7
  have e : k0_pay6 (acc D k) cols = near (acc D k) := rfl
  rw [e]
  unfold cols
  pointwise
  rw [near_at]
  have i := infinity
  change Ideal.ofBits FTy.f32 2139095040#32 = ⊤ at i
  rw [i]
  by_cases h : j = nearest (rowOf (acc D k) r)
  · rw [if_pos h, ← h]; simp [Scalar.select, IntOp.cmpi]
  · rw [if_neg h]
    have h' := mt (col_eq j _).mp h
    show (if BitVec.ofBool (_ == _) = 1#1 then _ else _) = _
    rw [beq_eq_false_iff_ne.mpr h']
    rfl

/-- So after `k` rounds a row is the row of distances with its `k` nearest places at infinity. -/
theorem rowOf_acc (D : FVec Ideal S256x1024 .f32) (r : Fin 256) (k : ℕ) : rowOf (acc D k) r = cleared (rowOf D r) k := by
  induction k with
  | zero => rfl
  | succ k ih =>
    funext j
    show acc D (k + 1) (ix2 r j) = _
    rw [acc_succ, ih, ← ih]
    simp only [cleared, ← ih]
    rfl

theorem near_acc (D : FVec Ideal S256x1024 .f32) (r : Fin 256) (k : ℕ) :
    near (acc D k) (ix2 r 0) = BitVec.ofNat 32 (pick (rowOf D r) k).val := by
  rw [near_at, rowOf_acc]; rfl

theorem one_of_one : (FloatOps.sitofp FTy.f32 (BitVec.setWidth 32 (BitVec.ofBool true)) : Ideal .f32) = (1 : EReal) := by
  show (((BitVec.setWidth 32 (BitVec.ofBool true)).toInt : ℝ) : EReal) = 1
  have e : (BitVec.setWidth 32 (BitVec.ofBool true)).toInt = 1 := by decide
  rw [e]
  norm_num

theorem zero_of_zero : (FloatOps.sitofp FTy.f32 (BitVec.setWidth 32 (BitVec.ofBool false)) : Ideal .f32) = (0 : EReal) := by
  show (((BitVec.setWidth 32 (BitVec.ofBool false)).toInt : ℝ) : EReal) = 0
  have e : (BitVec.setWidth 32 (BitVec.ofBool false)).toInt = 0 := by decide
  rw [e]
  norm_num

/-- The row of ones and zeros that selects the nearest place. -/
theorem hot_at (A : FVec Ideal S256x1024 .f32) (r : Fin 256) (j : Fin 1024) :
    hot A (ix2 r j) = if j = nearest (rowOf A r) then (1 : EReal) else 0 := by
  unfold hot cols
  pointwise
  rw [near_at]
  by_cases h : j = nearest (rowOf A r)
  · rw [if_pos h, ← h]
    show FloatOps.sitofp FTy.f32 (BitVec.setWidth 32 (BitVec.ofBool (_ == _))) = _
    rw [beq_self_eq_true]
    exact one_of_one
  · rw [if_neg h]
    have h' := mt (col_eq j _).mp h
    show FloatOps.sitofp FTy.f32 (BitVec.setWidth 32 (BitVec.ofBool (_ == _))) = _
    rw [beq_eq_false_iff_ne.mpr h']
    exact zero_of_zero

end Cert.Proof.Tc
-- ==== Proof.TcLift.lean ====
/-
  The perceptron of the TensorCore call's rounds at the extended reals, entry by entry.
-/
module

public import proofs.«01_k».proof.Proof.TcRounds

@[expose] public section

noncomputable section

namespace Cert.Proof.Tc

open Cert.TcKernelIdeal Cert.TcKernelIdeal.Gen Idealize.ShloMosaic
open Cert.Proof.Near

/-- The row of ones and zeros times the points is the nearest point's row. -/
theorem hot_mul (P : FVec Ideal S1024x9 .f32) (A : FVec Ideal S256x1024 .f32) (r : Fin 256) (q : Fin 9) :
    matmul dot_S256x1024_S1024x9_S256x9_1_0_0_1_n_n none (hot A) P (constant S256x9 .f32 0x00000000#32) (ix2 r q)
      = P (ix2 (nearest (rowOf A r)) q) := by
  pointwise
  simp only [hot_at]
  simp [ite_mul]

theorem rel_at (P : FVec Ideal S1024x9 .f32) (X : FVec Ideal S256x3 .f32) (A : FVec Ideal S256x1024 .f32) (r : Fin 256) (d : Fin 3) :
    (rel P X A (ix2 r d) : EReal) = (X (ix2 r d) : EReal)
      - ((P (ix2 (nearest (rowOf A r)) ⟨d.val, by omega⟩) : EReal) + P (ix2 (nearest (rowOf A r)) ⟨3 + d.val, by omega⟩)
          + P (ix2 (nearest (rowOf A r)) ⟨6 + d.val, by omega⟩)) := by
  unfold rel
  generalize hM : matmul dot_S256x1024_S1024x9_S256x9_1_0_0_1_n_n none (hot A) P (constant S256x9 .f32 0x00000000#32) = M
  pointwise
  subst hM
  rw [hot_mul, hot_mul, hot_mul]

theorem hidden_at (w1 : Vec Ideal S3x64 .f32) (b1 : FVec Ideal S1x64 .f32) (R : FVec Ideal S256x3 .f32) (r : Fin 256) (h : Fin 64) :
    (hidden w1 b1 R (ix2 r h) : EReal) =
      max ((R (ix2 r 0) : EReal) * w1 (ix2 0 h) + R (ix2 r 1) * w1 (ix2 1 h) + R (ix2 r 2) * w1 (ix2 2 h) + b1 (ix2 0 h)) 0 := by
  unfold hidden
  pointwise

theorem lift_at (P : FVec Ideal S1024x9 .f32) (X : FVec Ideal S256x3 .f32) (w1 : Vec Ideal S3x64 .f32) (b1 : FVec Ideal S1x64 .f32) (w2 : Vec Ideal S64x8 .f32)
    (b2 : FVec Ideal S1x8 .f32) (A : FVec Ideal S256x1024 .f32) (r : Fin 256) (q : Fin 8) :
    (lift P X w1 b1 w2 b2 A (ix2 r q) : EReal) =
      (∑ h : Fin 64, (hidden w1 b1 (rel P X A) (ix2 r h) : EReal) * w2 (ix2 h q)) + b2 (ix2 0 q) := by
  unfold lift
  pointwise

end Cert.Proof.Tc
-- ==== Proof.TcSpec.lean ====
/-
  What the TensorCore call computes: for every point of a cloud its sixteen nearest points, nearest first, and a perceptron
  of the differences to them.
-/
module

public import proofs.«01_k».proof.Proof.Nearest
public import Idealize.ShloMosaic.Lib.Pointwise

@[expose] public section

noncomputable section

namespace Cert.Proof.Tc

open Idealize.ShloMosaic
open Cert.Proof.Near

/-- The squared distance between points `i` and `j` of the cloud with coordinates `X`, as it is computed. -/
def dist (X : Fin 3 → Fin 1024 → EReal) (i j : Fin 1024) : EReal :=
  (∑ d, X d i * X d i) + (∑ d, X d j * X d j) - Ideal.ofBits .f32 0x40000000#32 * ∑ d, X d i * X d j

/-- The `k`-th nearest point to `i`. -/
def nbr (X : Fin 3 → Fin 1024 → EReal) (i : Fin 1024) (k : ℕ) : Fin 1024 := pick (dist X i) k

/-- The perceptron of the difference between point `i` and its `k`-th nearest. -/
def bias (X : Fin 3 → Fin 1024 → EReal) (W1 : Fin 3 → Fin 64 → EReal) (b1 : Fin 64 → EReal) (W2 : Fin 64 → Fin 8 → EReal)
    (b2 : Fin 8 → EReal) (i : Fin 1024) (k : ℕ) (q : Fin 8) : EReal :=
  (∑ h, max ((∑ d, (X d i - X d (nbr X i k)) * W1 d h) + b1 h) 0 * W2 h q) + b2 q

end Cert.Proof.Tc
-- ==== Proof.TcBlock.lean ====
/-
  One block of the TensorCore call at the extended reals: from points staged as `x` and as nine columns of which the last
  six are zero, the body's distances are the squared distances between points, and its biases the perceptron of the
  differences.
-/
module

public import proofs.«01_k».proof.Proof.TcLift
public import proofs.«01_k».proof.Proof.TcSpec
public import Idealize.ShloMosaic.Lib.Pipeline.ValueKit

@[expose] public section

set_option maxRecDepth 16384

noncomputable section

namespace Cert.Proof.Tc

open Cert.TcKernelIdeal Cert.TcKernelIdeal.Gen Idealize.ShloMosaic
open Cert.Proof.Near

/-! ## The rows that the body loads -/

theorem off1 (i : grid0.Coords) : k0_off1 i = ![0, 256 * (i 1).val, 0] := by
  have h : ∀ v : Fin 4, (Scalar.indexCast (Scalar.muli (BitVec.ofNat 32 v.val) 256#32) : Index).toNat = 256 * v.val := by decide
  unfold k0_off1
  show ![0, _, 0] = _
  rw [h (i 1)]

theorem off2 (i : grid0.Coords) : k0_off2 i = ![0, 256 * (i 1).val, 3] := by
  have h : ∀ v : Fin 4, (Scalar.indexCast (Scalar.muli (BitVec.ofNat 32 v.val) 256#32) : Index).toNat = 256 * v.val := by decide
  unfold k0_off2
  show ![0, _, 3] = _
  rw [h (i 1)]

theorem off3 (i : grid0.Coords) : k0_off3 i = ![0, 256 * (i 1).val, 6] := by
  have h : ∀ v : Fin 4, (Scalar.indexCast (Scalar.muli (BitVec.ofNat 32 v.val) 256#32) : Index).toNat = 256 * v.val := by decide
  unfold k0_off3
  show ![0, _, 6] = _
  rw [h (i 1)]

/-- The number of row `r` of the block at grid point `i`. -/
def place (i : grid0.Coords) (r : Fin 256) : Fin 1024 := ⟨256 * (i 1).val + r.val, by
  have : (i 1).val < 4 := (i 1).isLt
  omega⟩

variable (c : Dev nD) (i : grid0.Coords) (arg2 : Memref sig .tc .vmem S1x3x1024 .f32) (harg2 : arg2.IsWhole) (arg3 : Memref sig .tc .vmem S1x1024x9 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S64x8 .f32) (harg6 : arg6.IsWhole) (arg7 : Memref sig .tc .vmem S1x8 .f32) (harg7 : arg7.IsWhole)
    (x0 : Vec Ideal S1x3x1024 .f32) (x1 : Vec Ideal S1x1024x9 .f32) (x2 : Vec Ideal S3x64 .f32) (x3 : Vec Ideal S1x64 .f32) (x4 : Vec Ideal S64x8 .f32) (x5 : Vec Ideal S1x8 .f32)

theorem points_at (n : Fin 1024) (q : Fin 9) : kernelRun0_A.sl.r c arg3 harg3 x1 (ix2 n q) = x1 (ix3 0 n q) := by
  unfold kernelRun0_A.sl.r k0_pay1
  pointwise
  rw [harg3.readAt_unread]
  blk_ext [Rect.idx_unit_val]

theorem rows_at (r : Fin 256) (d : Fin 3) : (kernelRun0_A.sl.r_1 c i arg3 harg3 x1 (ix2 r d) : EReal)
    = (x1 (ix3 0 (place i r) ⟨d.val, by omega⟩) : EReal) + x1 (ix3 0 (place i r) ⟨3 + d.val, by omega⟩)
      + x1 (ix3 0 (place i r) ⟨6 + d.val, by omega⟩) := by
  unfold kernelRun0_A.sl.r_1 k0_pay2
  pointwise
  rw [harg3.readAt_unread, harg3.readAt_unread, harg3.readAt_unread]
  have e1 := off1 i
  have e2 := off2 i
  have e3 := off3 i
  congr 1
  · congr 1
    · congr 1
      blk_ext [Rect.idx_unit_val, off1, place]
    · congr 1
      blk_ext [Rect.idx_unit_val, off2, place]
  · congr 1
    blk_ext [Rect.idx_unit_val, off3, place]

/-- The loads of whole blocks. -/
theorem weights1_at (d : Fin 3) (h : Fin 64) : kernelRun0_A.sl.r_3 c arg4 harg4 x2 (ix2 d h) = x2 (ix2 d h) := by
  unfold kernelRun0_A.sl.r_3
  rw [harg4.readAt_unread]
  blk_ext [Rect.idx_unit_val]

theorem biases1_at (h : Fin 64) : kernelRun0_A.sl.r_4 c arg5 harg5 x3 (ix2 0 h) = x3 (ix2 0 h) := by
  unfold kernelRun0_A.sl.r_4 k0_pay4
  pointwise
  rw [harg5.readAt_unread]
  blk_ext [Rect.idx_unit_val]

theorem weights2_at (h : Fin 64) (q : Fin 8) : kernelRun0_A.sl.r_5 c arg6 harg6 x4 (ix2 h q) = x4 (ix2 h q) := by
  unfold kernelRun0_A.sl.r_5
  rw [harg6.readAt_unread]
  blk_ext [Rect.idx_unit_val]

theorem biases2_at (q : Fin 8) : kernelRun0_A.sl.r_6 c arg7 harg7 x5 (ix2 0 q) = x5 (ix2 0 q) := by
  unfold kernelRun0_A.sl.r_6 k0_pay5
  pointwise
  rw [harg7.readAt_unread]
  blk_ext [Rect.idx_unit_val]

/-! ## The block's distances and biases -/

variable (X : Fin 3 → Fin 1024 → EReal)
  (h0 : ∀ d n, x0 (ix3 0 d n) = X d n)
  (h1 : ∀ n (d : Fin 3), x1 (ix3 0 n ⟨d.val, by omega⟩) = X d n)
  (h2 : ∀ n (d : Fin 3), x1 (ix3 0 n ⟨3 + d.val, by omega⟩) = (0 : EReal))
  (h3 : ∀ n (d : Fin 3), x1 (ix3 0 n ⟨6 + d.val, by omega⟩) = (0 : EReal))

include h1 h2 h3 in
theorem rows_eq (r : Fin 256) (d : Fin 3) : kernelRun0_A.sl.r_1 c i arg3 harg3 x1 (ix2 r d) = X d (place i r) := by
  rw [rows_at, h1, h2, h3, add_zero, add_zero]

include h0 h1 h2 h3 in
theorem dists_at (r : Fin 256) (j : Fin 1024) : kernelRun0_A.sl.r_2 c i arg2 harg2 arg3 harg3 x0 x1 (ix2 r j) = dist X (place i r) j := by
  have hr := rows_eq c i arg3 harg3 x1 X h1 h2 h3
  unfold kernelRun0_A.sl.r_1 at hr
  unfold kernelRun0_A.sl.r_2 k0_pay3
  revert hr
  generalize k0_pay2 (F := Ideal) _ _ _ = R
  intro hr
  pointwise
  simp only [harg2.readAt_unread]
  have e : ∀ d n, (Rect.unit ![0, 0, 0] ![1, 3, 1024] inb_S1x3x1024_S1x3x1024_0_0_0).toLoadRect.idx (ix3 0 d n) = ix3 0 d n := by
    intro d n
    blk_ext [Rect.idx_unit_val]
  simp only [e, h0, hr]
  unfold dist
  rw [Fin.sum_univ_three (fun d => X d j * X d j)]

include h0 h1 h2 h3 in
theorem rowOf_dists (r : Fin 256) : rowOf (kernelRun0_A.sl.r_2 c i arg2 harg2 arg3 harg3 x0 x1) r = dist X (place i r) :=
  funext fun j => dists_at c i arg2 harg2 arg3 harg3 x0 x1 X h0 h1 h2 h3 r j

include h0 h1 h2 h3 in
theorem near_block (r : Fin 256) (k : ℕ) :
    near (acc (kernelRun0_A.sl.r_2 c i arg2 harg2 arg3 harg3 x0 x1) k) (ix2 r 0) = BitVec.ofNat 32 (nbr X (place i r) k).val := by
  rw [near_acc, rowOf_dists c i arg2 harg2 arg3 harg3 x0 x1 X h0 h1 h2 h3]
  rfl

include h0 h1 h2 h3 in
theorem lifted_block (r : Fin 256) (k : ℕ) (q : Fin 8) :
    (lifted c i arg2 harg2 arg3 harg3 arg4 harg4 arg5 harg5 arg6 harg6 arg7 harg7 x0 x1 x2 x3 x4 x5 k (ix2 r q) : EReal)
      = bias X (fun d h => x2 (ix2 d h)) (fun h => x3 (ix2 0 h)) (fun h q => x4 (ix2 h q)) (fun q => x5 (ix2 0 q)) (place i r) k q := by
  unfold lifted bias
  rw [lift_at, biases2_at]
  congr 1
  refine Finset.sum_congr rfl fun h _ => ?_
  rw [weights2_at, hidden_at]
  congr 2
  have hn : nearest (rowOf (acc (kernelRun0_A.sl.r_2 c i arg2 harg2 arg3 harg3 x0 x1) k) r) = nbr X (place i r) k := by
    rw [rowOf_acc, rowOf_dists c i arg2 harg2 arg3 harg3 x0 x1 X h0 h1 h2 h3]
    rfl
  have hrel : ∀ d : Fin 3, (rel (kernelRun0_A.sl.r c arg3 harg3 x1) (kernelRun0_A.sl.r_1 c i arg3 harg3 x1)
      (acc (kernelRun0_A.sl.r_2 c i arg2 harg2 arg3 harg3 x0 x1) k) (ix2 r d) : EReal) = X d (place i r) - X d (nbr X (place i r) k) := by
    intro d
    rw [rel_at, hn, rows_eq c i arg3 harg3 x1 X h1 h2 h3, points_at, points_at, points_at, h1, h2, h3, add_zero, add_zero]
  rw [hrel, hrel, hrel, weights1_at, weights1_at, weights1_at, biases1_at, Fin.sum_univ_three]

end Cert.Proof.Tc
-- ==== Proof.TcArrays.lean ====
/-
  The arrays that the TensorCore call leaves at the extended reals, as functions of the arguments: the nearest points and
  the perceptron of the differences to them.
-/
module

public import proofs.«01_k».proof.Proof.TcBlock
public import proofs.«01_k».proof.Proof.Gen.TcKernelIdeal.Value
public import Idealize.ShloMosaic.Lib.Claim
public import Idealize.ShloMosaic.Lib.StableHlo.ReadAt

@[expose] public section

set_option maxRecDepth 16384

noncomputable section

namespace Cert.Proof.Tc

open Cert.TcKernelIdeal Cert.TcKernelIdeal.Gen Idealize.ShloMosaic Idealize.ShloMosaic.TcCoe
open Cert.Proof.Near

variable (m : (ℓ : Loc nD τ sig) → Buf (Elt Ideal) ℓ) (c : Dev nD)

/-- The coordinates of cloud `b`. -/
def cloud (b : Fin 4) (d : Fin 3) (n : Fin 1024) : EReal := m ((c.tc : Thread nD τ).loc main_arg0) (ix3 b d n)

theorem index0 : ∀ t : Fin cfg0.N, win0_0.index t = ![(grid0.coords t 0).val, 0, 0] :=
  (by decide +kernel : ∀ t : Fin grid0.N, win0_0.index t = ![(grid0.coords t 0).val, 0, 0])
theorem index1 : ∀ t : Fin cfg0.N, win0_1.index t = ![(grid0.coords t 0).val, 0, 0] :=
  (by decide +kernel : ∀ t : Fin grid0.N, win0_1.index t = ![(grid0.coords t 0).val, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])
theorem index7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])

theorem blk0 (t : Fin cfg0.N) (d : Fin 3) (n : Fin 1024) : iblk m c 0 t (ix3 0 d n) = cloud m c (grid0.coords t 0) d n := by
  unfold cloud
  blk_ext [iblk, V_main_arg0, index0 t]

theorem blk1 (t : Fin cfg0.N) (n : Fin 1024) (q : Fin 9) :
    iblk m c 1 t (ix3 0 n q) = V m c main_v7 (ix3 (grid0.coords t 0) n q) := by
  blk_ext [iblk, index1 t]

/-- Three arrays of three columns side by side. -/
def beside (x y z : FVec Ideal S4x1024x3 .f32) : FVec Ideal S4x1024x9 .f32 :=
  concatenate S4x1024x9 2 [⟨S4x1024x3, x⟩, ⟨S4x1024x3, y⟩, ⟨S4x1024x3, z⟩] concatenates_S4x1024x3_S4x1024x3_S4x1024x3_S4x1024x9_d2

theorem columns_eq : V m c main_v7 = beside (V m c main_v2) (V m c main_v5) (V m c main_v6) := by
  have k2 : StableHlo.upto hostOps0 (fun b => m (c, b)) 7 (Proc.devRef .tc main_v2) = V m c main_v2 :=
    (StableHlo.upto_last_write (i := 2) [main_v3, main_v4, main_v5, main_v6] rfl rfl (by decide) _).trans
      (StableHlo.after_last_write (i := 2) [main_v3, main_v4, main_v5, main_v6, main_v7, main_v8, main_v9] rfl rfl (by decide) _).symm
  have k5 : StableHlo.upto hostOps0 (fun b => m (c, b)) 7 (Proc.devRef .tc main_v5) = V m c main_v5 :=
    (StableHlo.upto_last_write (i := 5) [main_v6] rfl rfl (by decide) _).trans
      (StableHlo.after_last_write (i := 5) [main_v6, main_v7, main_v8, main_v9] rfl rfl (by decide) _).symm
  have k6 : StableHlo.upto hostOps0 (fun b => m (c, b)) 7 (Proc.devRef .tc main_v6) = V m c main_v6 :=
    (StableHlo.upto_last_write (i := 6) [] rfl rfl (by decide) _).trans
      (StableHlo.after_last_write (i := 6) [main_v7, main_v8, main_v9] rfl rfl (by decide) _).symm
  refine (StableHlo.after_last_write (i := 7) [main_v8, main_v9] rfl rfl (by decide) _).trans ?_
  refine (StableHlo.nary_result ..).trans ?_
  show beside (StableHlo.upto hostOps0 (fun b => m (c, b)) 7 (Proc.devRef .tc main_v2))
    (StableHlo.upto hostOps0 (fun b => m (c, b)) 7 (Proc.devRef .tc main_v5))
    (StableHlo.upto hostOps0 (fun b => m (c, b)) 7 (Proc.devRef .tc main_v6)) = _
  rw [k2, k5, k6]

theorem beside_at (x y z : FVec Ideal S4x1024x3 .f32) (b : Fin 4) (n : Fin 1024) (d : Fin 3) :
    beside x y z (ix3 b n ⟨d.val, by omega⟩) = x (ix3 b n d) ∧ beside x y z (ix3 b n ⟨3 + d.val, by omega⟩) = y (ix3 b n d)
      ∧ beside x y z (ix3 b n ⟨6 + d.val, by omega⟩) = z (ix3 b n d) := by
  unfold beside
  refine ⟨?_, ?_, ?_⟩
  · pointwise
  · pointwise
  · pointwise
    rw [dif_neg (by omega), dif_neg (by omega)]
    blk_ext

theorem high_at (b : Fin 4) (n : Fin 1024) (d : Fin 3) : (V m c main_v2 (ix3 b n d) : EReal) = cloud m c b d n := by
  unfold V
  after_reads_at
  rfl

theorem middle_at (b : Fin 4) (n : Fin 1024) (d : Fin 3) : (V m c main_v5 (ix3 b n d) : EReal) = cloud m c b d n - cloud m c b d n := by
  unfold V
  after_reads_at
  rfl

theorem low_at (b : Fin 4) (n : Fin 1024) (d : Fin 3) : (V m c main_v6 (ix3 b n d) : EReal)
    = (cloud m c b d n - cloud m c b d n) - (cloud m c b d n - cloud m c b d n) := by
  unfold V
  after_reads_at
  rfl

theorem blk2 (t : Fin cfg0.N) (d : Fin 3) (h : Fin 64) : iblk m c 2 t (ix2 d h) = m ((c.tc : Thread nD τ).loc main_arg1) (ix2 d h) := by
  blk_ext [iblk, V_main_arg1, index2 t]
theorem blk3 (t : Fin cfg0.N) (h : Fin 64) : iblk m c 3 t (ix2 0 h) = m ((c.tc : Thread nD τ).loc main_arg2) (ix1 h) := by
  blk_ext! [iblk, index3 t]
theorem blk4 (t : Fin cfg0.N) (h : Fin 64) (q : Fin 8) : iblk m c 4 t (ix2 h q) = m ((c.tc : Thread nD τ).loc main_arg3) (ix2 h q) := by
  blk_ext [iblk, V_main_arg3, index4 t]
theorem blk5 (t : Fin cfg0.N) (q : Fin 8) : iblk m c 5 t (ix2 0 q) = m ((c.tc : Thread nD τ).loc main_arg4) (ix1 q) := by
  blk_ext! [iblk, index5 t]

/-! ## The arrays after the run -/

variable (hX : ∀ b d n, cloud m c b d n ≠ ⊤ ∧ cloud m c b d n ≠ ⊥)

include hX in
/-- The nine columns of finite points: the coordinates themselves, then zeros. -/
theorem nine_at (t : Fin cfg0.N) (n : Fin 1024) (d : Fin 3) :
    iblk m c 1 t (ix3 0 n ⟨d.val, by omega⟩) = cloud m c (grid0.coords t 0) d n
      ∧ iblk m c 1 t (ix3 0 n ⟨3 + d.val, by omega⟩) = (0 : EReal) ∧ iblk m c 1 t (ix3 0 n ⟨6 + d.val, by omega⟩) = (0 : EReal) := by
  obtain ⟨e1, e2, e3⟩ := beside_at (V m c main_v2) (V m c main_v5) (V m c main_v6) (grid0.coords t 0) n d
  have h0 : cloud m c (grid0.coords t 0) d n - cloud m c (grid0.coords t 0) d n = 0 :=
    EReal.sub_self (hX _ _ _).1 (hX _ _ _).2
  refine ⟨?_, ?_, ?_⟩
  · rw [blk1, columns_eq, e1]
    exact high_at m c _ n d
  · rw [blk1, columns_eq, e2]
    exact (middle_at m c _ n d).trans h0
  · rw [blk1, columns_eq, e3]
    refine (low_at m c _ n d).trans ?_
    rw [h0, sub_zero]

/-- The nearest points, one array entry each. -/
def nearest6 (y : S4x1024x16.Idx) : BitVec 32 := BitVec.ofNat 32 (nbr (cloud m c (y (0 : Fin 3))) (y (1 : Fin 3)) (y (2 : Fin 3)).val).val

/-- The biases, eight array entries for each nearest point. -/
def bias7 (y : S4x1024x128.Idx) : EReal :=
  bias (cloud m c (y (0 : Fin 3))) (fun d h => m ((c.tc : Thread nD τ).loc main_arg1) (ix2 d h)) (fun h => m ((c.tc : Thread nD τ).loc main_arg2) (ix1 h))
    (fun h q => m ((c.tc : Thread nD τ).loc main_arg3) (ix2 h q)) (fun q => m ((c.tc : Thread nD τ).loc main_arg4) (ix1 q))
    (y (1 : Fin 3)) ((y (2 : Fin 3)).val / 8) ⟨(y (2 : Fin 3)).val % 8, Nat.mod_lt _ (by decide)⟩

theorem place6 (t : Fin cfg0.N) (y : S1x256x16.Idx) : ((win0_6.blk t).view.emb y : S4x1024x16.Idx)
    = ix3 (grid0.coords t 0) (place (grid0.coords t) (y (1 : Fin 3))) (y (2 : Fin 3)) := by
  blk_ext [index6 t, place]

theorem place7 (t : Fin cfg0.N) (y : S1x256x128.Idx) : ((win0_7.blk t).view.emb y : S4x1024x128.Idx)
    = ix3 (grid0.coords t 0) (place (grid0.coords t) (y (1 : Fin 3))) (y (2 : Fin 3)) := by
  blk_ext [index7 t, place]

set_option maxHeartbeats 4000000 in
include hX in
/-- The first array after the run holds the nearest points. -/
theorem array6 : (dats m 0 c).arrAt 6 cfg0.N = nearest6 m c := by
  refine (dats m 0 c).arrAt_eq_of_covers 6 _ (by decide +kernel) fun t hf y => ?_
  blk_simp
  rw [after0_6]
  unfold outsAt0
  refine (out6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) y).trans ?_
  refine (near_block c _ _ _ _ _ _ _ (cloud m c (grid0.coords t 0)) (blk0 m c t) (fun n d => (nine_at m c hX t n d).1)
    (fun n d => (nine_at m c hX t n d).2.1) (fun n d => (nine_at m c hX t n d).2.2) (y (1 : Fin 3)) (y (2 : Fin 3)).val).trans ?_
  rw [place6 t y]
  rfl

set_option maxHeartbeats 4000000 in
include hX in
/-- The second array after the run holds the biases. -/
theorem array7 : (dats m 0 c).arrAt 7 cfg0.N = bias7 m c := by
  refine (dats m 0 c).arrAt_eq_of_covers 7 _ (by decide +kernel) fun t hf y => ?_
  blk_simp
  rw [after0_7]
  unfold outsAt0
  refine (out7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) y).trans ?_
  refine (lifted_block c _ _ _ _ _ _ _ _ _ _ _ _ _ _ _ _ _ _ _ (cloud m c (grid0.coords t 0)) (blk0 m c t) (fun n d => (nine_at m c hX t n d).1)
    (fun n d => (nine_at m c hX t n d).2.1) (fun n d => (nine_at m c hX t n d).2.2) (y (1 : Fin 3)) ((y (2 : Fin 3)).val / 8)
    ⟨(y (2 : Fin 3)).val % 8, Nat.mod_lt _ (by decide)⟩).trans ?_
  rw [place7 t y]
  simp only [blk2, blk3, blk4, blk5]
  rfl

end Cert.Proof.Tc
-- ==== Proof.TcFound.lean ====
/-
  The reference's distances and the indices that its top-k takes of them, read at one entry.
-/
module

public import proofs.«01_k».proof.Proof.TcSpec
public import proofs.«01_k».proof.Proof.Gen.TcReferenceIdeal.Run
public import Idealize.ShloMosaic.Lib.Pointwise

@[expose] public section

set_option maxRecDepth 16384

noncomputable section

namespace Cert.Proof.TcRef

open Cert.TcReferenceIdeal Cert.TcReferenceIdeal.Gen Idealize.ShloMosaic
open Cert.Proof.Near
open Cert.Proof

variable (P : FVec Ideal S4x3x1024 .f32)

/-- The points, one row each. -/
def points : FVec Ideal S4x1024x3 .f32 := transpose S4x1024x3 [0, 2, 1] P transposes_S4x3x1024_S4x1024x3_0_2_1

/-- The points' squared lengths. -/
def squares : FVec Ideal S4x1024 .f32 :=
  Host.reduceAdd (mulf (points P) (points P)) (constant S_ .f32 0x00000000#32) reducesTo_S4x1024x3_S4x1024_d2 h_S_

/-- The squared distances between the points of each cloud. -/
def far : FVec Ideal S4x1024x1024 .f32 :=
  subf (addf (broadcastInDim S4x1024x1024 ![0, 1, 2] bcast_S4x1024x1_S4x1024x1024_0_1_2 (broadcastInDim S4x1024x1 ![0, 1] bcast_S4x1024_S4x1024x1_0_1 (squares P)))
      (broadcastInDim S4x1024x1024 ![0, 1, 2] bcast_S4x1x1024_S4x1024x1024_0_1_2 (broadcastInDim S4x1x1024 ![0, 2] bcast_S4x1024_S4x1x1024_0_2 (squares P))))
    (mulf (broadcastInDim S4x1024x1024 ![] bcast_S_S4x1024x1024 (constant S_ .f32 0x40000000#32))
      (Host.dotGeneral dot_S4x1024x3_S4x1024x3_S4x1024x1024_2_2_1_1_0_0 none (points P) (points P)))

/-- The indices of the sixteen greatest negated distances. -/
def found : IVec S4x1024x16 32 :=
  (Host.topK S4x1024x16 2 (FloatOps.cmpfTotal .gt) (Host.negf (far P)) sliceFits_S4x1024x1024_S4x1024x16).2

variable (b : Fin 4)

/-- The coordinates of cloud `b`. -/
def cloudOf (d : Fin 3) (n : Fin 1024) : EReal := P (ix3 b d n)

theorem points_at (n : Fin 1024) (d : Fin 3) : points P (ix3 b n d) = cloudOf P b d n := by
  unfold points cloudOf
  pointwise

theorem squares_at (n : Fin 1024) : squares P (ix2 b n) = ∑ d, cloudOf P b d n * cloudOf P b d n := by
  unfold squares
  pointwise
  simp only [points_at]

theorem dots_at (i j : Fin 1024) : Host.dotGeneral dot_S4x1024x3_S4x1024x3_S4x1024x1024_2_2_1_1_0_0 none (points P) (points P) (ix3 b i j)
    = ∑ d, cloudOf P b d i * cloudOf P b d j := by
  pointwise
  simp only [points_at]

theorem far_at (i j : Fin 1024) : far P (ix3 b i j) = Tc.dist (cloudOf P b) i j := by
  unfold far Tc.dist
  rw [← dots_at P b i j, ← squares_at P b i, ← squares_at P b j]
  generalize hs : squares P = s
  generalize hd : Host.dotGeneral dot_S4x1024x3_S4x1024x3_S4x1024x1024_2_2_1_1_0_0 none (points P) (points P) = D
  pointwise

/-- Between real points, the squared distance is finite. -/
theorem dist_lt_top (X : Fin 3 → Fin 1024 → EReal) (hX : ∀ d n, X d n ≠ ⊤ ∧ X d n ≠ ⊥) (i j : Fin 1024) : Tc.dist X i j < ⊤ := by
  have e : ∀ d n, X d n = ((X d n).toReal : EReal) := fun d n => (EReal.coe_toReal (hX d n).1 (hX d n).2).symm
  have two : Ideal.ofBits .f32 0x40000000#32 = ((2 : ℝ) : EReal) := by
    simp [Ideal.ofBits, Ideal.ieee]
    rw [← EReal.coe_mul]
    norm_num
  unfold Tc.dist
  rw [Fin.sum_univ_three, Fin.sum_univ_three, Fin.sum_univ_three, e 0 i, e 1 i, e 2 i, e 0 j, e 1 j, e 2 j, two]
  norm_cast
  exact EReal.coe_lt_top _

theorem along_at (i x q : Fin 1024) : (ix3 b i x : S4x1024x1024.Idx).along 2 q = ix3 b i q := by
  funext a
  match a with | ⟨0, _⟩ => rfl | ⟨1, _⟩ => rfl | ⟨2, _⟩ => rfl

/-- The top-k's `k`-th index is the `k`-th nearest point's. -/
theorem found_at (hX : ∀ d n, cloudOf P b d n ≠ ⊤ ∧ cloudOf P b d n ≠ ⊥) (i : Fin 1024) (k : Fin 16) :
    found P (ix3 b i k) = BitVec.ofNat 32 (Tc.nbr (cloudOf P b) i k.val).val := by
  unfold found Host.topK Host.sort2 Tc.nbr
  generalize hf : Host.negf (far P) = N
  have hk : k.val < 1024 := by omega
  have hN : ∀ j, N (ix3 b i j) = -Tc.dist (cloudOf P b) i j := fun j => by rw [← hf, ← far_at]; rfl
  rw [← sortedFrom_eq_pick (Tc.dist (cloudOf P b) i) (fun j => dist_lt_top _ hX i j) (fun p q => decide (Tc.dist (cloudOf P b) i p < Tc.dist (cloudOf P b) i q)) (fun _ _ => rfl) k.val hk]
  dsimp only
  simp only [dif_pos (show 2 < S4x1024x1024.rank by decide)]
  pointwise
  simp only [along_at, hN]
  have hs : ∀ p q : Fin 1024, (FloatOps.cmpfTotal (F := Ideal) (φ := .f32) CmpDirection.gt (-Tc.dist (cloudOf P b) i p) (-Tc.dist (cloudOf P b) i q) == 1#1)
      = decide (Tc.dist (cloudOf P b) i p < Tc.dist (cloudOf P b) i q) := by
    intro p q
    rw [Ideal.cmpfTotal_def]
    show (BitVec.ofBool (decide (-Tc.dist (cloudOf P b) i q < -Tc.dist (cloudOf P b) i p)) == 1#1) = _
    simp only [EReal.neg_lt_neg_iff]
    by_cases h : Tc.dist (cloudOf P b) i p < Tc.dist (cloudOf P b) i q <;> simp [h]
  exact congrArg (fun f => BitVec.ofNat 32 (sortedFrom f ⟨k.val, hk⟩).val) (funext fun p => funext fun q => hs p q)

end Cert.Proof.TcRef
-- ==== Proof.TcRefValue.lean ====
/-
  The reference's two results of the clouds, read at one entry: the nearest points and the perceptron of the differences.
-/
module

public import proofs.«01_k».proof.Proof.TcFound
public import Idealize.ShloMosaic.Lib.Routing.OpsPair
public import Idealize.ShloMosaic.Lib.ValueIdxCore

@[expose] public section

set_option maxRecDepth 16384

noncomputable section

namespace Cert.Proof.TcRef

open Cert.TcReferenceIdeal Cert.TcReferenceIdeal.Gen Idealize.ShloMosaic Idealize.ShloMosaic.TcCoe Cert.TcReferenceIdeal.Value
open Cert.Proof.Near
open Cert.Proof

/-- The batches' numbers, wrapped as an index into an axis of 4. -/
def batchWords : IVec S4x1x1 32 :=
  select (cmpi .slt (broadcastInDim S4x1x1 ![0] bcast_S4_S4x1x1_0 (iotaInDim S4 32 0)) (broadcastInDim S4x1x1 ![] bcast_S_S4x1x1 (constantI S_ 32 0#32)))
    (addi (broadcastInDim S4x1x1 ![0] bcast_S4_S4x1x1_0 (iotaInDim S4 32 0)) (broadcastInDim S4x1x1 ![] bcast_S_S4x1x1 (constantI S_ 32 4#32)))
    (broadcastInDim S4x1x1 ![0] bcast_S4_S4x1x1_0 (iotaInDim S4 32 0))

/-- The points' numbers, wrapped as an index into an axis of 1024. -/
def pointWords (A : IVec S4x1024x16 32) : IVec S4x1024x16 32 :=
  select (cmpi .slt A (broadcastInDim S4x1024x16 ![] bcast_S_S4x1024x16 (constantI S_ 32 0#32)))
    (addi A (broadcastInDim S4x1024x16 ![] bcast_S_S4x1024x16 (constantI S_ 32 1024#32))) A

/-- The gather's index words. -/
def words (A : IVec S4x1024x16 32) : IVec S4x1024x16x2 32 :=
  concatenate S4x1024x16x2 3
    [⟨S4x1024x16x1, broadcastInDim S4x1024x16x1 ![0, 1, 2] bcast_S4x1024x16_S4x1024x16x1_0_1_2 (broadcastInDim S4x1024x16 ![0, 1, 2] bcast_S4x1x1_S4x1024x16_0_1_2 batchWords)⟩,
     ⟨S4x1024x16x1, broadcastInDim S4x1024x16x1 ![0, 1, 2] bcast_S4x1024x16_S4x1024x16x1_0_1_2 (pointWords A)⟩]
    concatenates_S4x1024x16x1_S4x1024x16x1_S4x1024x16x2_d3

/-- The differences of every point to its nearest. -/
def differences (P : FVec Ideal S4x3x1024 .f32) (A : IVec S4x1024x16 32) : FVec Ideal S4x1024x16x3 .f32 :=
  subf (broadcastInDim S4x1024x16x3 ![0, 1, 2, 3] bcast_S4x1024x1x3_S4x1024x16x3_0_1_2_3 (broadcastInDim S4x1024x1x3 ![0, 1, 3] bcast_S4x1024x3_S4x1024x1x3_0_1_3 (points P)))
    (Host.gather gather_S4x1024x3_S4x1024x16x2_S4x1024x16x3_3_01_n_n_01_3_113 (points P) (words A))

/-- The hidden layer of differences `R`. -/
def layer (R : FVec Ideal S4x1024x16x3 .f32) (W : FVec Ideal S3x64 .f32) (v : FVec Ideal S64 .f32) : FVec Ideal S4x1024x16x64 .f32 :=
  maximumf (addf (Host.dotGeneral dot_S4x1024x16x3_S3x64_S4x1024x16x64_3_0_012_1_n_n none R W)
      (broadcastInDim S4x1024x16x64 ![0, 1, 2, 3] bcast_S1x1x1x64_S4x1024x16x64_0_1_2_3 (broadcastInDim S1x1x1x64 ![3] bcast_S64_S1x1x1x64_3 v)))
    (broadcastInDim S4x1024x16x64 ![] bcast_S_S4x1024x16x64 (constant S_ .f32 0x00000000#32))

/-- The output layer. -/
def output (H : FVec Ideal S4x1024x16x64 .f32) (W : FVec Ideal S64x8 .f32) (v : FVec Ideal S8 .f32) : FVec Ideal S4x1024x16x8 .f32 :=
  addf (Host.dotGeneral dot_S4x1024x16x64_S64x8_S4x1024x16x8_3_0_012_1_n_n none H W)
    (broadcastInDim S4x1024x16x8 ![0, 1, 2, 3] bcast_S1x1x1x8_S4x1024x16x8_0_1_2_3 (broadcastInDim S1x1x1x8 ![3] bcast_S8_S1x1x1x8_3 v))

section
variable (A : IVec S4x1024x16 32) (b : Fin 4) (i : Fin 1024) (k : Fin 16)

theorem small {x : BitVec 32} (h : x.toNat < 2 ^ 31) : x.toInt = x.toNat := by
  rw [BitVec.toInt_eq_toNat_of_lt (by omega)]

theorem ofNat_small {n : ℕ} (h : n < 1024) : (BitVec.ofNat 32 n).toNat = n := by
  rw [BitVec.toNat_ofNat]; exact Nat.mod_eq_of_lt (by omega)

theorem words_0 : (words A (ix4 b i k 0)).toInt = (b.val : Int) := by
  have hb := b.isLt
  have e : words A (ix4 b i k 0) = BitVec.ofNat 32 b.val := by
    unfold words batchWords
    pointwise
    exact Routing.wrap_of_lt _ _ (by rw [ofNat_small (by omega)]; omega)
  rw [e, small (by rw [ofNat_small (by omega)]; omega), ofNat_small (by omega)]

theorem words_1 (p : Fin 1024) (hp : A (ix3 b i k) = BitVec.ofNat 32 p.val) : (words A (ix4 b i k 1)).toInt = (p.val : Int) := by
  have hl := p.isLt
  have e : words A (ix4 b i k 1) = BitVec.ofNat 32 p.val := by
    unfold words pointWords
    pointwise
    rw [hp]
    exact Routing.wrap_of_lt _ _ (by rw [ofNat_small (by omega)]; omega)
  rw [e, small (by rw [ofNat_small (by omega)]; omega), ofNat_small (by omega)]

/-- The gather's dimension numbers. -/
abbrev dims : GatherDims S4x1024x3 S4x1024x16x2 S4x1024x16x3 := gather_S4x1024x3_S4x1024x16x2_S4x1024x16x3_3_01_n_n_01_3_113

theorem gather_at (Q : FVec Ideal S4x1024x3 .f32) (w : IVec S4x1024x16x2 32) (p : Fin 1024) (d : Fin 3)
    (h0 : (w (ix4 b i k 0)).toInt = (b.val : Int)) (h1 : (w (ix4 b i k 1)).toInt = (p.val : Int)) :
    Host.gather dims Q w (ix4 b i k d) = Q (ix3 b p d) := by
  unfold Host.gather
  refine congrArg Q (funext fun a => Fin.ext ?_)
  have s0 : dims.siIdx (ix4 b i k d) ⟨0, by decide⟩ = ix4 b i k 0 := by
    funext a; match a with | ⟨0, _⟩ => rfl | ⟨1, _⟩ => rfl | ⟨2, _⟩ => rfl | ⟨3, _⟩ => rfl
  have s1 : dims.siIdx (ix4 b i k d) ⟨1, by decide⟩ = ix4 b i k 1 := by
    funext a; match a with | ⟨0, _⟩ => rfl | ⟨1, _⟩ => rfl | ⟨2, _⟩ => rfl | ⟨3, _⟩ => rfl
  have hb := b.isLt
  have hp := p.isLt
  match a with
  | ⟨0, _⟩ =>
    show min (w (dims.siIdx (ix4 b i k d) ⟨0, by decide⟩)).toInt.toNat 3 + 0 + 0 = b.val
    rw [s0, h0]
    omega
  | ⟨1, _⟩ =>
    show min (w (dims.siIdx (ix4 b i k d) ⟨1, by decide⟩)).toInt.toNat 1023 + 0 + 0 = p.val
    rw [s1, h1]
    omega
  | ⟨2, _⟩ =>
    show 0 + 0 + d.val = d.val
    omega

theorem differences_at (P : FVec Ideal S4x3x1024 .f32) (p : Fin 1024) (hp : A (ix3 b i k) = BitVec.ofNat 32 p.val) (d : Fin 3) :
    differences P A (ix4 b i k d) = cloudOf P b d i - cloudOf P b d p := by
  have g := gather_at b i k (points P) (words A) p d (words_0 A b i k) (words_1 A b i k p hp)
  unfold differences
  generalize Host.gather dims (points P) (words A) = G at g ⊢
  pointwise
  rw [points_at, g, points_at]

theorem layer_at (R : FVec Ideal S4x1024x16x3 .f32) (W : FVec Ideal S3x64 .f32) (v : FVec Ideal S64 .f32) (h : Fin 64) :
    (layer R W v (ix4 b i k h) : EReal) = max ((∑ d : Fin 3, (R (ix4 b i k d) : EReal) * W (ix2 d h)) + v (ix1 h)) 0 := by
  unfold layer
  pointwise

theorem output_at (H : FVec Ideal S4x1024x16x64 .f32) (W : FVec Ideal S64x8 .f32) (v : FVec Ideal S8 .f32) (q : Fin 8) :
    (output H W v (ix4 b i k q) : EReal) = (∑ h : Fin 64, (H (ix4 b i k h) : EReal) * W (ix2 h q)) + v (ix1 q) := by
  unfold output
  pointwise
end

variable (P : FVec Ideal S4x3x1024 .f32) (W1 : FVec Ideal S3x64 .f32) (b1 : FVec Ideal S64 .f32) (W2 : FVec Ideal S64x8 .f32) (b2 : FVec Ideal S8 .f32)

/-- The reference's second result as a composition of the steps above. -/
def biases : FVec Ideal S4x1024x128 .f32 :=
  shapeCast S4x1024x128 (output (layer (differences P (found P)) W1 b1) W2 b2) shapeCasts_S4x1024x16x8_S4x1024x128

/-- The first result: the nearest points' numbers. -/
theorem found_eq (hP : ∀ b d n, cloudOf P b d n ≠ ⊤ ∧ cloudOf P b d n ≠ ⊥) :
    found P = fun y => BitVec.ofNat 32 (Tc.nbr (cloudOf P (y 0)) (y 1) (y 2).val).val := by
  funext y
  conv_lhs => rw [eq_ix3 y]
  exact found_at P (y 0) (hP (y 0)) (y 1) (y 2)

theorem biases_at (hP : ∀ b d n, cloudOf P b d n ≠ ⊤ ∧ cloudOf P b d n ≠ ⊥) (b : Fin 4) (i : Fin 1024) (l : Fin 128) :
    biases P W1 b1 W2 b2 (ix3 b i l) = Tc.bias (cloudOf P b) (fun d h => W1 (ix2 d h)) (fun h => b1 (ix1 h)) (fun h q => W2 (ix2 h q))
      (fun q => b2 (ix1 q)) i (l.val / 8) ⟨l.val % 8, Nat.mod_lt _ (by decide)⟩ := by
  have hl := l.isLt
  unfold biases
  refine (shapeCast_apply (s := S4x1024x16x8) (t := S4x1024x128) _ _ (ix3 b i l)
    (ix4 b i ⟨l.val / 8, by omega⟩ ⟨l.val % 8, Nat.mod_lt _ (by decide)⟩) ?_).trans ?_
  · rw [Shape.rowMajor_val_four, Shape.rowMajor_val_three]
    show ((b.val * 1024 + i.val) * 16 + l.val / 8) * 8 + l.val % 8 = (b.val * 1024 + i.val) * 128 + l.val
    omega
  · refine (output_at b i _ _ _ _ _).trans ?_
    unfold Tc.bias
    refine congrArg (· + _) (Finset.sum_congr rfl fun h _ => ?_)
    rw [layer_at]
    refine congrArg (fun t => max (t + _) 0 * _) (Finset.sum_congr rfl fun d _ => ?_)
    rw [differences_at (found P) b i ⟨l.val / 8, by omega⟩ P _ (found_at P b (hP b) i ⟨l.val / 8, by omega⟩) d]

/-- The second result: the perceptron of the differences to the nearest points. -/
theorem biases_eq (hP : ∀ b d n, cloudOf P b d n ≠ ⊤ ∧ cloudOf P b d n ≠ ⊥) :
    biases P W1 b1 W2 b2 = fun y => Tc.bias (cloudOf P (y 0)) (fun d h => W1 (ix2 d h)) (fun h => b1 (ix1 h)) (fun h q => W2 (ix2 h q))
      (fun q => b2 (ix1 q)) (y 1) ((y 2).val / 8) ⟨(y 2).val % 8, Nat.mod_lt _ (by decide)⟩ := by
  funext y
  conv_lhs => rw [eq_ix3 y]
  exact biases_at P W1 b1 W2 b2 hP (y 0) (y 1) (y 2)

variable (m : (ℓ : Loc nD τ sig) → Buf (Elt Ideal) ℓ) (c : Dev nD)

theorem res_eq : res_main_v42 m c = biases (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

end Cert.Proof.TcRef
-- ==== Proof.lean ====
/-
  The claims, from the programs' runs. The SparseCore call: the kernel (its own text and the idealized one), whose result
  is a stated function of the column numbers and the biases, and its reference. The TensorCore call: the kernel, whose two
  results are stated functions of the points and the weights, and its reference.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_range
public import proofs.«01_k».proof.Proof.Gen.TcKernel
public import proofs.«01_k».proof.Proof.Gen.TcKernel.Frame
public import proofs.«01_k».proof.Proof.Gen.TcKernelIdeal
public import proofs.«01_k».proof.Proof.Gen.TcKernelIdeal.Frame
public import proofs.«01_k».proof.Proof.Gen.TcKernelIdeal.Value
public import proofs.«01_k».proof.Proof.Gen.TcReferenceIdeal
public import proofs.«01_k».proof.Proof.Gen.TcReferenceIdeal.Run
public import proofs.«01_k».proof.Proof.Gen.Pre_xyz_finite
public import proofs.«01_k».proof.Proof.Value
public import proofs.«01_k».proof.Proof.ValueIdeal
public import proofs.«01_k».proof.Proof.TcArrays
public import proofs.«01_k».proof.Proof.TcRefValue
public import Idealize.ShloMosaic.Adequacy
public import Idealize.ShloMosaic.Init

@[expose] public section

noncomputable section

namespace Cert.Proof

open Idealize.ShloMosaic Idealize.SL.Sem

/-- A word that passes both comparisons is a column. -/
theorem col_of_word (v : BitVec 32) (e : IntOp.andi (IntOp.cmpi .sge v 0#32) (IntOp.cmpi .slt v 1024#32) = 1#1) : v.toNat < 1024 := by
  have e' : BitVec.ofBool ((0#32).sle v && v.slt 1024#32) = 1#1 := by
    rw [← e]
    show _ = BitVec.ofBool ((0#32).sle v) &&& BitVec.ofBool (v.slt 1024#32)
    cases (0#32).sle v <;> cases v.slt 1024#32 <;> rfl
  have h : ((0#32).sle v && v.slt 1024#32) = true := by
    cases hb : ((0#32).sle v && v.slt 1024#32) with
    | true => rfl
    | false => rw [hb] at e'; exact absurd e' (by decide)
  rw [Bool.and_eq_true, BitVec.sle_eq_decide, BitVec.slt_eq_decide, decide_eq_true_eq, decide_eq_true_eq] at h
  have c := BitVec.toInt_eq_toNat_cond v
  have h1 : (0#32).toInt = 0 := by decide
  have h2 : (1024#32).toInt = 1024 := by decide
  rw [h1, h2] at h
  split at c <;> omega

/-- The condition says that every column number is one. -/
theorem cols_of_pre {F : FTy → Type} [FloatOps F] (A : Cert.Pre_idx_in_range.S4x1024x16.Idx → BitVec 32)
    (V : Cert.Pre_idx_in_range.S4x1024x128.Idx → Elt F .f32) (h : Cert.Pre_idx_in_range.fn (F := F) A V = fun _ => 1#1) :
    ∀ j, (A j).toNat < 1024 := fun j => col_of_word _ (congrFun h j)

theorem cols_Kernel (m : (ℓ : Loc Cert.Kernel.nD Cert.Kernel.τ Cert.Kernel.sig) → Buf (Elt Bits) ℓ) (h : Cert.Pre_Kernel m) :
    ∀ d j, (Fill.cols0 m d j).toNat < 1024 := fun d => cols_of_pre _ _ (h d)

theorem cols_KernelIdeal (m : (ℓ : Loc Cert.KernelIdeal.nD Cert.KernelIdeal.τ Cert.KernelIdeal.sig) → Buf (Elt Ideal) ℓ) (h : Cert.Pre_KernelIdeal m) :
    ∀ d j, (FillIdeal.cols0 m d j).toNat < 1024 := fun d => cols_of_pre _ _ (h d)

/-- The kernel as it is runs, and leaves its arguments and every counter as they were. -/
theorem frame_kernel : Cert.quiescent_Kernel := fun m g h =>
  (θ_run Cert.Kernel.defs _ _).mono (fun _ q => ⟨fun c => ⟨(q.1 c).1, (q.1 c).2.1⟩, q.2⟩) (Fill.run_main m g (Fill.given_ok m (cols_Kernel m h)))

/-- The same of the idealized kernel. -/
theorem frame_ideal : Cert.quiescent_KernelIdeal := fun m g h =>
  (θ_run Cert.KernelIdeal.defs _ _).mono (fun _ q => ⟨fun c => ⟨(q.1 c).1, (q.1 c).2.1⟩, q.2⟩)
    (FillIdeal.run_main m g (FillIdeal.given_ok m (cols_KernelIdeal m h)))

/-- The reference runs, and leaves its arguments as they were; it has no counters. -/
theorem frame_reference : Cert.quiescent_ReferenceIdeal := fun m g _ =>
  (θ_run Cert.ReferenceIdeal.defs _ _).mono (fun r q => ⟨fun c => (q c).2, sem_eq_zero_of_no_sems (by decide) r.2⟩)
    (Cert.ReferenceIdeal.Value.run (F := Ideal) m g)

/-- The kernel's result is the reference's. -/
theorem values : Cert.algebraic_KernelIdeal_ReferenceIdeal := by
  intro m g m' g' hpre hagree
  have hc := cols_KernelIdeal m hpre
  refine ⟨fun c => FillIdeal.result m c, ?_, ?_⟩
  · exact (θ_run Cert.KernelIdeal.defs _ _).mono (fun _ q c => ⟨(q.1 c).2.2, (q.1 c).1, (q.1 c).2.1⟩)
      (FillIdeal.run_main m g (FillIdeal.given_ok m hc))
  · refine (θ_run Cert.ReferenceIdeal.defs _ _).mono (fun r q c => ⟨(q c).1.trans ?_, (q c).2⟩) (Cert.ReferenceIdeal.Value.run (F := Ideal) m' g')
    have e : FillIdeal.result m c = Ref.out (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) := by
      rw [(hagree c).1, (hagree c).2]
      exact FillIdeal.result_eq m c hc
    exact Eq.trans rfl e.symm

/-! ## The TensorCore call -/

/-- An extended real whose absolute value is below infinity is neither infinity. -/
theorem real_of_abs (x : Ideal .f32) (h : FloatOps.cmpf .olt (max x (-x)) (Ideal.ofBits .f32 0x7F800000#32) = 1#1) : (x : EReal) ≠ ⊤ ∧ (x : EReal) ≠ ⊥ := by
  have top : Ideal.ofBits .f32 0x7F800000#32 = ⊤ := by simp [Ideal.ofBits, Ideal.ieee]
  rw [top, Ideal.cmpf_def] at h
  have h' : BitVec.ofBool (decide (max x (-x) < (⊤ : EReal))) = 1#1 := h
  constructor <;> rintro rfl <;> simp at h'

/-- The condition says that every coordinate is real. -/
theorem real_of_pre (m : (ℓ : Loc Cert.TcKernelIdeal.nD Cert.TcKernelIdeal.τ Cert.TcKernelIdeal.sig) → Buf (Elt Ideal) ℓ)
    (h : Cert.Pre_TcKernelIdeal_xyz_finite m) (c : Dev Cert.TcKernelIdeal.nD) :
    ∀ b d n, Tc.cloud m c b d n ≠ ⊤ ∧ Tc.cloud m c b d n ≠ ⊥ := fun b d n => real_of_abs _ (congrFun (h c) (ix3 b d n))

/-- The kernel as it is runs, and leaves its arguments and every counter as they were. -/
theorem frame_tc : Cert.quiescent_TcKernel := fun m g _ => Cert.TcKernel.Gen.frame m g

/-- The same of the idealized kernel. -/
theorem frame_tcIdeal : Cert.quiescent_TcKernelIdeal := fun m g _ => Cert.TcKernelIdeal.Gen.frame m g

/-- The reference runs, and leaves its arguments as they were; it has no counters. -/
theorem frame_tcReference : Cert.quiescent_TcReferenceIdeal := fun m g _ =>
  (θ_run Cert.TcReferenceIdeal.defs _ _).mono (fun r q => ⟨fun c => (q c).2.2, sem_eq_zero_of_no_sems (by decide) r.2⟩)
    (Cert.TcReferenceIdeal.Value.run (F := Ideal) m g)

/-- On real coordinates the kernel's two results are the reference's. -/
theorem tc_values : Cert.algebraic_TcKernelIdeal_TcReferenceIdeal_pre_xyz_finite := by
  intro m g m' g' hpre hagree
  have hX := real_of_pre m hpre
  refine ⟨fun c => Tc.nearest6 m c, fun c => Tc.bias7 m c, ?_, ?_⟩
  · exact (θ_run Cert.TcKernelIdeal.defs _ _).mono
      (fun _ q c => ⟨(q c).1.trans (Tc.array6 m c (hX c)), (q c).2.1.trans (Tc.array7 m c (hX c)), (q c).2.2⟩)
      (Cert.TcKernelIdeal.Value.run_blocks (F := Ideal) m g)
  · refine (θ_run Cert.TcReferenceIdeal.defs _ _).mono (fun r q c => ⟨(q c).1.trans ?_, (q c).2.1.trans ?_, (q c).2.2⟩)
      (Cert.TcReferenceIdeal.Value.run (F := Ideal) m' g')
    · refine Eq.trans (b := TcRef.found (m (c.tc.loc Cert.TcKernelIdeal.main_arg0))) ?_ (TcRef.found_eq _ (hX c))
      rw [← (hagree c).1]
      rfl
    · refine Eq.trans (b := TcRef.biases (m (c.tc.loc Cert.TcKernelIdeal.main_arg0)) (m (c.tc.loc Cert.TcKernelIdeal.main_arg1))
        (m (c.tc.loc Cert.TcKernelIdeal.main_arg2)) (m (c.tc.loc Cert.TcKernelIdeal.main_arg3)) (m (c.tc.loc Cert.TcKernelIdeal.main_arg4)))
        ?_ (TcRef.biases_eq _ _ _ _ _ (hX c))
      rw [← (hagree c).1, ← (hagree c).2.1, ← (hagree c).2.2.1, ← (hagree c).2.2.2.1, ← (hagree c).2.2.2.2]
      exact TcRef.res_eq m' c

theorem claim : Cert.Claim := ⟨Cert.Kernel.Gen.facts, Cert.KernelIdeal.Gen.facts, Cert.ReferenceIdeal.Gen.facts,
  Cert.TcKernel.Gen.facts, Cert.TcKernelIdeal.Gen.facts, Cert.TcReferenceIdeal.Gen.facts,
  Cert.Pre_idx_in_range.Gen.facts, Cert.Pre_xyz_finite.Gen.facts,
  frame_kernel, frame_ideal, frame_reference, fun m g _ => frame_reference m g trivial,
  frame_tc, frame_tcIdeal, fun m g _ => frame_tcIdeal m g trivial, frame_tcReference, fun m g _ => frame_tcReference m g trivial,
  trivial, values, trivial, tc_values⟩

end Cert.Proof

end
